-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proper_KernelIdeal [hPre_proper_KernelIdeal : Cert.Pre_proper_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_proper_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_proper_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_proper_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_proper_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proper_ReferenceIdeal [hPre_proper_ReferenceIdeal : Cert.Pre_proper_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proper_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_proper_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_proper_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_proper_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_proper_KernelIdeal [hKernelIdeal : Cert.KernelIdeal.Facts] [hPre_proper_KernelIdeal : Cert.Pre_proper_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proper_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_proper_ReferenceIdeal [hReferenceIdeal : Cert.ReferenceIdeal.Facts] [hPre_proper_ReferenceIdeal : Cert.Pre_proper_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proper_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_proper_KernelIdeal [hKernelIdeal : Cert.KernelIdeal.Facts] [hReferenceIdeal : Cert.ReferenceIdeal.Facts] [hPre_proper_KernelIdeal : Cert.Pre_proper_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proper_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![512, 16, 8, 128]⟩ ⟨4, ![4096, 16, 8, 128]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![512, 16, 8, 128]⟩ ⟨4, ![4096, 16, 8, 128]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_proper_KernelIdeal : Cert.Pre_proper_KernelIdeal.Facts) (hPre_proper_ReferenceIdeal : Cert.Pre_proper_ReferenceIdeal.Facts),
    quiescent_Kernel (hKernel := hKernel)
    ∧ quiescent_KernelIdeal (hKernelIdeal := hKernelIdeal)
    ∧ quiescent_KernelIdeal_pre_proper_KernelIdeal (hKernelIdeal := hKernelIdeal) (hPre_proper_KernelIdeal := hPre_proper_KernelIdeal)
    ∧ quiescent_ReferenceIdeal (hReferenceIdeal := hReferenceIdeal)
    ∧ quiescent_ReferenceIdeal_pre_proper_ReferenceIdeal (hReferenceIdeal := hReferenceIdeal) (hPre_proper_ReferenceIdeal := hPre_proper_ReferenceIdeal)
    ∧ preserves_Kernel_KernelIdeal
    ∧ algebraic_KernelIdeal_ReferenceIdeal_pre_proper_KernelIdeal (hKernelIdeal := hKernelIdeal) (hReferenceIdeal := hReferenceIdeal) (hPre_proper_KernelIdeal := hPre_proper_KernelIdeal)
-- ==== Pre_proper_KernelIdeal.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S512 : Shape := ⟨1, ![512]⟩
abbrev S1x512 : Shape := ⟨2, ![1, 512]⟩
abbrev S8x1 : Shape := ⟨2, ![8, 1]⟩
abbrev S_ : Shape := ⟨0, ![]⟩

class Facts : Prop where
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S_S8x512 : S_.BroadcastsInDim S8x512 (![] : Fin 0 → Fin S8x512.rank)
  bcast_S_S8x1x8x128 : S_.BroadcastsInDim S8x1x8x128 (![] : Fin 0 → Fin S8x1x8x128.rank)
  bcast_S_S512x16x8x128 : S_.BroadcastsInDim S512x16x8x128 (![] : Fin 0 → Fin S512x16x8x128.rank)
  bcast_S_S8 : S_.BroadcastsInDim S8 (![] : Fin 0 → Fin S8.rank)

variable [Facts]

def fn_part1 {F : FTy → Type} [FloatOps F] (main_v5 : IVec S8x512 1) (main_v10 : IVec S8x512 1) (main_v13 : IVec S8x1x8x128 1) (main_v16 : IVec S512x16x8x128 1) (main_v18 : IVec S8 1) : IVec S8x1x8x128 1 × IVec S512x16x8x128 1 × IVec S8 1 × IVec S8x512 1 :=
  let main_v19 : IVec S8x512 1 := noti main_v5
  let main_v20 : IVec S8x512 1 := ori main_v10 main_v19
  (main_v13, main_v16, main_v18, main_v20)

def fn {F : FTy → Type} [FloatOps F] (main_arg0 : FVec F S8x1x8x128 .f32) (main_arg1 : FVec F S512x16x8x128 .f32) (main_arg2 : FVec F S512x16x8x128 .f32) (main_arg3 : IVec S8x512 32) (main_arg4 : IVec S8 32) : IVec S8x1x8x128 1 × IVec S512x16x8x128 1 × IVec S8 1 × IVec S8x512 1 :=
  let main_v0 : IVec S512 32 := iotaInDim S512 32 0
  let main_v1 : IVec S1x512 32 := broadcastInDim S1x512 ![1] bcast_S512_S1x512_1 main_v0
  let main_v2 : IVec S8x1 32 := broadcastInDim S8x1 ![0] bcast_S8_S8x1_0 main_arg4
  let main_v3 : IVec S8x512 32 := broadcastInDim S8x512 ![0, 1] bcast_S1x512_S8x512_0_1 main_v1
  let main_v4 : IVec S8x512 32 := broadcastInDim S8x512 ![0, 1] bcast_S8x1_S8x512_0_1 main_v2
  let main_v5 : IVec S8x512 1 := cmpi .slt main_v3 main_v4
  let main_c : IVec S_ 32 := constantI S_ 32 0#32
  let main_v6 : IVec S8x512 32 := broadcastInDim S8x512 ![] bcast_S_S8x512 main_c
  let main_v7 : IVec S8x512 1 := cmpi .sge main_arg3 main_v6
  let main_c_0 : IVec S_ 32 := constantI S_ 32 4096#32
  let main_v8 : IVec S8x512 32 := broadcastInDim S8x512 ![] bcast_S_S8x512 main_c_0
  let main_v9 : IVec S8x512 1 := cmpi .slt main_arg3 main_v8
  let main_v10 : IVec S8x512 1 := andi main_v7 main_v9
  let main_v11 : FVec F S8x1x8x128 .f32 := Host.absf main_arg0
  let main_cst : FVec F S_ .f32 := constant S_ .f32 0x7F800000#32
  let main_v12 : FVec F S8x1x8x128 .f32 := broadcastInDim S8x1x8x128 ![] bcast_S_S8x1x8x128 main_cst
  let main_v13 : IVec S8x1x8x128 1 := cmpf .olt main_v11 main_v12
  let main_v14 : FVec F S512x16x8x128 .f32 := Host.absf main_arg1
  let main_cst_1 : FVec F S_ .f32 := constant S_ .f32 0x7F800000#32
  let main_v15 : FVec F S512x16x8x128 .f32 := broadcastInDim S512x16x8x128 ![] bcast_S_S512x16x8x128 main_cst_1
  let main_v16 : IVec S512x16x8x128 1 := cmpf .olt main_v14 main_v15
  let main_c_2 : IVec S_ 32 := constantI S_ 32 1#32
  let main_v17 : IVec S8 32 := broadcastInDim S8 ![] bcast_S_S8 main_c_2
  let main_v18 : IVec S8 1 := cmpi .sge main_arg4 main_v17
  fn_part1 (F := F) main_v5 main_v10 main_v13 main_v16 main_v18
-- ==== Pre_proper_ReferenceIdeal.lean ====
abbrev S8x1x8x128 : Shape := ⟨4, ![8, 1, 8, 128]⟩
abbrev S4096x16x8x128 : Shape := ⟨4, ![4096, 16, 8, 128]⟩
abbrev S8x512 : Shape := ⟨2, ![8, 512]⟩
abbrev S8 : Shape := ⟨1, ![8]⟩
abbrev S512 : Shape := ⟨1, ![512]⟩
abbrev S1x512 : Shape := ⟨2, ![1, 512]⟩
abbrev S8x1 : Shape := ⟨2, ![8, 1]⟩
abbrev S_ : Shape := ⟨0, ![]⟩

class Facts : Prop where
  bcast_S512_S1x512_1 : S512.BroadcastsInDim S1x512 (![1] : Fin 1 → Fin S1x512.rank)
  bcast_S8_S8x1_0 : S8.BroadcastsInDim S8x1 (![0] : Fin 1 → Fin S8x1.rank)
  bcast_S1x512_S8x512_0_1 : S1x512.BroadcastsInDim S8x512 (![0, 1] : Fin 2 → Fin S8x512.rank)
  bcast_S8x1_S8x512_0_1 : S8x1.BroadcastsInDim S8x512 (![0, 1] : Fin 2 → Fin S8x512.rank)
  bcast_S_S8x512 : S_.BroadcastsInDim S8x512 (![] : Fin 0 → Fin S8x512.rank)
  bcast_S_S8x1x8x128 : S_.BroadcastsInDim S8x1x8x128 (![] : Fin 0 → Fin S8x1x8x128.rank)
  bcast_S_S4096x16x8x128 : S_.BroadcastsInDim S4096x16x8x128 (![] : Fin 0 → Fin S4096x16x8x128.rank)
  bcast_S_S8 : S_.BroadcastsInDim S8 (![] : Fin 0 → Fin S8.rank)

variable [Facts]

def fn_part1 {F : FTy → Type} [FloatOps F] (main_v5 : IVec S8x512 1) (main_v10 : IVec S8x512 1) (main_v13 : IVec S8x1x8x128 1) (main_v16 : IVec S4096x16x8x128 1) (main_v18 : IVec S8 1) : IVec S8x1x8x128 1 × IVec S4096x16x8x128 1 × IVec S8 1 × IVec S8x512 1 :=
  let main_v19 : IVec S8x512 1 := noti main_v5
  let main_v20 : IVec S8x512 1 := ori main_v10 main_v19
  (main_v13, main_v16, main_v18, main_v20)

def fn {F : FTy → Type} [FloatOps F] (main_arg0 : FVec F S8x1x8x128 .f32) (main_arg1 : FVec F S4096x16x8x128 .f32) (main_arg2 : FVec F S4096x16x8x128 .f32) (main_arg3 : IVec S8x512 32) (main_arg4 : IVec S8 32) : IVec S8x1x8x128 1 × IVec S4096x16x8x128 1 × IVec S8 1 × IVec S8x512 1 :=
  let main_v0 : IVec S512 32 := iotaInDim S512 32 0
  let main_v1 : IVec S1x512 32 := broadcastInDim S1x512 ![1] bcast_S512_S1x512_1 main_v0
  let main_v2 : IVec S8x1 32 := broadcastInDim S8x1 ![0] bcast_S8_S8x1_0 main_arg4
  let main_v3 : IVec S8x512 32 := broadcastInDim S8x512 ![0, 1] bcast_S1x512_S8x512_0_1 main_v1
  let main_v4 : IVec S8x512 32 := broadcastInDim S8x512 ![0, 1] bcast_S8x1_S8x512_0_1 main_v2
  let main_v5 : IVec S8x512 1 := cmpi .slt main_v3 main_v4
  let main_c : IVec S_ 32 := constantI S_ 32 0#32
  let main_v6 : IVec S8x512 32 := broadcastInDim S8x512 ![] bcast_S_S8x512 main_c
  let main_v7 : IVec S8x512 1 := cmpi .sge main_arg3 main_v6
  let main_c_0 : IVec S_ 32 := constantI S_ 32 4096#32
  let main_v8 : IVec S8x512 32 := broadcastInDim S8x512 ![] bcast_S_S8x512 main_c_0
  let main_v9 : IVec S8x512 1 := cmpi .slt main_arg3 main_v8
  let main_v10 : IVec S8x512 1 := andi main_v7 main_v9
  let main_v11 : FVec F S8x1x8x128 .f32 := Host.absf main_arg0
  let main_cst : FVec F S_ .f32 := constant S_ .f32 0x7F800000#32
  let main_v12 : FVec F S8x1x8x128 .f32 := broadcastInDim S8x1x8x128 ![] bcast_S_S8x1x8x128 main_cst
  let main_v13 : IVec S8x1x8x128 1 := cmpf .olt main_v11 main_v12
  let main_v14 : FVec F S4096x16x8x128 .f32 := Host.absf main_arg1
  let main_cst_1 : FVec F S_ .f32 := constant S_ .f32 0x7F800000#32
  let main_v15 : FVec F S4096x16x8x128 .f32 := broadcastInDim S4096x16x8x128 ![] bcast_S_S4096x16x8x128 main_cst_1
  let main_v16 : IVec S4096x16x8x128 1 := cmpf .olt main_v14 main_v15
  let main_c_2 : IVec S_ 32 := constantI S_ 32 1#32
  let main_v17 : IVec S8 32 := broadcastInDim S8 ![] bcast_S_S8 main_c_2
  let main_v18 : IVec S8 1 := cmpi .sge main_arg4 main_v17
  fn_part1 (F := F) main_v5 main_v10 main_v13 main_v16 main_v18
-- ==== Kernel.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S8x8192 : Shape := ⟨2, ![8, 8192]⟩
abbrev S64x1024 : Shape := ⟨2, ![64, 1024]⟩
abbrev S64x1 : Shape := ⟨2, ![64, 1]⟩
abbrev S64x128 : Shape := ⟨2, ![64, 128]⟩
abbrev S3x64x16x8x128 : Shape := ⟨5, ![3, 64, 16, 8, 128]⟩
abbrev S8x8x8x128 : Shape := ⟨4, ![8, 8, 8, 128]⟩
abbrev S8x8x2x8x1 : Shape := ⟨5, ![8, 8, 2, 8, 1]⟩
abbrev S3 : Shape := ⟨1, ![3]⟩
abbrev S_ : Shape := ⟨0, ![]⟩
abbrev S1 : Shape := ⟨1, ![1]⟩
abbrev S1x64x16x8x128 : Shape := ⟨5, ![1, 64, 16, 8, 128]⟩
abbrev S64x16x8x128 : Shape := ⟨4, ![64, 16, 8, 128]⟩
abbrev S8x8x128 : Shape := ⟨3, ![8, 8, 128]⟩
abbrev S512x8 : Shape := ⟨2, ![512, 8]⟩
abbrev S512x512 : Shape := ⟨2, ![512, 512]⟩
abbrev S512x1 : Shape := ⟨2, ![512, 1]⟩
abbrev S512 : Shape := ⟨1, ![512]⟩
abbrev S1x512 : Shape := ⟨2, ![1, 512]⟩
abbrev S512x8192 : Shape := ⟨2, ![512, 8192]⟩
abbrev S1024x1024 : Shape := ⟨2, ![1024, 1024]⟩
abbrev S8x1024 : Shape := ⟨2, ![8, 1024]⟩
abbrev S1x8x1024 : Shape := ⟨3, ![1, 8, 1024]⟩
abbrev S8x8x1024 : Shape := ⟨3, ![8, 8, 1024]⟩
abbrev S64 : Shape := ⟨1, ![64]⟩
abbrev S8x128 : Shape := ⟨2, ![8, 128]⟩
abbrev S1x8x8x128 : Shape := ⟨4, ![1, 8, 8, 128]⟩
abbrev S8x8x1 : Shape := ⟨3, ![8, 8, 1]⟩
abbrev S1x8x1x8x1 : Shape := ⟨5, ![1, 8, 1, 8, 1]⟩
abbrev S1x8x2x8x1 : Shape := ⟨5, ![1, 8, 2, 8, 1]⟩
abbrev S8x2x8x1 : Shape := ⟨4, ![8, 2, 8, 1]⟩
abbrev S8x8x1x8x1 : Shape := ⟨5, ![8, 8, 1, 8, 1]⟩
abbrev S8x8x8 : Shape := ⟨3, ![8, 8, 8]⟩
abbrev S8x8 : Shape := ⟨2, ![8, 8]⟩
abbrev S1x8x8 : Shape := ⟨3, ![1, 8, 8]⟩
abbrev S8x8x8x1 : Shape := ⟨4, ![8, 8, 8, 1]⟩

abbrev nBuf : Space → Nat
  | .hbm => 6
  | .vmem => 12
  | .smem => 1
  | _ => 0

abbrev bufTy : (tb : Table) → Fin (tcTables nBuf tb) → BufTy
  | .hbm, ⟨0, _⟩ => ⟨S8x1x8x128, .f32⟩
  | .hbm, ⟨1, _⟩ => ⟨S512x16x8x128, .f32⟩
  | .hbm, ⟨2, _⟩ => ⟨S512x16x8x128, .f32⟩
  | .hbm, ⟨3, _⟩ => ⟨S8x512, .i32⟩
  | .hbm, ⟨4, _⟩ => ⟨S8, .i32⟩
  | .hbm, ⟨5, _⟩ => ⟨S8x1x8x128, .f32⟩
  | .local _ .vmem, ⟨0, _⟩ => ⟨S8x1x8x128, .f32⟩
  | .local _ .vmem, ⟨1, _⟩ => ⟨S8x512, .i32⟩
  | .local _ .vmem, ⟨2, _⟩ => ⟨S8x1x8x128, .f32⟩
  | .local _ .vmem, ⟨3, _⟩ => ⟨S8x8192, .f32⟩
  | .local _ .vmem, ⟨4, _⟩ => ⟨S64x1024, .f32⟩
  | .local _ .vmem, ⟨5, _⟩ => ⟨S64x1, .f32⟩
  | .local _ .vmem, ⟨6, _⟩ => ⟨S64x1, .f32⟩
  | .local _ .vmem, ⟨7, _⟩ => ⟨S64x128, .f32⟩
  | .local _ .vmem, ⟨8, _⟩ => ⟨S3x64x16x8x128, .f32⟩
  | .local _ .vmem, ⟨9, _⟩ => ⟨S3x64x16x8x128, .f32⟩
  | .local _ .vmem, ⟨10, _⟩ => ⟨S8x8x8x128, .f32⟩
  | .local _ .vmem, ⟨11, _⟩ => ⟨S8x8x2x8x1, .f32⟩
  | .local _ .smem, ⟨0, _⟩ => ⟨S8, .i32⟩
  | _, _ => ⟨S8x1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_0 : BitVec 32 := 0#32
  let v7 : BitVec 1 := Scalar.cmpi .ne v6 c0_i32_0
  v7

def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_89 : BitVec 32 := 0#32
  let v110 : BitVec 1 := Scalar.cmpi .ne v2 c0_i32_89
  let v111 : BitVec 32 := Scalar.extui v110
  let c0_i32_90 : BitVec 32 := 0#32
  let v112 : BitVec 1 := Scalar.cmpi .ne v111 c0_i32_90
  v112

def k0_dev1 : Nat :=
  let c0_i32_172 : BitVec 32 := 0#32
  let c0_i32_170 : BitVec 32 := 0#32
  let c1_i32_171 : BitVec 32 := 1#32
  let v370 : BitVec 32 := Scalar.muli c0_i32_170 c1_i32_171
  let v371 : BitVec 32 := Scalar.addi c0_i32_172 v370
  v371.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_91 : BitVec 32 := 1#32
  let v113 : BitVec 1 := Scalar.cmpi .ne v2 c1_i32_91
  let v114 : BitVec 32 := Scalar.extui v113
  let c0_i32_92 : BitVec 32 := 0#32
  let v115 : BitVec 1 := Scalar.cmpi .ne v114 c0_i32_92
  v115

def k0_dev2 : Nat :=
  let c0_i32_172 : BitVec 32 := 0#32
  let c1_i32_170 : BitVec 32 := 1#32
  let c1_i32_171 : BitVec 32 := 1#32
  let v370 : BitVec 32 := Scalar.muli c1_i32_170 c1_i32_171
  let v371 : BitVec 32 := Scalar.addi c0_i32_172 v370
  v371.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_93 : BitVec 32 := 2#32
  let v116 : BitVec 1 := Scalar.cmpi .ne v2 c2_i32_93
  let v117 : BitVec 32 := Scalar.extui v116
  let c0_i32_94 : BitVec 32 := 0#32
  let v118 : BitVec 1 := Scalar.cmpi .ne v117 c0_i32_94
  v118

def k0_dev3 : Nat :=
  let c0_i32_172 : BitVec 32 := 0#32
  let c2_i32_170 : BitVec 32 := 2#32
  let c1_i32_171 : BitVec 32 := 1#32
  let v370 : BitVec 32 := Scalar.muli c2_i32_170 c1_i32_171
  let v371 : BitVec 32 := Scalar.addi c0_i32_172 v370
  v371.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_95 : BitVec 32 := 3#32
  let v119 : BitVec 1 := Scalar.cmpi .ne v2 c3_i32_95
  let v120 : BitVec 32 := Scalar.extui v119
  let c0_i32_96 : BitVec 32 := 0#32
  let v121 : BitVec 1 := Scalar.cmpi .ne v120 c0_i32_96
  v121

def k0_dev4 : Nat :=
  let c0_i32_172 : BitVec 32 := 0#32
  let c3_i32_170 : BitVec 32 := 3#32
  let c1_i32_171 : BitVec 32 := 1#32
  let v370 : BitVec 32 := Scalar.muli c3_i32_170 c1_i32_171
  let v371 : BitVec 32 := Scalar.addi c0_i32_172 v370
  v371.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v122 : BitVec 1 := Scalar.cmpi .ne v2 c4_i32
  let v123 : BitVec 32 := Scalar.extui v122
  let c0_i32_97 : BitVec 32 := 0#32
  let v124 : BitVec 1 := Scalar.cmpi .ne v123 c0_i32_97
  v124

def k0_dev5 : Nat :=
  let c0_i32_172 : BitVec 32 := 0#32
  let c4_i32_170 : BitVec 32 := 4#32
  let c1_i32_171 : BitVec 32 := 1#32
  let v370 : BitVec 32 := Scalar.muli c4_i32_170 c1_i32_171
  let v371 : BitVec 32 := Scalar.addi c0_i32_172 v370
  v371.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v125 : BitVec 1 := Scalar.cmpi .ne v2 c5_i32
  let v126 : BitVec 32 := Scalar.extui v125
  let c0_i32_98 : BitVec 32 := 0#32
  let v127 : BitVec 1 := Scalar.cmpi .ne v126 c0_i32_98
  v127

def k0_dev6 : Nat :=
  let c0_i32_172 : BitVec 32 := 0#32
  let c5_i32_170 : BitVec 32 := 5#32
  let c1_i32_171 : BitVec 32 := 1#32
  let v370 : BitVec 32 := Scalar.muli c5_i32_170 c1_i32_171
  let v371 : BitVec 32 := Scalar.addi c0_i32_172 v370
  v371.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v128 : BitVec 1 := Scalar.cmpi .ne v2 c6_i32
  let v129 : BitVec 32 := Scalar.extui v128
  let c0_i32_99 : BitVec 32 := 0#32
  let v130 : BitVec 1 := Scalar.cmpi .ne v129 c0_i32_99
  v130

def k0_dev7 : Nat :=
  let c0_i32_172 : BitVec 32 := 0#32
  let c6_i32_170 : BitVec 32 := 6#32
  let c1_i32_171 : BitVec 32 := 1#32
  let v370 : BitVec 32 := Scalar.muli c6_i32_170 c1_i32_171
  let v371 : BitVec 32 := Scalar.addi c0_i32_172 v370
  v371.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_100 : BitVec 32 := 7#32
  let v131 : BitVec 1 := Scalar.cmpi .ne v2 c7_i32_100
  let v132 : BitVec 32 := Scalar.extui v131
  let c0_i32_101 : BitVec 32 := 0#32
  let v133 : BitVec 1 := Scalar.cmpi .ne v132 c0_i32_101
  v133

def k0_dev8 : Nat :=
  let c0_i32_172 : BitVec 32 := 0#32
  let c7_i32_170 : BitVec 32 := 7#32
  let c1_i32_171 : BitVec 32 := 1#32
  let v370 : BitVec 32 := Scalar.muli c7_i32_170 c1_i32_171
  let v371 : BitVec 32 := Scalar.addi c0_i32_172 v370
  v371.toNat
def k0_cond10 (i : grid0.Coords) : BitVec 1 :=
  let arg0 : BitVec 32 := BitVec.ofNat 32 (i 0).val
  let c2_i32 : BitVec 32 := 2#32
  let v8 : BitVec 32 := Scalar.addi arg0 c2_i32
  let c8_i32_1 : BitVec 32 := 8#32
  let v9 : BitVec 1 := Scalar.cmpi .slt v8 c8_i32_1
  let v10 : BitVec 32 := Scalar.extui v9
  let c0_i32_2 : BitVec 32 := 0#32
  let v11 : BitVec 1 := Scalar.cmpi .ne v10 c0_i32_2
  v11

def k0_off1 (i : grid0.Coords) : Fin 1 → Nat :=
  let arg0 : BitVec 32 := BitVec.ofNat 32 (i 0).val
  let c2_i32_50 : BitVec 32 := 2#32
  let v91 : BitVec 32 := Scalar.addi arg0 c2_i32_50
  let c3_i32_51 : BitVec 32 := 3#32
  let v92 : BitVec 32 := Scalar.remsi v91 c3_i32_51
  ![v92.toNat]
def k0_off2 (i : grid0.Coords) : Fin 5 → Nat :=
  let arg0 : BitVec 32 := BitVec.ofNat 32 (i 0).val
  let c2_i32_50 : BitVec 32 := 2#32
  let v91 : BitVec 32 := Scalar.addi arg0 c2_i32_50
  let c3_i32_51 : BitVec 32 := 3#32
  let v92 : BitVec 32 := Scalar.remsi v91 c3_i32_51
  let c0_i32_54 : BitVec 32 := 0#32
  let c0_i32_55 : BitVec 32 := 0#32
  let c0_i32_56 : BitVec 32 := 0#32
  let c0_i32_57 : BitVec 32 := 0#32
  ![v92.toNat, 0, 0, 0, 0]
def k0_off3 (i : grid0.Coords) : Fin 4 → Nat :=
  let arg0 : BitVec 32 := BitVec.ofNat 32 (i 0).val
  let c2_i32_49 : BitVec 32 := 2#32
  let v90 : BitVec 32 := Scalar.addi arg0 c2_i32_49
  let c64_i32_52 : BitVec 32 := 64#32
  let v93 : BitVec 32 := Scalar.muli v90 c64_i32_52
  let c0_i32_58 : BitVec 32 := 0#32
  let c0_i32_59 : BitVec 32 := 0#32
  let c0_i32_60 : BitVec 32 := 0#32
  ![v93.toNat, 0, 0, 0]
def k0_off4 (i : grid0.Coords) : Fin 1 → Nat :=
  let arg0 : BitVec 32 := BitVec.ofNat 32 (i 0).val
  let c3_i32 : BitVec 32 := 3#32
  let v12 : BitVec 32 := Scalar.remsi arg0 c3_i32
  ![v12.toNat]
def k0_off5 (i : grid0.Coords) : Fin 5 → Nat :=
  let arg0 : BitVec 32 := BitVec.ofNat 32 (i 0).val
  let c3_i32 : BitVec 32 := 3#32
  let v12 : BitVec 32 := Scalar.remsi arg0 c3_i32
  let c0_i32_4 : BitVec 32 := 0#32
  let c0_i32_5 : BitVec 32 := 0#32
  let c0_i32_6 : BitVec 32 := 0#32
  let c0_i32_7 : BitVec 32 := 0#32
  ![v12.toNat, 0, 0, 0, 0]
def k0_off6 (i : grid0.Coords) : Fin 4 → Nat :=
  let arg0 : BitVec 32 := BitVec.ofNat 32 (i 0).val
  let c64_i32 : BitVec 32 := 64#32
  let v13 : BitVec 32 := Scalar.muli arg0 c64_i32
  let c0_i32_8 : BitVec 32 := 0#32
  let c0_i32_9 : BitVec 32 := 0#32
  let c0_i32_10 : BitVec 32 := 0#32
  ![v13.toNat, 0, 0, 0]
def k0_off7 (i : grid0.Coords) : Fin 5 → Nat :=
  let arg0 : BitVec 32 := BitVec.ofNat 32 (i 0).val
  let c3_i32 : BitVec 32 := 3#32
  let v12 : BitVec 32 := Scalar.remsi arg0 c3_i32
  let v20 : Index := Scalar.indexCast v12
  let c0 : Index := 0#32
  let c0_11 : Index := 0#32
  let c0_12 : Index := 0#32
  let c0_13 : Index := 0#32
  ![v20.toNat, 0, 0, 0, 0]
def k0_off8 (i : grid0.Coords) : Fin 2 → Nat :=
  let c0_14 : Index := 0#32
  let arg0 : BitVec 32 := BitVec.ofNat 32 (i 0).val
  let c1024_i32 : BitVec 32 := 1024#32
  let v24 : BitVec 32 := Scalar.muli arg0 c1024_i32
  let v25 : Index := Scalar.indexCast v24
  ![0, v25.toNat]
def k0_cond11 (i : grid0.Coords) : BitVec 1 :=
  let arg0 : BitVec 32 := BitVec.ofNat 32 (i 0).val
  let c7_i32 : BitVec 32 := 7#32
  let v87 : BitVec 1 := Scalar.cmpi .eq arg0 c7_i32
  let v88 : BitVec 32 := Scalar.extui v87
  let c0_i32_48 : BitVec 32 := 0#32
  let v89 : BitVec 1 := Scalar.cmpi .ne v88 c0_i32_48
  v89

def k0_off9 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v92 : Index := Scalar.indexCast v2
  let c0_51 : Index := 0#32
  let c0_52 : Index := 0#32
  let c0_53 : Index := 0#32
  ![v92.toNat, 0, 0, 0]
def k0_off10 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v98 : Index := Scalar.indexCast v2
  let c0_56 : Index := 0#32
  let c0_57 : Index := 0#32
  let c0_58 : Index := 0#32
  let c0_59 : Index := 0#32
  ![v98.toNat, 0, 0, 0, 0]
def k0_off11 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v104 : Index := Scalar.indexCast v2
  let c0_62 : Index := 0#32
  let c1 : Index := 1#32
  let c0_63 : Index := 0#32
  let c0_64 : Index := 0#32
  ![v104.toNat, 0, 1, 0, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_66 : BitVec 32 := 0#32
  let v108 : BitVec 1 := Scalar.cmpi .ne v2 c0_i32_66
  let v109 : BitVec 32 := Scalar.extui v108
  let c0_i32_67 : BitVec 32 := 0#32
  let v110 : BitVec 1 := Scalar.cmpi .ne v109 c0_i32_67
  v110

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_dev9 : Nat :=
  let c0_i32_130 : BitVec 32 := 0#32
  let c0_i32_128 : BitVec 32 := 0#32
  let c1_i32_129 : BitVec 32 := 1#32
  let v203 : BitVec 32 := Scalar.muli c0_i32_128 c1_i32_129
  let v204 : BitVec 32 := Scalar.addi c0_i32_130 v203
  v204.toNat
def k0_off14 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_141 : BitVec 32 := 0#32
  let c0_i32_142 : BitVec 32 := 0#32
  let c0_i32_143 : BitVec 32 := 0#32
  let c0_i32_144 : BitVec 32 := 0#32
  ![v2.toNat, 0, 0, 0, 0]
def k0_dev10 : Nat :=
  let c0_i32_140 : BitVec 32 := 0#32
  let c0_i32_138 : BitVec 32 := 0#32
  let c1_i32_139 : BitVec 32 := 1#32
  let v213 : BitVec 32 := Scalar.muli c0_i32_138 c1_i32_139
  let v214 : BitVec 32 := Scalar.addi c0_i32_140 v213
  v214.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_68 : BitVec 32 := 1#32
  let v111 : BitVec 1 := Scalar.cmpi .ne v2 c1_i32_68
  let v112 : BitVec 32 := Scalar.extui v111
  let c0_i32_69 : BitVec 32 := 0#32
  let v113 : BitVec 1 := Scalar.cmpi .ne v112 c0_i32_69
  v113

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_dev11 : Nat :=
  let c0_i32_130 : BitVec 32 := 0#32
  let c1_i32_128 : BitVec 32 := 1#32
  let c1_i32_129 : BitVec 32 := 1#32
  let v203 : BitVec 32 := Scalar.muli c1_i32_128 c1_i32_129
  let v204 : BitVec 32 := Scalar.addi c0_i32_130 v203
  v204.toNat
def k0_off17 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_141 : BitVec 32 := 0#32
  let c0_i32_142 : BitVec 32 := 0#32
  let c0_i32_143 : BitVec 32 := 0#32
  let c0_i32_144 : BitVec 32 := 0#32
  ![v2.toNat, 0, 0, 0, 0]
def k0_dev12 : Nat :=
  let c0_i32_140 : BitVec 32 := 0#32
  let c1_i32_138 : BitVec 32 := 1#32
  let c1_i32_139 : BitVec 32 := 1#32
  let v213 : BitVec 32 := Scalar.muli c1_i32_138 c1_i32_139
  let v214 : BitVec 32 := Scalar.addi c0_i32_140 v213
  v214.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_70 : BitVec 32 := 2#32
  let v114 : BitVec 1 := Scalar.cmpi .ne v2 c2_i32_70
  let v115 : BitVec 32 := Scalar.extui v114
  let c0_i32_71 : BitVec 32 := 0#32
  let v116 : BitVec 1 := Scalar.cmpi .ne v115 c0_i32_71
  v116

def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_dev13 : Nat :=
  let c0_i32_130 : BitVec 32 := 0#32
  let c2_i32_128 : BitVec 32 := 2#32
  let c1_i32_129 : BitVec 32 := 1#32
  let v203 : BitVec 32 := Scalar.muli c2_i32_128 c1_i32_129
  let v204 : BitVec 32 := Scalar.addi c0_i32_130 v203
  v204.toNat
def k0_off20 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_141 : BitVec 32 := 0#32
  let c0_i32_142 : BitVec 32 := 0#32
  let c0_i32_143 : BitVec 32 := 0#32
  let c0_i32_144 : BitVec 32 := 0#32
  ![v2.toNat, 0, 0, 0, 0]
def k0_dev14 : Nat :=
  let c0_i32_140 : BitVec 32 := 0#32
  let c2_i32_138 : BitVec 32 := 2#32
  let c1_i32_139 : BitVec 32 := 1#32
  let v213 : BitVec 32 := Scalar.muli c2_i32_138 c1_i32_139
  let v214 : BitVec 32 := Scalar.addi c0_i32_140 v213
  v214.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_72 : BitVec 32 := 3#32
  let v117 : BitVec 1 := Scalar.cmpi .ne v2 c3_i32_72
  let v118 : BitVec 32 := Scalar.extui v117
  let c0_i32_73 : BitVec 32 := 0#32
  let v119 : BitVec 1 := Scalar.cmpi .ne v118 c0_i32_73
  v119

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_dev15 : Nat :=
  let c0_i32_130 : BitVec 32 := 0#32
  let c3_i32_128 : BitVec 32 := 3#32
  let c1_i32_129 : BitVec 32 := 1#32
  let v203 : BitVec 32 := Scalar.muli c3_i32_128 c1_i32_129
  let v204 : BitVec 32 := Scalar.addi c0_i32_130 v203
  v204.toNat
def k0_off23 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_141 : BitVec 32 := 0#32
  let c0_i32_142 : BitVec 32 := 0#32
  let c0_i32_143 : BitVec 32 := 0#32
  let c0_i32_144 : BitVec 32 := 0#32
  ![v2.toNat, 0, 0, 0, 0]
def k0_dev16 : Nat :=
  let c0_i32_140 : BitVec 32 := 0#32
  let c3_i32_138 : BitVec 32 := 3#32
  let c1_i32_139 : BitVec 32 := 1#32
  let v213 : BitVec 32 := Scalar.muli c3_i32_138 c1_i32_139
  let v214 : BitVec 32 := Scalar.addi c0_i32_140 v213
  v214.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v120 : BitVec 1 := Scalar.cmpi .ne v2 c4_i32
  let v121 : BitVec 32 := Scalar.extui v120
  let c0_i32_74 : BitVec 32 := 0#32
  let v122 : BitVec 1 := Scalar.cmpi .ne v121 c0_i32_74
  v122

def k0_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off25 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_dev17 : Nat :=
  let c0_i32_130 : BitVec 32 := 0#32
  let c4_i32_128 : BitVec 32 := 4#32
  let c1_i32_129 : BitVec 32 := 1#32
  let v203 : BitVec 32 := Scalar.muli c4_i32_128 c1_i32_129
  let v204 : BitVec 32 := Scalar.addi c0_i32_130 v203
  v204.toNat
def k0_off26 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_141 : BitVec 32 := 0#32
  let c0_i32_142 : BitVec 32 := 0#32
  let c0_i32_143 : BitVec 32 := 0#32
  let c0_i32_144 : BitVec 32 := 0#32
  ![v2.toNat, 0, 0, 0, 0]
def k0_dev18 : Nat :=
  let c0_i32_140 : BitVec 32 := 0#32
  let c4_i32_138 : BitVec 32 := 4#32
  let c1_i32_139 : BitVec 32 := 1#32
  let v213 : BitVec 32 := Scalar.muli c4_i32_138 c1_i32_139
  let v214 : BitVec 32 := Scalar.addi c0_i32_140 v213
  v214.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v123 : BitVec 1 := Scalar.cmpi .ne v2 c5_i32
  let v124 : BitVec 32 := Scalar.extui v123
  let c0_i32_75 : BitVec 32 := 0#32
  let v125 : BitVec 1 := Scalar.cmpi .ne v124 c0_i32_75
  v125

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_dev19 : Nat :=
  let c0_i32_130 : BitVec 32 := 0#32
  let c5_i32_128 : BitVec 32 := 5#32
  let c1_i32_129 : BitVec 32 := 1#32
  let v203 : BitVec 32 := Scalar.muli c5_i32_128 c1_i32_129
  let v204 : BitVec 32 := Scalar.addi c0_i32_130 v203
  v204.toNat
def k0_off29 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_141 : BitVec 32 := 0#32
  let c0_i32_142 : BitVec 32 := 0#32
  let c0_i32_143 : BitVec 32 := 0#32
  let c0_i32_144 : BitVec 32 := 0#32
  ![v2.toNat, 0, 0, 0, 0]
def k0_dev20 : Nat :=
  let c0_i32_140 : BitVec 32 := 0#32
  let c5_i32_138 : BitVec 32 := 5#32
  let c1_i32_139 : BitVec 32 := 1#32
  let v213 : BitVec 32 := Scalar.muli c5_i32_138 c1_i32_139
  let v214 : BitVec 32 := Scalar.addi c0_i32_140 v213
  v214.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v126 : BitVec 1 := Scalar.cmpi .ne v2 c6_i32
  let v127 : BitVec 32 := Scalar.extui v126
  let c0_i32_76 : BitVec 32 := 0#32
  let v128 : BitVec 1 := Scalar.cmpi .ne v127 c0_i32_76
  v128

def k0_off30 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off31 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_dev21 : Nat :=
  let c0_i32_130 : BitVec 32 := 0#32
  let c6_i32_128 : BitVec 32 := 6#32
  let c1_i32_129 : BitVec 32 := 1#32
  let v203 : BitVec 32 := Scalar.muli c6_i32_128 c1_i32_129
  let v204 : BitVec 32 := Scalar.addi c0_i32_130 v203
  v204.toNat
def k0_off32 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_141 : BitVec 32 := 0#32
  let c0_i32_142 : BitVec 32 := 0#32
  let c0_i32_143 : BitVec 32 := 0#32
  let c0_i32_144 : BitVec 32 := 0#32
  ![v2.toNat, 0, 0, 0, 0]
def k0_dev22 : Nat :=
  let c0_i32_140 : BitVec 32 := 0#32
  let c6_i32_138 : BitVec 32 := 6#32
  let c1_i32_139 : BitVec 32 := 1#32
  let v213 : BitVec 32 := Scalar.muli c6_i32_138 c1_i32_139
  let v214 : BitVec 32 := Scalar.addi c0_i32_140 v213
  v214.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_77 : BitVec 32 := 7#32
  let v129 : BitVec 1 := Scalar.cmpi .ne v2 c7_i32_77
  let v130 : BitVec 32 := Scalar.extui v129
  let c0_i32_78 : BitVec 32 := 0#32
  let v131 : BitVec 1 := Scalar.cmpi .ne v130 c0_i32_78
  v131

def k0_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off34 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_132 : BitVec 32 := 0#32
  let c0_i32_133 : BitVec 32 := 0#32
  ![v2.toNat, 0, 0, 0]
def k0_dev23 : Nat :=
  let c0_i32_130 : BitVec 32 := 0#32
  let c7_i32_128 : BitVec 32 := 7#32
  let c1_i32_129 : BitVec 32 := 1#32
  let v203 : BitVec 32 := Scalar.muli c7_i32_128 c1_i32_129
  let v204 : BitVec 32 := Scalar.addi c0_i32_130 v203
  v204.toNat
def k0_off35 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_141 : BitVec 32 := 0#32
  let c0_i32_142 : BitVec 32 := 0#32
  let c0_i32_143 : BitVec 32 := 0#32
  let c0_i32_144 : BitVec 32 := 0#32
  ![v2.toNat, 0, 0, 0, 0]
def k0_dev24 : Nat :=
  let c0_i32_140 : BitVec 32 := 0#32
  let c7_i32_138 : BitVec 32 := 7#32
  let c1_i32_139 : BitVec 32 := 1#32
  let v213 : BitVec 32 := Scalar.muli c7_i32_138 c1_i32_139
  let v214 : BitVec 32 := Scalar.addi c0_i32_140 v213
  v214.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_95 : BitVec 32 := 0#32
  let v156 : BitVec 1 := Scalar.cmpi .ne v2 c0_i32_95
  let v157 : BitVec 32 := Scalar.extui v156
  let c0_i32_96 : BitVec 32 := 0#32
  let v158 : BitVec 1 := Scalar.cmpi .ne v157 c0_i32_96
  v158

def k0_off36 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_130 : BitVec 32 := 0#32
  let c0_i32_131 : BitVec 32 := 0#32
  let c0_i32_132 : BitVec 32 := 0#32
  ![v2.toNat, 0, 0, 0]
def k0_off37 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_139 : BitVec 32 := 0#32
  let c0_i32_140 : BitVec 32 := 0#32
  let c0_i32_141 : BitVec 32 := 0#32
  let c0_i32_142 : BitVec 32 := 0#32
  ![v2.toNat, 0, 0, 0, 0]
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_97 : BitVec 32 := 1#32
  let v159 : BitVec 1 := Scalar.cmpi .ne v2 c1_i32_97
  let v160 : BitVec 32 := Scalar.extui v159
  let c0_i32_98 : BitVec 32 := 0#32
  let v161 : BitVec 1 := Scalar.cmpi .ne v160 c0_i32_98
  v161

def k0_off38 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_130 : BitVec 32 := 0#32
  let c0_i32_131 : BitVec 32 := 0#32
  let c0_i32_132 : BitVec 32 := 0#32
  ![v2.toNat, 0, 0, 0]
def k0_off39 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_139 : BitVec 32 := 0#32
  let c0_i32_140 : BitVec 32 := 0#32
  let c0_i32_141 : BitVec 32 := 0#32
  let c0_i32_142 : BitVec 32 := 0#32
  ![v2.toNat, 0, 0, 0, 0]
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_99 : BitVec 32 := 2#32
  let v162 : BitVec 1 := Scalar.cmpi .ne v2 c2_i32_99
  let v163 : BitVec 32 := Scalar.extui v162
  let c0_i32_100 : BitVec 32 := 0#32
  let v164 : BitVec 1 := Scalar.cmpi .ne v163 c0_i32_100
  v164

def k0_off40 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_130 : BitVec 32 := 0#32
  let c0_i32_131 : BitVec 32 := 0#32
  let c0_i32_132 : BitVec 32 := 0#32
  ![v2.toNat, 0, 0, 0]
def k0_off41 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_139 : BitVec 32 := 0#32
  let c0_i32_140 : BitVec 32 := 0#32
  let c0_i32_141 : BitVec 32 := 0#32
  let c0_i32_142 : BitVec 32 := 0#32
  ![v2.toNat, 0, 0, 0, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_101 : BitVec 32 := 3#32
  let v165 : BitVec 1 := Scalar.cmpi .ne v2 c3_i32_101
  let v166 : BitVec 32 := Scalar.extui v165
  let c0_i32_102 : BitVec 32 := 0#32
  let v167 : BitVec 1 := Scalar.cmpi .ne v166 c0_i32_102
  v167

def k0_off42 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_130 : BitVec 32 := 0#32
  let c0_i32_131 : BitVec 32 := 0#32
  let c0_i32_132 : BitVec 32 := 0#32
  ![v2.toNat, 0, 0, 0]
def k0_off43 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_139 : BitVec 32 := 0#32
  let c0_i32_140 : BitVec 32 := 0#32
  let c0_i32_141 : BitVec 32 := 0#32
  let c0_i32_142 : BitVec 32 := 0#32
  ![v2.toNat, 0, 0, 0, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_103 : BitVec 32 := 4#32
  let v168 : BitVec 1 := Scalar.cmpi .ne v2 c4_i32_103
  let v169 : BitVec 32 := Scalar.extui v168
  let c0_i32_104 : BitVec 32 := 0#32
  let v170 : BitVec 1 := Scalar.cmpi .ne v169 c0_i32_104
  v170

def k0_off44 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_130 : BitVec 32 := 0#32
  let c0_i32_131 : BitVec 32 := 0#32
  let c0_i32_132 : BitVec 32 := 0#32
  ![v2.toNat, 0, 0, 0]
def k0_off45 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_139 : BitVec 32 := 0#32
  let c0_i32_140 : BitVec 32 := 0#32
  let c0_i32_141 : BitVec 32 := 0#32
  let c0_i32_142 : BitVec 32 := 0#32
  ![v2.toNat, 0, 0, 0, 0]
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_105 : BitVec 32 := 5#32
  let v171 : BitVec 1 := Scalar.cmpi .ne v2 c5_i32_105
  let v172 : BitVec 32 := Scalar.extui v171
  let c0_i32_106 : BitVec 32 := 0#32
  let v173 : BitVec 1 := Scalar.cmpi .ne v172 c0_i32_106
  v173

def k0_off46 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_130 : BitVec 32 := 0#32
  let c0_i32_131 : BitVec 32 := 0#32
  let c0_i32_132 : BitVec 32 := 0#32
  ![v2.toNat, 0, 0, 0]
def k0_off47 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_139 : BitVec 32 := 0#32
  let c0_i32_140 : BitVec 32 := 0#32
  let c0_i32_141 : BitVec 32 := 0#32
  let c0_i32_142 : BitVec 32 := 0#32
  ![v2.toNat, 0, 0, 0, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_107 : BitVec 32 := 6#32
  let v174 : BitVec 1 := Scalar.cmpi .ne v2 c6_i32_107
  let v175 : BitVec 32 := Scalar.extui v174
  let c0_i32_108 : BitVec 32 := 0#32
  let v176 : BitVec 1 := Scalar.cmpi .ne v175 c0_i32_108
  v176

def k0_off48 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_130 : BitVec 32 := 0#32
  let c0_i32_131 : BitVec 32 := 0#32
  let c0_i32_132 : BitVec 32 := 0#32
  ![v2.toNat, 0, 0, 0]
def k0_off49 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_139 : BitVec 32 := 0#32
  let c0_i32_140 : BitVec 32 := 0#32
  let c0_i32_141 : BitVec 32 := 0#32
  let c0_i32_142 : BitVec 32 := 0#32
  ![v2.toNat, 0, 0, 0, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_109 : BitVec 32 := 7#32
  let v177 : BitVec 1 := Scalar.cmpi .ne v2 c7_i32_109
  let v178 : BitVec 32 := Scalar.extui v177
  let c0_i32_110 : BitVec 32 := 0#32
  let v179 : BitVec 1 := Scalar.cmpi .ne v178 c0_i32_110
  v179

def k0_off50 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_130 : BitVec 32 := 0#32
  let c0_i32_131 : BitVec 32 := 0#32
  let c0_i32_132 : BitVec 32 := 0#32
  ![v2.toNat, 0, 0, 0]
def k0_off51 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_139 : BitVec 32 := 0#32
  let c0_i32_140 : BitVec 32 := 0#32
  let c0_i32_141 : BitVec 32 := 0#32
  let c0_i32_142 : BitVec 32 := 0#32
  ![v2.toNat, 0, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S8x1x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x1x8x128 : Shape := ⟨4, ![8, 1, 8, 128]⟩
abbrev S4096x16x8x128 : Shape := ⟨4, ![4096, 16, 8, 128]⟩
abbrev S8x512 : Shape := ⟨2, ![8, 512]⟩
abbrev S8 : Shape := ⟨1, ![8]⟩
abbrev S_ : Shape := ⟨0, ![]⟩
abbrev S8x512x1 : Shape := ⟨3, ![8, 512, 1]⟩
abbrev S8x512x16x8x128 : Shape := ⟨5, ![8, 512, 16, 8, 128]⟩
abbrev S8x8192x8x128 : Shape := ⟨4, ![8, 8192, 8, 128]⟩
abbrev S8x8x1x8192 : Shape := ⟨4, ![8, 8, 1, 8192]⟩
abbrev S512 : Shape := ⟨1, ![512]⟩
abbrev S1x512 : Shape := ⟨2, ![1, 512]⟩
abbrev S8x1 : Shape := ⟨2, ![8, 1]⟩
abbrev S8x512x16 : Shape := ⟨3, ![8, 512, 16]⟩
abbrev S8x8192 : Shape := ⟨2, ![8, 8192]⟩
abbrev S8x1x1x8192 : Shape := ⟨4, ![8, 1, 1, 8192]⟩
abbrev S8x8x1 : Shape := ⟨3, ![8, 8, 1]⟩
abbrev S8x8x1x1 : Shape := ⟨4, ![8, 8, 1, 1]⟩
abbrev S8x8x128x1 : Shape := ⟨4, ![8, 8, 128, 1]⟩

abbrev nBuf : Space → Nat
  | .hbm => 56
  | .vmem => 0
  | .smem => 0
  | _ => 0

abbrev bufTy : (tb : Table) → Fin (tcTables nBuf tb) → BufTy
  | .hbm, ⟨0, _⟩ => ⟨S8x1x8x128, .f32⟩
  | .hbm, ⟨1, _⟩ => ⟨S4096x16x8x128, .f32⟩
  | .hbm, ⟨2, _⟩ => ⟨S4096x16x8x128, .f32⟩
  | .hbm, ⟨3, _⟩ => ⟨S8x512, .i32⟩
  | .hbm, ⟨4, _⟩ => ⟨S8, .i32⟩
  | .hbm, ⟨5, _⟩ => ⟨S_, .i32⟩
  | .hbm, ⟨6, _⟩ => ⟨S8x512, .i32⟩
  | .hbm, ⟨7, _⟩ => ⟨S8x512, .i1⟩
  | .hbm, ⟨8, _⟩ => ⟨S_, .i32⟩
  | .hbm, ⟨9, _⟩ => ⟨S8x512, .i32⟩
  | .hbm, ⟨10, _⟩ => ⟨S8x512, .i32⟩
  | .hbm, ⟨11, _⟩ => ⟨S8x512, .i32⟩
  | .hbm, ⟨12, _⟩ => ⟨S8x512x1, .i32⟩
  | .hbm, ⟨13, _⟩ => ⟨S8x512x16x8x128, .f32⟩
  | .hbm, ⟨14, _⟩ => ⟨S8x8192x8x128, .f32⟩
  | .hbm, ⟨15, _⟩ => ⟨S_, .i32⟩
  | .hbm, ⟨16, _⟩ => ⟨S8x512, .i32⟩
  | .hbm, ⟨17, _⟩ => ⟨S8x512, .i1⟩
  | .hbm, ⟨18, _⟩ => ⟨S_, .i32⟩
  | .hbm, ⟨19, _⟩ => ⟨S8x512, .i32⟩
  | .hbm, ⟨20, _⟩ => ⟨S8x512, .i32⟩
  | .hbm, ⟨21, _⟩ => ⟨S8x512, .i32⟩
  | .hbm, ⟨22, _⟩ => ⟨S8x512x1, .i32⟩
  | .hbm, ⟨23, _⟩ => ⟨S8x512x16x8x128, .f32⟩
  | .hbm, ⟨24, _⟩ => ⟨S8x8192x8x128, .f32⟩
  | .hbm, ⟨25, _⟩ => ⟨S8x8x1x8192, .f32⟩
  | .hbm, ⟨26, _⟩ => ⟨S_, .f32⟩
  | .hbm, ⟨27, _⟩ => ⟨S8x8x1x8192, .f32⟩
  | .hbm, ⟨28, _⟩ => ⟨S8x8x1x8192, .f32⟩
  | .hbm, ⟨29, _⟩ => ⟨S512, .i32⟩
  | .hbm, ⟨30, _⟩ => ⟨S1x512, .i32⟩
  | .hbm, ⟨31, _⟩ => ⟨S8x1, .i32⟩
  | .hbm, ⟨32, _⟩ => ⟨S8x512, .i32⟩
  | .hbm, ⟨33, _⟩ => ⟨S8x512, .i32⟩
  | .hbm, ⟨34, _⟩ => ⟨S8x512, .i1⟩
  | .hbm, ⟨35, _⟩ => ⟨S8x512x16, .i1⟩
  | .hbm, ⟨36, _⟩ => ⟨S8x8192, .i1⟩
  | .hbm, ⟨37, _⟩ => ⟨S8x1x1x8192, .i1⟩
  | .hbm, ⟨38, _⟩ => ⟨S_, .f32⟩
  | .hbm, ⟨39, _⟩ => ⟨S_, .f32⟩
  | .hbm, ⟨40, _⟩ => ⟨S8x8x1x8192, .i1⟩
  | .hbm, ⟨41, _⟩ => ⟨S8x8x1x8192, .f32⟩
  | .hbm, ⟨42, _⟩ => ⟨S8x8x1x8192, .f32⟩
  | .hbm, ⟨43, _⟩ => ⟨S_, .f32⟩
  | .hbm, ⟨44, _⟩ => ⟨S8x8x1, .f32⟩
  | .hbm, ⟨45, _⟩ => ⟨S8x8x1x1, .f32⟩
  | .hbm, ⟨46, _⟩ => ⟨S8x8x1x8192, .f32⟩
  | .hbm, ⟨47, _⟩ => ⟨S8x8x1x8192, .f32⟩
  | .hbm, ⟨48, _⟩ => ⟨S8x8x1x8192, .f32⟩
  | .hbm, ⟨49, _⟩ => ⟨S_, .f32⟩
  | .hbm, ⟨50, _⟩ => ⟨S8x8x1, .f32⟩
  | .hbm, ⟨51, _⟩ => ⟨S8x8x1x1, .f32⟩
  | .hbm, ⟨52, _⟩ => ⟨S8x8x1x8192, .f32⟩
  | .hbm, ⟨53, _⟩ => ⟨S8x8x1x8192, .f32⟩
  | .hbm, ⟨54, _⟩ => ⟨S8x8x128x1, .f32⟩
  | .hbm, ⟨55, _⟩ => ⟨S8x1x8x128, .f32⟩
  | _, _ => ⟨S8x1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Pa.Proto.lean ====
/-
# Paged attention over eight devices: the cross-device protocol

Every device ends up with two small tables, one row per device: `comm_acc` (the unnormalised numerators) and
`comm_ml` (the running maxima and denominators). A device fills its own row, tells the seven others on the barrier
semaphore that its tables may be written, waits until the seven others have told it the same, and then copies its row
into the same row of the seven other devices' tables.

* The barrier cell of device `c` has one duty per other device `d`, of one unit, paid by `d`'s signal. With it `d` hands
  over row `c` of its own two tables, whatever they hold.
* Receive cell `s` of device `c` (one family per table) has one duty, paid by the copy from device `s`. With it comes
  row `s` of `c`'s table, holding device `s`'s row.
* Send cell `t` of device `c` has one duty, paid by the copy to device `t`. With it comes back the share of `c`'s own
  row that the copy reads.

The rows' contents are one table `GA` and one table `GM`, the same on every device: row `s` is what device `s` sends.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own rounds, the protocol's rounds, the local transfers' counters -/

/-- The protocol's ghost state. -/
abbrev UB : Type := URounds (GSem nD τ sig) (Dev nD)
/-- The ghost state: the windows', the protocol's and the local copies'. -/
abbrev UU : Type := UR sig nD τ × (UB × Counters)

local notation "𝕄" => MT nD τ sig Unit (Elt F) ℕ UU ℕ

/-- The windows' ghost state in the whole. -/
abbrev EP : Emb (UR sig nD τ) (MT nD τ sig Unit (Elt F) ℕ UU ℕ) := embL
/-- The protocol's ghost state in the whole. -/
abbrev ER : Emb UB (MT nD τ sig Unit (Elt F) ℕ UU ℕ) := Emb.inl.trans embR
/-- The local copies' ghost state in the whole. -/
abbrev EC : UEmb Counters (MT nD τ sig Unit (Elt F) ℕ UU ℕ) := countersEmb

/-! ## The tables, their rows and the cells -/

/-- The table of gathered numerators. -/
abbrev accM : Memref sig .tc .vmem S8x8x8x128 .f32 := Memref.whole cc0_scratch7
/-- The table of gathered maxima and denominators. -/
abbrev mlM : Memref sig .tc .vmem S8x8x2x8x1 .f32 := Memref.whole cc0_scratch8

/-- A device's row lies in the numerators' table. -/
theorem acc_inb (s : Dev nD) : ∀ a, (![s.val, 0, 0, 0] : Fin 4 → Nat) a + S1x8x8x128.size a ≤ S8x8x8x128.size a := by
  revert s; decide
/-- A device's row lies in the maxima and denominators' table. -/
theorem ml_inb (s : Dev nD) : ∀ a, (![s.val, 0, 0, 0, 0] : Fin 5 → Nat) a + S1x8x2x8x1.size a ≤ S8x8x2x8x1.size a := by
  revert s; decide
/-- A device's semaphore lies in its family. -/
theorem sem_inb (s : Dev nD) : ∀ a, (![s.val] : Fin 1 → Nat) a + S1.size a ≤ S8.size a := by revert s; decide

/-- Row `s` of each table, as the copies spell it. -/
abbrev accRow (s : Dev nD) : Memref sig .tc .vmem S8x8x128 .f32 :=
  (accM.slice (Rect.unit (s := S8x8x8x128) ![s.val, 0, 0, 0] S1x8x8x128.size (acc_inb s)) (fun _ => rfl)).squeeze S8x8x128
    squeezes_S1x8x8x128_S8x8x128
/-- A device's row of maxima and denominators. -/
abbrev mlRow (s : Dev nD) : Memref sig .tc .vmem S8x2x8x1 .f32 :=
  (mlM.slice (Rect.unit (s := S8x8x2x8x1) ![s.val, 0, 0, 0, 0] S1x8x2x8x1.size (ml_inb s)) (fun _ => rfl)).squeeze S8x2x8x1
    squeezes_S1x8x2x8x1_S8x2x8x1

/-- Entry `k` of a family of eight semaphores. -/
abbrev semAt (A : DmaSems sig S8) (k : Dev nD) : DmaSem sig :=
  ((A.slice (Rect.unit (s := S8) ![k.val] S1.size (sem_inb k))).squeeze S_ squeezes_S1_S_).sem

/-- The barrier semaphore. -/
abbrev barS : Sem sig := (SemArray.scalar (sig.barrier 0 rfl) : Sems sig S_).sem

/-- The four families: `comm_acc`'s send and receive cells, `comm_ml`'s send and receive cells. -/
def fam : Fin 4 → DmaSems sig S8 := fun | 0 => cc0_scratch11 | 1 => cc0_scratch12 | 2 => cc0_scratch13 | 3 => cc0_scratch14

/-- A device's cells: the barrier's, and entry `k` of family `j`. -/
abbrev CK : Type := Option (Fin 4 × Dev nD)
/-- The semaphore of a kind of cell. -/
def csem : CK → SemLoc sig
  | none => .reg barS
  | some (j, k) => .dma (semAt (fam j) k)

/-- Different kinds have different semaphores. -/
theorem csem_injective : Function.Injective csem := by
  have h : ∀ a b : Fin 4 × Dev nD, semAt (fam a.1) a.2 = semAt (fam b.1) b.2 → a = b := by decide +kernel
  rintro (_ | a) (_ | b) e
  · rfl
  · exact absurd e (fun h => by cases h)
  · exact absurd e (fun h => by cases h)
  · have e' : (SemLoc.dma (semAt (fam a.1) a.2) : SemLoc sig) = .dma (semAt (fam b.1) b.2) := e
    rw [h a b (SemLoc.dma.inj e')]

/-- A device's cell of a kind. -/
abbrev kcell (c : Dev nD) (k : CK) : GSem nD τ sig := ((c : Thread nD τ), csem k)
/-- A device's barrier. -/
abbrev barCell (c : Dev nD) : GSem nD τ sig := kcell c none
/-- A device's cell of a family, for a peer. -/
abbrev cell (c : Dev nD) (j : Fin 4) (k : Dev nD) : GSem nD τ sig := kcell c (some (j, k))

open Classical in
/-- Which of the protocol's cells a semaphore is, if one. -/
def kindOf (sm : SemLoc sig) : Option CK := if h : ∃ k, csem k = sm then some h.choose else none

/-- The kind is read back from the semaphore. -/
theorem kindOf_csem (k : CK) : kindOf (csem k) = some k := by
  unfold kindOf
  have h : ∃ k', csem k' = csem k := ⟨k, rfl⟩
  rw [dif_pos h, csem_injective h.choose_spec]

/-- The credit of a row's copy. -/
def NA : ℕ := (accRow 0).view.dmaCredit
/-- What a copy of maxima and denominators signals. -/
def NM : ℕ := (mlRow 0).view.dmaCredit
/-- A copy signals something. -/
theorem NA_pos : 0 < NA := View.dmaCredit_pos _ (by decide)
/-- A copy signals something. -/
theorem NM_pos : 0 < NM := View.dmaCredit_pos _ (by decide)
/-- Every row of numerators signals the same. -/
theorem accRow_credit (s : Dev nD) : (accRow s).view.dmaCredit = NA := rfl
/-- Every row of maxima and denominators signals the same. -/
theorem mlRow_credit (s : Dev nD) : (mlRow s).view.dmaCredit = NM := rfl

/-- Family `j`'s credit. -/
def NJ (j : Fin 4) : ℕ := if j.val < 2 then NA else NM
/-- A copy signals something. -/
theorem NJ_pos (j : Fin 4) : 0 < NJ j := by unfold NJ; split; exacts [NA_pos, NM_pos]

/-! ## The schedule -/

variable (GA : cc0_scratch7.ty.Contents (Elt F)) (GM : cc0_scratch8.ty.Contents (Elt F))

/-- Row `s` of device `c`'s table, holding `f`'s row. -/
def accPts (c s : Dev nD) (q : PosShare TreeShare) (f : cc0_scratch7.ty.Contents (Elt F)) : sProp 𝕄 :=
  ((accRow s).view.loc (c : Thread nD τ) ↦[(accRow s).view.set]{q} f)
/-- A share of a row of maxima and denominators. -/
def mlPts (c s : Dev nD) (q : PosShare TreeShare) (f : cc0_scratch8.ty.Contents (Elt F)) : sProp 𝕄 :=
  ((mlRow s).view.loc (c : Thread nD τ) ↦[(mlRow s).view.set]{q} f)

/-- The share of its own row that a device lends to the copy to `t`. -/
abbrev lent (t : Dev nD) : PosShare TreeShare := Transfers.shareTok fullShare 8 t

/-- What `d`'s signal hands `c`: row `c` of `d`'s tables. -/
def barPay (c d : Dev nD) : sProp 𝕄 := iprop((∃ f, accPts (F := F) d c fullShare f) ∗ ∃ f, mlPts (F := F) d c fullShare f)

/-- What a copy's completion hands `c` on entry `k` of family `j`. -/
def copyPay (c : Dev nD) (j : Fin 4) (k : Dev nD) : sProp 𝕄 :=
  match j with
  | 0 => accPts c c (lent k) GA
  | 1 => accPts c k fullShare GA
  | 2 => mlPts c c (lent k) GM
  | 3 => mlPts c k fullShare GM

omit [FloatOps F] in
/-- This may be stored in a cell. -/
instance accPts_storable (c s : Dev nD) (q f) : BI.Storable (upEmb : UEmb _ 𝕄) (accPts (F := F) c s q f) := by unfold accPts; infer_instance
omit [FloatOps F] in
/-- This may be stored in a cell. -/
instance mlPts_storable (c s : Dev nD) (q f) : BI.Storable (upEmb : UEmb _ 𝕄) (mlPts (F := F) c s q f) := by unfold mlPts; infer_instance
omit [FloatOps F] in
/-- This may be stored in a cell. -/
instance barPay_storable (c d : Dev nD) : BI.Storable (upEmb : UEmb _ 𝕄) (barPay (F := F) c d) := by unfold barPay; infer_instance
omit [FloatOps F] in
/-- This may be stored in a cell. -/
instance copyPay_storable (c : Dev nD) (j k) : BI.Storable (upEmb : UEmb _ 𝕄) (copyPay GA GM c j k) := by
  unfold copyPay; fin_cases j <;> infer_instance

/-- One round. The barrier cell's duties are the other devices; entry `k` of a family has the duty `k`, on a device other than `k`. -/
def kDuties (c : Dev nD) : CK → Finset (Dev nD)
  | none => Finset.univ.erase c
  | some (_, k) => if k = c then ∅ else {k}
/-- What a duty of a cell signals. -/
def kAmount : CK → ℕ
  | none => 1
  | some (j, _) => NJ j
/-- What a duty of a cell pays. -/
def kPay (c : Dev nD) (d : Dev nD) : CK → sProp 𝕄
  | none => barPay c d
  | some (j, k) => copyPay GA GM c j k

/-- The protocol: one round for each cell. -/
def paRd : Rounds.Schedule (GSem nD τ sig) (Dev nD) 𝕄 where
  duties g r := if r = 0 ∧ g.1.2 = .tc then (kindOf g.2).elim ∅ (kDuties g.1.1) else ∅
  unitless _ := False
  amount g _ _ := (kindOf g.2).elim 1 kAmount
  payload g _ d := (kindOf g.2).elim iprop(emp) (kPay GA GM g.1.1 d)
  amount_pos g _ _ _ := by
    rcases kindOf g.2 with _ | (_ | ⟨j, k⟩)
    · exact Nat.one_pos
    · exact Nat.one_pos
    · exact NJ_pos j

/-- This may be stored in a cell. -/
instance paRd_payload_storable (g : GSem nD τ sig) (r : ℕ) (d : Dev nD) :
    BI.Storable (upEmb : UEmb _ 𝕄) ((paRd GA GM).payload g r d) := by
  show BI.Storable upEmb ((kindOf g.2).elim iprop(emp) (kPay GA GM g.1.1 d))
  rcases kindOf g.2 with _ | (_ | ⟨j, k⟩)
  · show BI.Storable upEmb iprop(emp); infer_instance
  · show BI.Storable upEmb (barPay g.1.1 d); infer_instance
  · show BI.Storable upEmb (copyPay GA GM g.1.1 j k); infer_instance

section Tables
variable (c : Dev nD)

omit [FloatOps F] in
/-- The duties of a cell in its one round. -/
theorem duties_k (k : CK) : (paRd GA GM).duties (kcell c k) 0 = kDuties c k := by
  dsimp only [paRd]; rw [if_pos ⟨rfl, rfl⟩, kindOf_csem]; rfl
omit [FloatOps F] in
/-- There is one round only. -/
theorem duties_later (g : GSem nD τ sig) : ∀ r, 1 ≤ r → (paRd GA GM).duties g r = ∅ :=
  fun r hr => by dsimp only [paRd]; rw [if_neg fun h => by omega]
omit [FloatOps F] in
/-- The entry of a family for the device itself has no duties. -/
theorem duties_self (j : Fin 4) : ∀ r, 0 ≤ r → (paRd GA GM).duties (cell c j c) r = ∅ := fun r _ => by
  rcases r with _ | r
  · rw [duties_k]; exact if_pos rfl
  · exact duties_later GA GM _ _ (by omega)
omit [FloatOps F] in
/-- What a duty signals, by the cell's kind. -/
theorem amount_k (k : CK) (d : Dev nD) : (paRd GA GM).amount (kcell c k) 0 d = kAmount k := by
  dsimp only [paRd]; rw [kindOf_csem]; rfl
omit [FloatOps F] in
/-- What a duty pays, by the cell's kind. -/
theorem payload_k (k : CK) (d : Dev nD) : (paRd GA GM).payload (kcell c k) 0 d = kPay GA GM c d k := by
  dsimp only [paRd]; rw [kindOf_csem]; rfl
omit [FloatOps F] in
/-- The barrier expects seven signals. -/
theorem expect_bar : (paRd GA GM).expect (barCell c) 0 = 7 := by
  unfold Schedule.expect Schedule.amountOf
  rw [duties_k, Finset.sum_congr rfl fun d _ => amount_k GA GM c none d]
  simp only [kAmount, Finset.sum_const, smul_eq_mul, mul_one, kDuties]
  revert c; decide
omit [FloatOps F] in
/-- A peer's cell expects one copy. -/
theorem expect_cell (j : Fin 4) (k : Dev nD) (h : k ≠ c) : (paRd GA GM).expect (cell c j k) 0 = NJ j := by
  unfold Schedule.expect Schedule.amountOf
  rw [duties_k]
  simp only [kDuties, if_neg h, Finset.sum_singleton]
  exact amount_k GA GM c _ k
omit [FloatOps F] in
/-- The barrier's wait is paid by every other device. -/
theorem rest_bar : bigSep ((paRd GA GM).duties (barCell c) 0 \ ∅) (fun d => (paRd GA GM).payload (barCell c) 0 d)
    = bigSep (Finset.univ.erase c) (fun d => barPay (F := F) c d) := by
  rw [Finset.sdiff_empty, duties_k]
  exact bigSep_congr fun d _ => payload_k GA GM c none d
omit [FloatOps F] in
/-- A peer's cell is paid by that peer's copy. -/
theorem rest_cell (j : Fin 4) (k : Dev nD) (h : k ≠ c) :
    bigSep ((paRd GA GM).duties (cell c j k) 0 \ ∅) (fun d => (paRd GA GM).payload (cell c j k) 0 d) = copyPay GA GM c j k := by
  rw [Finset.sdiff_empty, duties_k]
  simp only [kDuties, if_neg h]
  rw [bigSep_singleton]
  exact payload_k GA GM c _ k

end Tables

/-! ## What a device owes, and the levels -/

/-- The devices in order. -/
def devs : List (Dev nD) := [0, 1, 2, 3, 4, 5, 6, 7]

/-- What `c` owes device `t`'s barrier: a unit, `t` another device. -/
def sigDue (c t : Dev nD) : CellTallies nD τ sig Unit := if c = t then 0 else tallyAt (barCell t) () 1
/-- What `c` owes device `t`'s receive cells: the two copies' credit. -/
def sendDue (c t : Dev nD) : CellTallies nD τ sig Unit :=
  if c = t then 0 else tallyAt (cell t 3 c) () NM + tallyAt (cell t 1 c) () NA
/-- The signals that a device owes to a list of devices. -/
def sigs (c : Dev nD) (l : List (Dev nD)) : CellTallies nD τ sig Unit := (l.map (sigDue c)).sum
/-- The copies that a device owes to a list of devices. -/
def sends (c : Dev nD) (l : List (Dev nD)) : CellTallies nD τ sig Unit := (l.map (sendDue c)).sum
/-- What a device owes at the start. -/
def O₀ (c : Dev nD) : CellTallies nD τ sig Unit := sends c devs + sigs c devs

/-- A level for every semaphore of a core. -/
def L (g : GSem nD τ sig) : Finset Unit := if g.1.2 = .tc then {()} else ∅
/-- Barrier cells at 1, receive cells at 2, everything else at 0. -/
def lv (g : GSem nD τ sig) (_ : Unit) : ℕ :=
  match kindOf g.2 with
  | some none => 1
  | some (some (j, _)) => if j = 1 ∨ j = 3 then 2 else 0
  | none => 0

/-- No level elsewhere. -/
theorem L_of_ne (g : GSem nD τ sig) (h : g.1.2 ≠ .tc) : L g = ∅ := if_neg h
/-- The level of a core's semaphore. -/
theorem L_tc (c : Dev nD) (sm : SemLoc sig) : L ((c : Thread nD τ), sm) = {()} := if_pos rfl
/-- The barrier is at level one. -/
theorem lv_bar (c : Dev nD) : lv (barCell c) () = 1 := by unfold lv; rw [kindOf_csem]
/-- The receive cells are at level two. -/
theorem lv_recv (c k : Dev nD) (j : Fin 4) (h : j = 1 ∨ j = 3) : lv (cell c j k) () = 2 := by
  unfold lv; rw [kindOf_csem]; exact if_pos h
/-- Semaphores outside the protocol are at level zero. -/
theorem lv_other (c : Dev nD) (sm : SemLoc sig) (h : ∀ k, csem k ≠ sm) : lv ((c : Thread nD τ), sm) () = 0 := by
  unfold lv kindOf; rw [dif_neg (fun ⟨k, hk⟩ => h k hk)]

/-- A positive sum has a positive part. -/
theorem sum_pos {l : List (CellTallies nD τ sig Unit)} {g : GSem nD τ sig} {u : Unit} (h : 0 < l.sum g u) : ∃ x ∈ l, 0 < x g u := by
  induction l with
  | nil => exact absurd h (Nat.lt_irrefl 0)
  | cons a l ih =>
    rw [List.sum_cons, Pi.add_apply, Finsupp.add_apply] at h
    by_cases ha : 0 < a g u
    · exact ⟨a, List.mem_cons_self, ha⟩
    · obtain ⟨x, hx, hp⟩ := ih (by omega)
      exact ⟨x, List.mem_cons_of_mem _ hx, hp⟩

/-- A tally is positive at its own cell only. -/
theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

/-- The copies owed are owed to receive cells. -/
theorem sends_pos {c : Dev nD} {l : List (Dev nD)} {g : GSem nD τ sig} {u : Unit} (h : 0 < sends c l g u) :
    ∃ t j, (j = 1 ∨ j = 3) ∧ g = cell t j c := by
  obtain ⟨x, hx, hp⟩ := sum_pos h
  obtain ⟨t, _, rfl⟩ := List.mem_map.mp hx
  unfold sendDue at hp
  split at hp
  · exact absurd hp (Nat.lt_irrefl 0)
  · rw [Pi.add_apply, Finsupp.add_apply] at hp
    by_cases h1 : 0 < tallyAt (cell t 3 c) () NM g u
    · exact ⟨t, 3, .inr rfl, tally_pos h1⟩
    · exact ⟨t, 1, .inl rfl, tally_pos (n := NA) (u := u) (by omega)⟩

/-- The signals owed are owed to barriers. -/
theorem sigs_pos {c : Dev nD} {l : List (Dev nD)} {g : GSem nD τ sig} {u : Unit} (h : 0 < sigs c l g u) : ∃ t, g = barCell t := by
  obtain ⟨x, hx, hp⟩ := sum_pos h
  obtain ⟨t, _, rfl⟩ := List.mem_map.mp hx
  unfold sigDue at hp
  split at hp
  · exact absurd hp (Nat.lt_irrefl 0)
  · exact ⟨t, tally_pos hp⟩

omit [FloatOps F] in
/-- A wait on a cell below every receive and barrier cell, whatever of the signals and copies is still owed. -/
theorem mayWait_low (c : Dev nD) (sm : SemLoc sig) (hs : ∀ k, csem k ≠ sm) (l l' : List (Dev nD)) :
    (levAts L lv : sProp 𝕄) ⊢ MayWait (c : Thread nD τ) sm () (sends c l + sigs c l') := by
  have hcase : ∀ g u, 0 < (sends c l + sigs c l') g u → (∃ t j, (j = (1 : Fin 4) ∨ j = 3) ∧ g = cell t j c) ∨ ∃ t, g = barCell t := by
    intro g u hg
    rw [Pi.add_apply, Finsupp.add_apply] at hg
    by_cases h1 : 0 < sends c l g u
    · exact .inl (sends_pos h1)
    · exact .inr (sigs_pos (c := c) (l := l') (u := u) (by omega))
  refine MayOwe.of_cut (L := L) (lev := lv) 0 (fun p hp => by rw [Finset.mem_singleton.mp hp, L_tc]; exact Finset.mem_singleton_self _)
    (fun g u hg => by rcases hcase g u hg with ⟨t, j, -, rfl⟩ | ⟨t, rfl⟩ <;> exact Finset.mem_singleton_self _)
    (fun p hp => by rw [Finset.mem_singleton.mp hp]; exact le_of_eq (lv_other c sm hs))
    (fun g u hg => by
      rcases hcase g u hg with ⟨t, j, hj, rfl⟩ | ⟨t, rfl⟩
      · rw [show lv (cell t j c) u = 2 from lv_recv t c j hj]; decide
      · rw [show lv (barCell t) u = 1 from lv_bar t]; decide)

omit [FloatOps F] in
/-- The barrier's wait, the copies still owed. -/
theorem mayWait_bar (c : Dev nD) (l : List (Dev nD)) :
    (levAts L lv : sProp 𝕄) ⊢ MayWait (c : Thread nD τ) (.reg barS) () (sends c l) :=
  MayOwe.of_cut (L := L) (lev := lv) 1 (fun p hp => by rw [Finset.mem_singleton.mp hp, L_tc]; exact Finset.mem_singleton_self _)
    (fun g u hg => by obtain ⟨t, j, -, rfl⟩ := sends_pos hg; exact Finset.mem_singleton_self _)
    (fun p hp => by rw [Finset.mem_singleton.mp hp]; exact le_of_eq (lv_bar c))
    (fun g u hg => by obtain ⟨t, j, hj, rfl⟩ := sends_pos hg; rw [show lv (cell t j c) u = 2 from lv_recv t c j hj]; decide)

end Cert.Pa

end
-- ==== Proof.Pa.Steps.lean ====
/-
# Paged attention over eight devices: the protocol's steps

Each printed `if` of the protocol (signal device `t`, copy to device `t`, wait for device `s`'s copy, wait for the copy
to device `t`) is one lemma here, stated for both outcomes of its condition, so a run over the eight devices is the
same lemma eight times.
-/
module

public import proofs.«01_k».proof.Proof.Pa.Proto

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- There is no variant. -/
abbrev 𝒱₀ : Variants := Variants.none

/-- A separating conjunction along a list. -/
def sepL (l : List (Dev nD)) (P : Dev nD → sProp 𝕄) : sProp 𝕄 := match l with
  | [] => iprop(emp)
  | t :: l => iprop(P t ∗ sepL l P)

/-- `P` for another device, nothing for the device itself. -/
def other (c t : Dev nD) (P : sProp 𝕄) : sProp 𝕄 := if c = t then iprop(emp) else P

variable (GA : cc0_scratch7.ty.Contents (Elt F)) (GM : cc0_scratch8.ty.Contents (Elt F))
variable (K : Dev nD × CK → ℕ)

/-- What every device knows: the cells' invariants, that their only round is open, and the levels. -/
def records : sProp 𝕄 :=
  iprop((bigSep Finset.univ fun x : Dev nD × CK => cellInv ER (paRd GA GM) (K x) (kcell x.1 x.2))
    ∗ (bigSep Finset.univ fun x : Dev nD × CK => reached ER (kcell x.1 x.2) 0) ∗ levAts L lv)

omit [FloatOps F] in
/-- The protocol's records stay known. -/
instance records_persistent : Persistent (records GA GM K) := by unfold records; infer_instance

omit [FloatOps F] in
/-- Every cell's invariant is known. -/
theorem inv_at (c : Dev nD) (k : CK) : records GA GM K ⊢ cellInv ER (paRd GA GM) (K (c, k)) (kcell c k) :=
  sep_elim_left.trans (bigSep_elim (Φ := fun x : Dev nD × CK => cellInv ER (paRd GA GM) (K x) (kcell x.1 x.2)) (Finset.mem_univ (c, k)))
omit [FloatOps F] in
/-- Every cell is in its round. -/
theorem reached_at (c : Dev nD) (k : CK) : records GA GM K ⊢ (reached ER (kcell c k) 0 : sProp 𝕄) :=
  sep_elim_right.trans (sep_elim_left.trans
    (bigSep_elim (Φ := fun x : Dev nD × CK => (reached ER (kcell x.1 x.2) 0 : sProp 𝕄)) (Finset.mem_univ (c, k))))
omit [FloatOps F] in
/-- The levels are known. -/
theorem levs_at : records GA GM K ⊢ levAts L lv := by
  unfold records
  iintro ⟨-, -, H⟩
  iexact H

/-! ## The signals -/

/-- Before the signals to the devices of `l`: each comes with this device's rows for it. -/
def SigSt (c : Dev nD) (l : List (Dev nD)) : sProp 𝕄 :=
  iprop((∃ W, owes (c : Thread nD τ) (sends c devs + sigs c l) W)
    ∗ sepL l fun t => other c t iprop(dutyTok ER (barCell t) 0 c ∗ barPay (F := F) t c))

/-- One signal to another device, taken off the list. -/
theorem sigs_cons (c t : Dev nD) (l : List (Dev nD)) (h : c ≠ t) : sigs c (t :: l) = sigs c l + tallyAt (barCell t) () 1 := by
  unfold sigs; rw [List.map_cons, List.sum_cons, sigDue, if_neg h, add_comm]
/-- No signal to the device itself. -/
theorem sigs_skip (c t : Dev nD) (l : List (Dev nD)) (h : c = t) : sigs c (t :: l) = sigs c l := by
  unfold sigs; rw [List.map_cons, List.sum_cons, sigDue, if_pos h, zero_add]
/-- One pair of copies to another device, taken off the list. -/
theorem sends_cons (c t : Dev nD) (l : List (Dev nD)) (h : c ≠ t) :
    sends c (t :: l) = sends c l + tallyAt (cell t 3 c) () NM + tallyAt (cell t 1 c) () NA := by
  unfold sends; rw [List.map_cons, List.sum_cons, sendDue, if_neg h, add_comm, add_assoc]
/-- No copy to the device itself. -/
theorem sends_skip (c t : Dev nD) (l : List (Dev nD)) (h : c = t) : sends c (t :: l) = sends c l := by
  unfold sends; rw [List.map_cons, List.sum_cons, sendDue, if_pos h, zero_add]

omit [FloatOps F] in
/-- Signalling another device's barrier is a duty. -/
theorem mem_bar (c t : Dev nD) (h : c ≠ t) : c ∈ (paRd GA GM).duties (barCell t) 0 := by
  rw [duties_k]; exact Finset.mem_erase.mpr ⟨h, Finset.mem_univ _⟩
omit [FloatOps F] in
/-- A copy between two devices is a duty. -/
theorem mem_cell (c : Dev nD) (j : Fin 4) (k : Dev nD) (h : k ≠ c) : k ∈ (paRd GA GM).duties (cell c j k) 0 := by
  rw [duties_k]; simp only [kDuties, if_neg h]; exact Finset.mem_singleton_self _

/-- One signal to another device. -/
theorem signal_one (c t : Dev nD) (hne : c ≠ t) (O : CellTallies nD τ sig Unit) (W : Waits sig Unit) {α : Type}
    {k : PUnit → Prog (TpuEff nD τ sig (Elt F) Λ₀ (c : Thread nD τ).2) α} (Q : α → sProp 𝕄) :
    iprop(records GA GM K ∗ owes (c : Thread nD τ) (O + tallyAt (barCell t) () 1) W ∗ dutyTok ER (barCell t) 0 c ∗ barPay (F := F) t c)
      ⊢ iprop((owes (c : Thread nD τ) O W -∗ wp frame (wpE (defs₀ (F := F)) 𝒱₀ c none) Set.univ (k ⟨⟩) Q)
        -∗ wp frame (wpE (defs₀ (F := F)) 𝒱₀ c none) Set.univ (.op (.semSignal (t : Thread nD τ) barS 1) k) Q) := by
  have hpay : (paRd GA GM).payload ((t : Thread nD τ), .reg barS) 0 c = barPay (F := F) t c := payload_k GA GM t none c
  iintro ⟨#HR, HO, Htok, Hpay⟩ Hk
  ihave #HI := (inv_at GA GM K t none) $$ HR
  ihave #Hr := (reached_at GA GM K t none) $$ HR
  iapply (Rounds.wp_signal 𝒱₀ ER (paRd GA GM) (c : Thread nD τ) none (dst := (t : Thread nD τ)) (sem := barS) (κ := K (t, none)) (r := 0)
    (d := c) (mem_bar GA GM c t hne) (amount_k GA GM t none c) () O rfl) $$ [HO Htok Hpay]
  · isplitr; · iexact HI
    isplitl [HO]; · iexact HO
    isplitl [Htok]; · iexact Htok
    isplitl [Hpay]; · rw [hpay]; iexact Hpay
    iexact Hr
  iexact Hk

/-- One guarded signal to a device's barrier. -/
theorem sig_step (c t : Dev nD) (l : List (Dev nD)) {p : Prop} [Decidable p] {dev : p → Dev nD}
    (hp : p ↔ c ≠ t) (hdev : ∀ h, dev h = t) (Q : Unit → sProp 𝕄) :
    iprop(records GA GM K ∗ SigSt (F := F) c (t :: l))
      ⊢ iprop((SigSt (F := F) c l -∗ Q ⟨⟩) -∗ wp frame (wpE (defs₀ (F := F)) 𝒱₀ c none) Set.univ
          (if h : p then (do semSignalWord (dev h) barS 1#32; pure ⟨⟩) else pure ⟨⟩) Q) := by
  by_cases h : p
  · rw [dif_pos h, hdev h]
    have hne : c ≠ t := hp.mp h
    simp only [semSignalWord, Prog.lift, Prog.bind_op, Prog.bind_ret, Prog.pure_eq_ret]
    unfold SigSt
    rw [sepL, other, if_neg hne]
    iintro ⟨#HR, ⟨%W, HO⟩, ⟨Htok, Hpay⟩, Hl⟩ Hk
    rw [sigs_cons c t l hne, ← add_assoc]
    iapply (signal_one GA GM K c t hne (sends c devs + sigs c l) W Q) $$ [HO Htok Hpay]
    · isplitr; · iexact HR
      isplitl [HO]; · iexact HO
      isplitl [Htok] <;> iassumption
    iintro HO
    rw [wp_ret]; imodintro
    iapply Hk
    isplitl [HO]; · iexists W; iexact HO
    iexact Hl
  · rw [dif_neg h]
    have he : c = t := by by_contra h'; exact h (hp.mpr h')
    simp only [Prog.pure_eq_ret]
    unfold SigSt
    rw [sepL, other, if_pos he]
    iintro ⟨#HR, ⟨%W, HO⟩, -, Hl⟩ Hk
    rw [wp_ret]; imodintro
    iapply Hk
    isplitl [HO]
    · iexists W
      rw [← sigs_skip c t l he]
      iexact HO
    iexact Hl

/-! ## The copies -/

omit [FloatOps F] in
/-- A row of numerators once it has landed. -/
theorem acc_landed (c s : Dev nD) (fd : cc0_scratch7.ty.Contents (Elt F)) :
    ((accRow s).view.loc (c : Thread nD τ) ↦[(accRow s).view.set]{fullShare} ((accRow s).view.write (Elt F) fd ((accRow s).view.read (Elt F) GA) Finset.univ) : sProp 𝕄)
      = accPts c s fullShare GA := by
  unfold accPts
  refine pointsTo_congr fun i hi => ?_
  rw [View.write_read_eq_piecewise]
  exact Finset.piecewise_eq_of_mem _ _ _ hi
omit [FloatOps F] in
/-- A row of maxima and denominators once it has landed. -/
theorem ml_landed (c s : Dev nD) (fd : cc0_scratch8.ty.Contents (Elt F)) :
    ((mlRow s).view.loc (c : Thread nD τ) ↦[(mlRow s).view.set]{fullShare} ((mlRow s).view.write (Elt F) fd ((mlRow s).view.read (Elt F) GM) Finset.univ) : sProp 𝕄)
      = mlPts c s fullShare GM := by
  unfold mlPts
  refine pointsTo_congr fun i hi => ?_
  rw [View.write_read_eq_piecewise]
  exact Finset.piecewise_eq_of_mem _ _ _ hi

/-- What the copies to `t` take: the lent shares of the own rows, the peer's rows, the duties' tokens. -/
def sendTodo (c t : Dev nD) : sProp 𝕄 :=
  iprop(accPts c c (lent t) GA ∗ mlPts c c (lent t) GM
    ∗ other c t iprop(barPay (F := F) c t ∗ dutyTok ER (cell c 0 t) 0 t ∗ dutyTok ER (cell c 2 t) 0 t
        ∗ dutyTok ER (cell t 1 c) 0 c ∗ dutyTok ER (cell t 3 c) 0 c))
/-- What they leave: the credits of their send cells (for the device itself: its shares, untouched). -/
def sendDone (c t : Dev nD) : sProp 𝕄 :=
  if c = t then iprop(accPts c c (lent t) GA ∗ mlPts c c (lent t) GM)
  else iprop(cred (tallyAt (cell c 0 t) () NA) ∗ cred (tallyAt (cell c 2 t) () NM))

/-- Between sends: the devices still to be sent to, and those sent to. -/
def SendSt (c : Dev nD) (l d : List (Dev nD)) : sProp 𝕄 :=
  iprop((∃ W, owes (c : Thread nD τ) (sends c l) W) ∗ sepL l (sendTodo GA GM c) ∗ sepL d (sendDone GA GM c))

/-- One copy of the device's row of `comm_acc` to another device. -/
theorem send_acc (c t : Dev nD) (hne : c ≠ t) (O : CellTallies nD τ sig Unit) (W : Waits sig Unit) (fd : cc0_scratch7.ty.Contents (Elt F)) {α : Type}
    {dev : Dev nD} {A B : DmaSem sig} {src dst : Memref sig .tc .vmem S8x8x128 .f32}
    {hsc : dst.view.ref.isScScratch = false} {hw : src.view.WordExact} {hw' : dst.view.WordExact}
    {hty : DmaTarget.Typed (nD := nD) (τ := τ) (p := .tc) .vmem (.dma B) (.remote (Dev.tc dev) dst (.dma A) hsc)}
    (hdev : dev = t) (hA : A = semAt (fam 0) t) (hB : B = semAt (fam 1) c) (hs : src = accRow c) (hd : dst = accRow c)
    {k : PUnit → Prog (TpuEff nD τ sig (Elt F) Λ₀ (c : Thread nD τ).2) α} (Q : α → sProp 𝕄) :
    iprop(records GA GM K ∗ owes (c : Thread nD τ) (O + tallyAt (cell t 1 c) () NA) W ∗ dutyTok ER (cell c 0 t) 0 t ∗ dutyTok ER (cell t 1 c) 0 c
        ∗ accPts c c (lent t) GA ∗ accPts t c fullShare fd)
      ⊢ iprop(((owes (c : Thread nD τ) O W ∗ cred (tallyAt (cell c 0 t) () NA)) -∗ wp frame (wpE (defs₀ (F := F)) 𝒱₀ c none) Set.univ (k ⟨⟩) Q)
        -∗ wp frame (wpE (defs₀ (F := F)) 𝒱₀ c none) Set.univ (.op (.enqueueDma src (.remote (Dev.tc dev) dst (.dma A) hsc) (.dma B) hw hw' hty) k) Q) := by
  subst hdev hA hB hs hd
  have hp1 : (paRd GA GM).payload ((c : Thread nD τ), .dma (semAt (fam 0) dev)) 0 dev = accPts c c (lent dev) GA := payload_k GA GM c (some (0, dev)) dev
  have hp2 : (paRd GA GM).payload ((dev : Thread nD τ), .dma (semAt (fam 1) c)) 0 c = accPts dev c fullShare GA := payload_k GA GM dev (some (1, c)) c
  iintro ⟨#HR, HO, Ht1, Ht2, Hs, Hd⟩ Hk
  ihave #HI1 := (inv_at GA GM K c (some (0, dev))) $$ HR
  ihave #Hr1 := (reached_at GA GM K c (some (0, dev))) $$ HR
  ihave #HI2 := (inv_at GA GM K dev (some (1, c))) $$ HR
  ihave #Hr2 := (reached_at GA GM K dev (some (1, c))) $$ HR
  iapply (Rounds.wp_send_pointsTo 𝒱₀ ER (paRd GA GM) (c : Thread nD τ) none (c' := (dev : Thread nD τ)) (src := accRow c) (dst := accRow c)
    (sS := .dma (semAt (fam 0) dev)) (sem := .dma (semAt (fam 1) c)) (q := lent dev) (fs := GA) (fd := fd)
    (κ₁ := K (c, some (0, dev))) (κ₂ := K (dev, some (1, c))) (r₁ := 0) (r₂ := 0) (d₁ := dev) (d₂ := c)
    (mem_cell GA GM c 0 dev hne.symm) (mem_cell GA GM dev 1 c hne) () () NA (accRow_credit c)
    (amount_k GA GM c (some (0, dev)) dev) (amount_k GA GM dev (some (1, c)) c) O rfl (W := W)
    (by rw [hp1]; unfold accPts; exact Entails.rfl) (by rw [hp2, acc_landed])) $$ [HO Ht1 Ht2 Hs Hd]
  · isplitr; · iexact HI1
    isplitr; · iexact HI2
    unfold accPts
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexact HO
  iexact Hc

/-- One copy of the device's row of `comm_ml` to another device. -/
theorem send_ml (c t : Dev nD) (hne : c ≠ t) (O : CellTallies nD τ sig Unit) (W : Waits sig Unit) (fd : cc0_scratch8.ty.Contents (Elt F)) {α : Type}
    {dev : Dev nD} {A B : DmaSem sig} {src dst : Memref sig .tc .vmem S8x2x8x1 .f32}
    {hsc : dst.view.ref.isScScratch = false} {hw : src.view.WordExact} {hw' : dst.view.WordExact}
    {hty : DmaTarget.Typed (nD := nD) (τ := τ) (p := .tc) .vmem (.dma B) (.remote (Dev.tc dev) dst (.dma A) hsc)}
    (hdev : dev = t) (hA : A = semAt (fam 2) t) (hB : B = semAt (fam 3) c) (hs : src = mlRow c) (hd : dst = mlRow c)
    {k : PUnit → Prog (TpuEff nD τ sig (Elt F) Λ₀ (c : Thread nD τ).2) α} (Q : α → sProp 𝕄) :
    iprop(records GA GM K ∗ owes (c : Thread nD τ) (O + tallyAt (cell t 3 c) () NM) W ∗ dutyTok ER (cell c 2 t) 0 t ∗ dutyTok ER (cell t 3 c) 0 c
        ∗ mlPts c c (lent t) GM ∗ mlPts t c fullShare fd)
      ⊢ iprop(((owes (c : Thread nD τ) O W ∗ cred (tallyAt (cell c 2 t) () NM)) -∗ wp frame (wpE (defs₀ (F := F)) 𝒱₀ c none) Set.univ (k ⟨⟩) Q)
        -∗ wp frame (wpE (defs₀ (F := F)) 𝒱₀ c none) Set.univ (.op (.enqueueDma src (.remote (Dev.tc dev) dst (.dma A) hsc) (.dma B) hw hw' hty) k) Q) := by
  subst hdev hA hB hs hd
  have hp1 : (paRd GA GM).payload ((c : Thread nD τ), .dma (semAt (fam 2) dev)) 0 dev = mlPts c c (lent dev) GM := payload_k GA GM c (some (2, dev)) dev
  have hp2 : (paRd GA GM).payload ((dev : Thread nD τ), .dma (semAt (fam 3) c)) 0 c = mlPts dev c fullShare GM := payload_k GA GM dev (some (3, c)) c
  iintro ⟨#HR, HO, Ht1, Ht2, Hs, Hd⟩ Hk
  ihave #HI1 := (inv_at GA GM K c (some (2, dev))) $$ HR
  ihave #Hr1 := (reached_at GA GM K c (some (2, dev))) $$ HR
  ihave #HI2 := (inv_at GA GM K dev (some (3, c))) $$ HR
  ihave #Hr2 := (reached_at GA GM K dev (some (3, c))) $$ HR
  iapply (Rounds.wp_send_pointsTo 𝒱₀ ER (paRd GA GM) (c : Thread nD τ) none (c' := (dev : Thread nD τ)) (src := mlRow c) (dst := mlRow c)
    (sS := .dma (semAt (fam 2) dev)) (sem := .dma (semAt (fam 3) c)) (q := lent dev) (fs := GM) (fd := fd)
    (κ₁ := K (c, some (2, dev))) (κ₂ := K (dev, some (3, c))) (r₁ := 0) (r₂ := 0) (d₁ := dev) (d₂ := c)
    (mem_cell GA GM c 2 dev hne.symm) (mem_cell GA GM dev 3 c hne) () () NM (mlRow_credit c)
    (amount_k GA GM c (some (2, dev)) dev) (amount_k GA GM dev (some (3, c)) c) O rfl (W := W)
    (by rw [hp1]; unfold mlPts; exact Entails.rfl) (by rw [hp2, ml_landed])) $$ [HO Ht1 Ht2 Hs Hd]
  · isplitr; · iexact HI1
    isplitr; · iexact HI2
    unfold mlPts
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexact HO
  iexact Hc

/-- One guarded pair of sends. -/
theorem send_step (c t : Dev nD) (l d : List (Dev nD)) {p : Prop} [Decidable p]
    {dev₁ dev₂ : p → Dev nD} {A B A' B' : p → DmaSem sig}
    {sa da : p → Memref sig .tc .vmem S8x8x128 .f32} {sm dm : p → Memref sig .tc .vmem S8x2x8x1 .f32}
    {ha : ∀ h, (da h).view.ref.isScScratch = false} {hm : ∀ h, (dm h).view.ref.isScScratch = false}
    {wa : ∀ h, (sa h).view.WordExact} {wa' : ∀ h, (da h).view.WordExact} {wm : ∀ h, (sm h).view.WordExact} {wm' : ∀ h, (dm h).view.WordExact}
    {ta : ∀ h, DmaTarget.Typed (nD := nD) (τ := τ) (p := .tc) .vmem (.dma (B h)) (.remote (Dev.tc (dev₁ h)) (da h) (.dma (A h)) (ha h))}
    {tm : ∀ h, DmaTarget.Typed (nD := nD) (τ := τ) (p := .tc) .vmem (.dma (B' h)) (.remote (Dev.tc (dev₂ h)) (dm h) (.dma (A' h)) (hm h))}
    (hp : p ↔ c ≠ t) (hdev₁ : ∀ h, dev₁ h = t) (hdev₂ : ∀ h, dev₂ h = t)
    (hA : ∀ h, A h = semAt (fam 0) t) (hB : ∀ h, B h = semAt (fam 1) c) (hA' : ∀ h, A' h = semAt (fam 2) t) (hB' : ∀ h, B' h = semAt (fam 3) c)
    (hsa : ∀ h, sa h = accRow c) (hda : ∀ h, da h = accRow c) (hsm : ∀ h, sm h = mlRow c) (hdm : ∀ h, dm h = mlRow c)
    (Q : Unit → sProp 𝕄) :
    iprop(records GA GM K ∗ SendSt GA GM c (t :: l) d)
      ⊢ iprop((SendSt GA GM c l (t :: d) -∗ Q ⟨⟩) -∗ wp frame (wpE (defs₀ (F := F)) 𝒱₀ c none) Set.univ
          (if h : p then (do
            Prog.lift (.enqueueDma (sa h) (.remote (Dev.tc (dev₁ h)) (da h) (.dma (A h)) (ha h)) (.dma (B h)) (wa h) (wa' h) (ta h))
            Prog.lift (.enqueueDma (sm h) (.remote (Dev.tc (dev₂ h)) (dm h) (.dma (A' h)) (hm h)) (.dma (B' h)) (wm h) (wm' h) (tm h))
            pure ⟨⟩) else pure ⟨⟩) Q) := by
  by_cases h : p
  · rw [dif_pos h]
    have hne : c ≠ t := hp.mp h
    simp only [Prog.lift, Prog.bind_op, Prog.bind_ret, Prog.pure_eq_ret]
    unfold SendSt
    rw [sends_cons c t l hne]
    simp only [sepL, sendTodo, sendDone, other, if_neg hne, barPay]
    iintro ⟨#HR, ⟨%W, HO⟩, ⟨⟨Ha, Hm, ⟨⟨%fa, Hta⟩, ⟨%fm, Htm⟩⟩, Ht0, Ht2, Ht1, Ht3⟩, Hl⟩, Hd⟩ Hk
    iapply (send_acc GA GM K c t hne (sends c l + tallyAt (cell t 3 c) () NM) W fa (hdev₁ h) (hA h) (hB h) (hsa h) (hda h) Q) $$ [HO Ha Hta Ht0 Ht1]
    · isplitr; · iexact HR
      isplitl [HO]; · iexact HO
      isplitl [Ht0]; · iexact Ht0
      isplitl [Ht1]; · iexact Ht1
      isplitl [Ha] <;> iassumption
    iintro ⟨HO, Hca⟩
    iapply (send_ml GA GM K c t hne (sends c l) W fm (hdev₂ h) (hA' h) (hB' h) (hsm h) (hdm h) Q) $$ [HO Hm Htm Ht2 Ht3]
    · isplitr; · iexact HR
      isplitl [HO]; · iexact HO
      isplitl [Ht2]; · iexact Ht2
      isplitl [Ht3]; · iexact Ht3
      isplitl [Hm] <;> iassumption
    iintro ⟨HO, Hcm⟩
    rw [wp_ret]; imodintro
    iapply Hk
    isplitl [HO]; · iexists W; iexact HO
    isplitl [Hl]; · iexact Hl
    isplitr [Hd]; · isplitl [Hca] <;> iassumption
    iexact Hd
  · rw [dif_neg h]
    have he : c = t := by by_contra h'; exact h (hp.mpr h')
    simp only [Prog.pure_eq_ret]
    unfold SendSt
    simp only [sepL, sendTodo, sendDone, other, if_pos he]
    iintro ⟨#HR, ⟨%W, HO⟩, ⟨⟨Ha, Hm, -⟩, Hl⟩, Hd⟩ Hk
    rw [wp_ret]; imodintro
    iapply Hk
    isplitl [HO]
    · iexists W
      rw [← sends_skip c t l he]
      iexact HO
    isplitl [Hl]; · iexact Hl
    isplitr [Hd]; · isplitl [Ha] <;> iassumption
    iexact Hd

/-! ## The waits -/

/-- A wait for a copy's completion on entry `k` of family `j`, nothing owed: the payload, and the cell closed. -/
theorem wait_one (c : Dev nD) (j : Fin 4) (k₀ : Dev nD) (hne : k₀ ≠ c) (W : Waits sig Unit) {α : Type} {sp sp' : Space} {s s' : Shape} {e e' : EltTy}
    {A : DmaSem sig} {src : Memref sig .tc sp' s' e'} {dst : Memref sig .tc sp s e} {hw : src.view.WordExact} {hw' : dst.view.WordExact}
    (hA : A = semAt (fam j) k₀) (hN : dst.view.dmaCredit = NJ j)
    {k : PUnit → Prog (TpuEff nD τ sig (Elt F) Λ₀ (c : Thread nD τ).2) α} (Q : α → sProp 𝕄) :
    iprop(records GA GM K ∗ owes (c : Thread nD τ) 0 W ∗ atPos ER (cell c j k₀) 0 ∅ 0 ∗ cred (tallyAt (cell c j k₀) () (NJ j)))
      ⊢ iprop(((∃ W, owes (c : Thread nD τ) 0 W) ∗ semVal (cell c j k₀) 0 ∗ copyPay GA GM c j k₀ -∗ wp frame (wpE (defs₀ (F := F)) 𝒱₀ c none) Set.univ (k ⟨⟩) Q)
        -∗ wp frame (wpE (defs₀ (F := F)) 𝒱₀ c none) Set.univ (.op (.waitDma2 A src dst hw hw') k) Q) := by
  subst hA
  iintro ⟨#HR, HO, Hat, Hcr⟩ Hk
  ihave #HI := (inv_at GA GM K c (some (j, k₀))) $$ HR
  iapply (Rounds.wp_wait_rest_token 𝒱₀ ER (paRd GA GM) (c : Thread nD τ) none (κ := K (c, some (j, k₀)))
      (wpE_waitDma2_eq 𝒱₀ (c : Thread nD τ) none Set.univ) (Set.mem_univ _) () (O := 0) (W := W) (R := 0) (m := 0) (T := ∅)
      (by rw [Nat.zero_add, hN]; exact (expect_cell GA GM c j k₀ hne).symm)) $$ [HO Hat Hcr]
  · isplitr; · iexact HI
    isplitl [Hcr]; · rw [hN]; iexact Hcr
    isplitl [HO]; · iexact HO
    isplitr; · rw [MayWait_zero]; iempintro
    iexact Hat
  iintro ⟨HO, Hat, -, Hpay⟩
  have hrest : bigSep ((paRd GA GM).duties ((c : Thread nD τ), .dma (semAt (fam j) k₀)) 0 \ ∅)
      (fun d => (paRd GA GM).payload ((c : Thread nD τ), .dma (semAt (fam j) k₀)) 0 d) = copyPay GA GM c j k₀ := rest_cell GA GM c j k₀ hne
  ihave Hp := (Entails.of_eq hrest) $$ Hpay
  imod (Rounds.cell_close ER (paRd GA GM) (Set.mem_univ (K (c, some (j, k₀)))) (fun h => h) (R := 0 + 1) (duties_later GA GM (cell c j k₀))) $$ [Hat] with Hz
  · isplitr; · iexact HI
    iexact Hat
  iapply Hk
  isplitl [HO]; · iexists _; iexact HO
  isplitl [Hz] <;> iassumption

/-- The wait for device `s`'s copies: the positions of the receive cells and, for another device, their credits. -/
def recvTodo (c s : Dev nD) : sProp 𝕄 :=
  iprop(atPos ER (cell c 1 s) 0 ∅ 0 ∗ atPos ER (cell c 3 s) 0 ∅ 0
    ∗ other c s iprop(cred (tallyAt (cell c 1 s) () NA) ∗ cred (tallyAt (cell c 3 s) () NM)))
/-- After it: the cells at zero and device `s`'s rows. -/
def recvDone (c s : Dev nD) : sProp 𝕄 :=
  iprop(semVal (cell c 1 s) 0 ∗ semVal (cell c 3 s) 0 ∗ other c s iprop(accPts c s fullShare GA ∗ mlPts c s fullShare GM))
/-- The wait for the copies to `t` to have been read. -/
def sentTodo (c t : Dev nD) : sProp 𝕄 :=
  iprop(atPos ER (cell c 0 t) 0 ∅ 0 ∗ atPos ER (cell c 2 t) 0 ∅ 0 ∗ sendDone GA GM c t)
/-- After it: the cells at zero and the lent shares back. -/
def sentDone (c t : Dev nD) : sProp 𝕄 :=
  iprop(semVal (cell c 0 t) 0 ∗ semVal (cell c 2 t) 0 ∗ accPts c c (lent t) GA ∗ mlPts c c (lent t) GM)

/-- Between receive waits: the rows still to come, and those that came. -/
def RecvSt (c : Dev nD) (l d : List (Dev nD)) : sProp 𝕄 :=
  iprop((∃ W, owes (c : Thread nD τ) 0 W) ∗ sepL l (recvTodo (F := F) c) ∗ sepL d (recvDone GA GM c))
/-- Between send waits: the shares still out, and those back. -/
def SentSt (c : Dev nD) (l d : List (Dev nD)) : sProp 𝕄 :=
  iprop((∃ W, owes (c : Thread nD τ) 0 W) ∗ sepL l (sentTodo GA GM c) ∗ sepL d (sentDone GA GM c))

/-- A device's own entry of a family is never used: it closes as it began. -/
theorem close_self (c : Dev nD) (j : Fin 4) : iprop(records GA GM K ∗ atPos ER (cell c j c) 0 ∅ 0) ⊢ (iprop(|={Set.univ}=> semVal (cell c j c) 0) : sProp 𝕄) := by
  iintro ⟨#HR, Hat⟩
  ihave #HI := (inv_at GA GM K c (some (j, c))) $$ HR
  imod (Rounds.cell_close ER (paRd GA GM) (Set.mem_univ (K (c, some (j, c)))) (fun h => h) (R := 0) (duties_self GA GM c j)) $$ [Hat] with Hz
  · isplitr; · iexact HI
    iexact Hat
  imodintro
  iexact Hz

/-- One guarded pair of receive waits. -/
theorem recv_step (c t : Dev nD) (l d : List (Dev nD)) {p : Prop} [Decidable p] {A A' : p → DmaSem sig}
    {sa da : p → Memref sig .tc .vmem S8x8x128 .f32} {sm dm : p → Memref sig .tc .vmem S8x2x8x1 .f32}
    {wa : ∀ h, (sa h).view.WordExact} {wa' : ∀ h, (da h).view.WordExact} {wm : ∀ h, (sm h).view.WordExact} {wm' : ∀ h, (dm h).view.WordExact}
    (hp : p ↔ c ≠ t) (hA : ∀ h, A h = semAt (fam 1) t) (hA' : ∀ h, A' h = semAt (fam 3) t)
    (hda : ∀ h, (da h).view.dmaCredit = NA) (hdm : ∀ h, (dm h).view.dmaCredit = NM) (Q : Unit → sProp 𝕄) :
    iprop(records GA GM K ∗ RecvSt GA GM c (t :: l) d)
      ⊢ iprop((RecvSt GA GM c l (t :: d) -∗ Q ⟨⟩) -∗ wp frame (wpE (defs₀ (F := F)) 𝒱₀ c none) Set.univ
          (if h : p then (do
            Prog.lift (.waitDma2 (A h) (sa h) (da h) (wa h) (wa' h))
            Prog.lift (.waitDma2 (A' h) (sm h) (dm h) (wm h) (wm' h))
            pure ⟨⟩) else pure ⟨⟩) Q) := by
  by_cases h : p
  · rw [dif_pos h]
    have hne : c ≠ t := hp.mp h
    simp only [Prog.lift, Prog.bind_op, Prog.bind_ret, Prog.pure_eq_ret]
    unfold RecvSt
    simp only [sepL, recvTodo, recvDone, other, if_neg hne]
    iintro ⟨#HR, ⟨%W, HO⟩, ⟨⟨Hat1, Hat3, Hc1, Hc3⟩, Hl⟩, Hd⟩ Hk
    iapply (wait_one GA GM K c 1 t hne.symm W (hA h) (hda h) Q) $$ [HO Hat1 Hc1]
    · isplitr; · iexact HR
      isplitl [HO]; · iexact HO
      isplitl [Hat1]; · iexact Hat1
      iexact Hc1
    iintro ⟨⟨%W', HO⟩, Hz1, Ha⟩
    iapply (wait_one GA GM K c 3 t hne.symm W' (hA' h) (hdm h) Q) $$ [HO Hat3 Hc3]
    · isplitr; · iexact HR
      isplitl [HO]; · iexact HO
      isplitl [Hat3]; · iexact Hat3
      iexact Hc3
    iintro ⟨HO, Hz3, Hm⟩
    rw [wp_ret]; imodintro
    iapply Hk
    isplitl [HO]; · iexact HO
    isplitl [Hl]; · iexact Hl
    isplitr [Hd]
    · isplitl [Hz1]; · iexact Hz1
      isplitl [Hz3]; · iexact Hz3
      isplitl [Ha]; · iapply (Entails.of_eq (show copyPay GA GM c 1 t = accPts c t fullShare GA from rfl)); iexact Ha
      iapply (Entails.of_eq (show copyPay GA GM c 3 t = mlPts c t fullShare GM from rfl)); iexact Hm
    iexact Hd
  · rw [dif_neg h]
    have he : c = t := by by_contra h'; exact h (hp.mpr h')
    subst he
    simp only [Prog.pure_eq_ret]
    unfold RecvSt
    simp only [sepL, recvTodo, recvDone, other, if_true]
    iintro ⟨#HR, HO, ⟨⟨Hat1, Hat3, -⟩, Hl⟩, Hd⟩ Hk
    imod (close_self GA GM K c 1) $$ [Hat1] with Hz1
    · isplitr; · iexact HR
      iexact Hat1
    imod (close_self GA GM K c 3) $$ [Hat3] with Hz3
    · isplitr; · iexact HR
      iexact Hat3
    rw [wp_ret]; imodintro
    iapply Hk
    isplitl [HO]; · iexact HO
    isplitl [Hl]; · iexact Hl
    isplitr [Hd]
    · isplitl [Hz1]; · iexact Hz1
      isplitl [Hz3]; · iexact Hz3
      iempintro
    iexact Hd

/-- One guarded pair of send waits. -/
theorem sent_step (c t : Dev nD) (l d : List (Dev nD)) {p : Prop} [Decidable p] {A A' : p → DmaSem sig}
    {sa da : p → Memref sig .tc .vmem S8x8x128 .f32} {sm dm : p → Memref sig .tc .vmem S8x2x8x1 .f32}
    {wa : ∀ h, (sa h).view.WordExact} {wa' : ∀ h, (da h).view.WordExact} {wm : ∀ h, (sm h).view.WordExact} {wm' : ∀ h, (dm h).view.WordExact}
    (hp : p ↔ c ≠ t) (hA : ∀ h, A h = semAt (fam 0) t) (hA' : ∀ h, A' h = semAt (fam 2) t)
    (hda : ∀ h, (da h).view.dmaCredit = NA) (hdm : ∀ h, (dm h).view.dmaCredit = NM) (Q : Unit → sProp 𝕄) :
    iprop(records GA GM K ∗ SentSt GA GM c (t :: l) d)
      ⊢ iprop((SentSt GA GM c l (t :: d) -∗ Q ⟨⟩) -∗ wp frame (wpE (defs₀ (F := F)) 𝒱₀ c none) Set.univ
          (if h : p then (do
            Prog.lift (.waitDma2 (A h) (sa h) (da h) (wa h) (wa' h))
            Prog.lift (.waitDma2 (A' h) (sm h) (dm h) (wm h) (wm' h))
            pure ⟨⟩) else pure ⟨⟩) Q) := by
  by_cases h : p
  · rw [dif_pos h]
    have hne : c ≠ t := hp.mp h
    simp only [Prog.lift, Prog.bind_op, Prog.bind_ret, Prog.pure_eq_ret]
    unfold SentSt
    simp only [sepL, sentTodo, sentDone, sendDone, if_neg hne]
    iintro ⟨#HR, ⟨%W, HO⟩, ⟨⟨Hat1, Hat3, Hc1, Hc3⟩, Hl⟩, Hd⟩ Hk
    iapply (wait_one GA GM K c 0 t hne.symm W (hA h) (hda h) Q) $$ [HO Hat1 Hc1]
    · isplitr; · iexact HR
      isplitl [HO]; · iexact HO
      isplitl [Hat1]; · iexact Hat1
      iexact Hc1
    iintro ⟨⟨%W', HO⟩, Hz1, Ha⟩
    iapply (wait_one GA GM K c 2 t hne.symm W' (hA' h) (hdm h) Q) $$ [HO Hat3 Hc3]
    · isplitr; · iexact HR
      isplitl [HO]; · iexact HO
      isplitl [Hat3]; · iexact Hat3
      iexact Hc3
    iintro ⟨HO, Hz3, Hm⟩
    rw [wp_ret]; imodintro
    iapply Hk
    isplitl [HO]; · iexact HO
    isplitl [Hl]; · iexact Hl
    isplitr [Hd]
    · isplitl [Hz1]; · iexact Hz1
      isplitl [Hz3]; · iexact Hz3
      isplitl [Ha]; · iapply (Entails.of_eq (show copyPay GA GM c 0 t = accPts c c (lent t) GA from rfl)); iexact Ha
      iapply (Entails.of_eq (show copyPay GA GM c 2 t = mlPts c c (lent t) GM from rfl)); iexact Hm
    iexact Hd
  · rw [dif_neg h]
    have he : c = t := by by_contra h'; exact h (hp.mpr h')
    subst he
    simp only [Prog.pure_eq_ret]
    unfold SentSt
    simp only [sepL, sentTodo, sentDone, sendDone, if_true]
    iintro ⟨#HR, HO, ⟨⟨Hat1, Hat3, Ha, Hm⟩, Hl⟩, Hd⟩ Hk
    imod (close_self GA GM K c 0) $$ [Hat1] with Hz1
    · isplitr; · iexact HR
      iexact Hat1
    imod (close_self GA GM K c 2) $$ [Hat3] with Hz3
    · isplitr; · iexact HR
      iexact Hat3
    rw [wp_ret]; imodintro
    iapply Hk
    isplitl [HO]; · iexact HO
    isplitl [Hl]; · iexact Hl
    isplitr [Hd]
    · isplitl [Hz1]; · iexact Hz1
      isplitl [Hz3]; · iexact Hz3
      isplitl [Ha] <;> iassumption
    iexact Hd

/-! ## The barrier's wait -/

omit [FloatOps F] in
/-- Facts over a set of devices, as a list. -/
theorem bigSep_list (P : Dev nD → sProp 𝕄) : ∀ l : List (Dev nD), l.Nodup → bigSep l.toFinset P = sepL l P
  | [], _ => by rw [List.toFinset_nil, bigSep_empty]; rfl
  | t :: l, h => by
    rw [List.toFinset_cons, bigSep_insert (by rw [List.mem_toFinset]; exact (List.nodup_cons.mp h).1), bigSep_list P l (List.nodup_cons.mp h).2]
    rfl
omit [FloatOps F] in
/-- Over all devices, along the list of devices. -/
theorem bigSep_devs (P : Dev nD → sProp 𝕄) : bigSep Finset.univ P = sepL devs P := by
  rw [← bigSep_list P devs (by decide)]; exact congrArg (fun S => bigSep S P) (by decide)

omit [FloatOps F] in
/-- Over the other devices. -/
theorem bigSep_others (c : Dev nD) (P : Dev nD → sProp 𝕄) :
    bigSep (Finset.univ.erase c) P ⊢ sepL devs fun t => other c t (P t) := by
  rw [← bigSep_devs, bigSep_erase (Finset.mem_univ c), other, if_pos rfl,
    bigSep_congr fun d hd => show P d = other c d (P d) from (if_neg (Finset.ne_of_mem_erase hd).symm).symm]
  exact (BIClass.emp_sep (PROP := sProp 𝕄)).2

/-- The wait at the barrier: every other device has lent its row. -/
theorem bar_wait (c : Dev nD) (O : CellTallies nD τ sig Unit) {α : Type} (hO : O = sends c devs)
    {k : PUnit → Prog (TpuEff nD τ sig (Elt F) Λ₀ (c : Thread nD τ).2) α} (Q : α → sProp 𝕄) :
    iprop(records GA GM K ∗ (∃ W, owes (c : Thread nD τ) O W) ∗ atPos ER (barCell c) 0 ∅ 0 ∗ cred (tallyAt (barCell c) () 7))
      ⊢ iprop(((∃ W, owes (c : Thread nD τ) O W) ∗ semVal (barCell c) 0 ∗ (sepL devs fun t => other c t (barPay (F := F) c t))
            -∗ wp frame (wpE (defs₀ (F := F)) 𝒱₀ c none) Set.univ (k ⟨⟩) Q)
        -∗ wp frame (wpE (defs₀ (F := F)) 𝒱₀ c none) Set.univ (.op (.semWait barS 7) k) Q) := by
  subst hO
  iintro ⟨#HR, ⟨%W, HO⟩, Hat, Hcr⟩ Hk
  ihave #HI := (inv_at GA GM K c none) $$ HR
  iapply (Rounds.wp_wait_rest_token 𝒱₀ ER (paRd GA GM) (c : Thread nD τ) none (κ := K (c, none))
      (wpE_semWait_eq 𝒱₀ (c : Thread nD τ) none Set.univ) (Set.mem_univ _) () (O := sends c devs) (W := W) (R := 0) (m := 0) (T := ∅)
      (by rw [Nat.zero_add]; exact (expect_bar GA GM c).symm)) $$ [HO Hat Hcr]
  · isplitr; · iexact HI
    isplitl [Hcr]; · iexact Hcr
    isplitl [HO]; · iexact HO
    isplitr
    · iapply (mayWait_bar (F := F) c devs)
      iapply (levs_at GA GM K); iexact HR
    iexact Hat
  iintro ⟨HO, Hat, -, Hpay⟩
  have hrest : bigSep ((paRd GA GM).duties ((c : Thread nD τ), .reg barS) 0 \ ∅)
      (fun d => (paRd GA GM).payload ((c : Thread nD τ), .reg barS) 0 d) = bigSep (Finset.univ.erase c) (fun d => barPay (F := F) c d) := rest_bar GA GM c
  ihave Hp := (Entails.of_eq hrest) $$ Hpay
  imod (Rounds.cell_close ER (paRd GA GM) (Set.mem_univ (K (c, none))) (fun h => h) (R := 0 + 1) (duties_later GA GM (barCell c))) $$ [Hat] with Hz
  · isplitr; · iexact HI
    iexact Hat
  iapply Hk
  isplitl [HO]; · iexists _; iexact HO
  isplitl [Hz]; · iexact Hz
  iapply (bigSep_others c); iexact Hp

end Cert.Pa

end
-- ==== Proof.Pa.Ring.lean ====
/-
# Paged attention over eight devices: the ring of staged chunks

Each of K and V is read 64 pages at a time into one of three slots. A slot is free (its semaphore at zero, its elements
and a third share of the array in hand) or has a chunk in flight (the wait on its semaphore hands back the share and the
slot's elements, holding the chunk).
-/
module

public import proofs.«01_k».proof.Proof.Pa.Steps

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Slots and chunks -/

/-- A slot lies in the ring. -/
theorem slot_inb (s : ℕ) (h : s < 3) : ∀ a, (![s, 0, 0, 0, 0] : Fin 5 → Nat) a + S1x64x16x8x128.size a ≤ S3x64x16x8x128.size a := by
  intro a; fin_cases a <;> simp [S1x64x16x8x128, S3x64x16x8x128] <;> omega
/-- A chunk lies in the device's array. -/
theorem blk_inb (b : ℕ) (h : b < 8) : ∀ a, (![64 * b, 0, 0, 0] : Fin 4 → Nat) a + S64x16x8x128.size a ≤ S512x16x8x128.size a := by
  intro a; fin_cases a <;> simp [S64x16x8x128, S512x16x8x128] <;> omega
/-- A slot's semaphore lies in the ring's. -/
theorem sem3_inb (s : ℕ) (h : s < 3) : ∀ a, (![s] : Fin 1 → Nat) a + S1.size a ≤ S3.size a := by
  intro a; fin_cases a; simp [S1, S3]; omega

section Ring
variable (M : Memref sig .tc .vmem S3x64x16x8x128 .f32) (H : Memref sig .tc .hbm S512x16x8x128 .f32) (A : DmaSems sig S3)

/-- A slot of the ring. -/
abbrev slotR (s : ℕ) (h : s < 3) : Memref sig .tc .vmem S64x16x8x128 .f32 :=
  (M.slice (Rect.unit (s := S3x64x16x8x128) ![s, 0, 0, 0, 0] S1x64x16x8x128.size (slot_inb s h)) (fun _ => rfl)).squeeze S64x16x8x128
    squeezes_S1x64x16x8x128_S64x16x8x128
/-- A chunk of the device's array. -/
abbrev blkR (b : ℕ) (h : b < 8) : Memref sig .tc .hbm S64x16x8x128 .f32 :=
  H.slice (Rect.unit (s := S512x16x8x128) ![64 * b, 0, 0, 0] S64x16x8x128.size (blk_inb b h)) (fun _ => rfl)
/-- A slot's semaphore. -/
abbrev semR (s : ℕ) (h : s < 3) : DmaSem sig := ((A.slice (Rect.unit (s := S3) ![s] S1.size (sem3_inb s h))).squeeze S_ squeezes_S1_S_).sem

variable (c : Dev nD) (hf : Buf (Elt F) (H.view.loc (c : Thread nD τ)))

/-- The chunk's elements. -/
def chunk (b : ℕ) (h : b < 8) : S64x16x8x128.Idx → Elt F .f32 := (blkR H b h).view.read (Elt F) hf

/-- The slot's elements, reading as `X`. -/
def slotHas (s : ℕ) (h : s < 3) (X : S64x16x8x128.Idx → Elt F .f32) : sProp 𝕄 :=
  iprop(∃ g, ⌜(slotR M s h).view.read (Elt F) g = X⌝ ∗ ((slotR M s h).view.loc (c : Thread nD τ) ↦[(slotR M s h).view.set]{fullShare} g))

/-- The slot's share of the array. -/
def hTok (s : ℕ) (h : s < 3) : sProp 𝕄 := (H.view.loc (c : Thread nD τ) ↦{Transfers.shareTok fullShare 3 ⟨s, h⟩} hf)

/-- A free slot: its semaphore at zero, its elements, and its share of the array. -/
def FreeS (s : ℕ) (h : s < 3) : sProp 𝕄 :=
  iprop(semVal ((c : Thread nD τ), .dma (semR A s h)) 0 ∗ (∃ X, slotHas M c s h X) ∗ hTok H c hf s h)

/-- A slot with a chunk in flight. -/
def InflS (b s : ℕ) (hb : b < 8) (h : s < 3) : sProp 𝕄 :=
  iprop(Transfers.Flight EC (c : Thread nD τ) (.dma (semR A s h)) () ((slotR M s h).view.dmaCredit)
      iprop(slotHas M c s h (chunk H c hf b hb)
        ∗ ((blkR H b hb).view.loc (c : Thread nD τ) ↦[(blkR H b hb).view.set]{Transfers.shareTok fullShare 3 ⟨s, h⟩} hf))
    ∗ ((blkR H b hb).view.loc (c : Thread nD τ) ↦[Finset.univ \ (blkR H b hb).view.set]{Transfers.shareTok fullShare 3 ⟨s, h⟩} hf))

/-- Start chunk `b` into the free slot `s`. -/
theorem ring_issue (b s : ℕ) (hb : b < 8) (h : s < 3) {α : Type} {src : Memref sig .tc .hbm S64x16x8x128 .f32} {dst : Memref sig .tc .vmem S64x16x8x128 .f32}
    {sm : DmaSem sig} {hw : src.view.WordExact} {hw' : dst.view.WordExact} {hty : DmaTarget.Typed (nD := nD) (τ := τ) (p := .tc) .hbm (.dma sm) (.here dst)}
    (hs : src = blkR H b hb) (hd : dst = slotR M s h) (hsm : sm = semR A s h)
    {k : PUnit → Prog (TpuEff nD τ sig (Elt F) Λ₀ (c : Thread nD τ).2) α} (Q : α → sProp 𝕄) :
    FreeS M H A c hf s h
      ⊢ iprop((InflS M H A c hf b s hb h -∗ wp frame (wpE (defs₀ (F := F)) 𝒱₀ c none) Set.univ (k ⟨⟩) Q)
        -∗ wp frame (wpE (defs₀ (F := F)) 𝒱₀ c none) Set.univ (.op (.enqueueDma src (.here dst) (.dma sm) hw hw' hty) k) Q) := by
  subst hs hd hsm
  unfold FreeS InflS slotHas hTok
  iintro ⟨Hv, ⟨%X, %g, %hg, Hs⟩, Ht⟩ Hk
  ihave Ht' := (pointsTo_split_subset (ℓ := (blkR H b hb).view.loc (c : Thread nD τ)) (I := (blkR H b hb).view.set) (Finset.subset_univ _)).1 $$ Ht
  icases Ht' with ⟨Ht, Hr⟩
  iapply (Transfers.wp_dmaLocal EC 𝒱₀ (c : Thread nD τ) none (src := blkR H b hb) (dst := slotR M s h) (sm := .dma (semR A s h))
    (Sd := (slotR M s h).view.set) () ((slotR M s h).view.dmaCredit) rfl (View.dmaCredit_pos _ (by decide)) subset_rfl) $$ [Hv Hs Ht]
  · isplitl [Ht]; · iexact Ht
    isplitl [Hs]; · iexact Hs
    iexact Hv
  iintro Hfl
  iapply Hk
  isplitl [Hfl]
  · iapply (Transfers.Flight_mono EC (c : Thread nD τ) (D := iprop(((slotR M s h).view.loc (c : Thread nD τ) ↦[(slotR M s h).view.set]{fullShare}
      ((slotR M s h).view.write (Elt F) g ((blkR H b hb).view.read (Elt F) hf) Finset.univ))
        ∗ ((blkR H b hb).view.loc (c : Thread nD τ) ↦[(blkR H b hb).view.set]{Transfers.shareTok fullShare 3 ⟨s, h⟩} hf))) (by
        iintro ⟨Hs, Ht⟩
        isplitl [Hs]
        · iexists ((slotR M s h).view.write (Elt F) g ((blkR H b hb).view.read (Elt F) hf) Finset.univ)
          isplitr; · ipureintro; exact View.read_write_univ _ _
          iexact Hs
        iexact Ht)) $$ Hfl
  iexact Hr

/-- Wait for the chunk in flight in slot `s`. -/
theorem ring_wait (b s : ℕ) (hb : b < 8) (h : s < 3) (hA : ∀ k, csem k ≠ .dma (semR A s h)) (l l' : List (Dev nD)) {α : Type}
    {sp sp' : Space} {s₁ s₂ : Shape} {e₁ e₂ : EltTy} {src : Memref sig .tc sp s₁ e₁} {dst : Memref sig .tc sp' s₂ e₂}
    {sm : DmaSem sig} {hw : src.view.WordExact} {hw' : dst.view.WordExact}
    (hd : dst.view.dmaCredit = (slotR M s h).view.dmaCredit) (hsm : sm = semR A s h)
    {k : PUnit → Prog (TpuEff nD τ sig (Elt F) Λ₀ (c : Thread nD τ).2) α} (Q : α → sProp 𝕄) :
    iprop(levAts L lv ∗ InflS M H A c hf b s hb h ∗ (∃ W, owes (c : Thread nD τ) (sends c l + sigs c l') W))
      ⊢ iprop((semVal ((c : Thread nD τ), .dma (semR A s h)) 0 ∗ slotHas M c s h (chunk H c hf b hb) ∗ hTok H c hf s h
            ∗ (∃ W, owes (c : Thread nD τ) (sends c l + sigs c l') W)
            -∗ wp frame (wpE (defs₀ (F := F)) 𝒱₀ c none) Set.univ (k ⟨⟩) Q)
        -∗ wp frame (wpE (defs₀ (F := F)) 𝒱₀ c none) Set.univ (.op (.waitDma2 sm src dst hw hw') k) Q) := by
  subst hsm
  unfold InflS hTok
  iintro ⟨Hlev, ⟨Hfl, Hr⟩, ⟨%W, HO⟩⟩ Hk
  iapply (Transfers.wp_waitLocalO EC 𝒱₀ (c : Thread nD τ) none () hd (O := sends c l + sigs c l') (W := W)) $$ [Hfl HO Hlev]
  · isplitl [Hfl]; · iexact Hfl
    isplitl [HO]; · iexact HO
    iapply (mayWait_low (F := F) c _ hA l l'); iexact Hlev
  iintro ⟨⟨Hs, Ht⟩, Hv, HO⟩
  iapply Hk
  isplitl [Hv]; · iexact Hv
  isplitl [Hs]; · iexact Hs
  isplitl [Ht Hr]
  · iapply (pointsTo_split_subset (ℓ := (blkR H b hb).view.loc (c : Thread nD τ)) (I := (blkR H b hb).view.set) (Finset.subset_univ _)).2
    isplitl [Ht] <;> iassumption
  iexists _; iexact HO

end Ring

end Cert.Pa

end
-- ==== Proof.Pa.Vals.lean ====
/-
# Paged attention: the values a device computes

`Args` is what one device starts from: its place, the query, the page table, the lengths, and the sixty-four-page chunks
of its two caches. `st n` is the running maximum, denominator and numerator after `n` chunks.
-/
module

public import proofs.«01_k».proof.Proof.Pa.Ring
public import Idealize.ShloMosaic.Lib.ValueIdxCore

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The device's place on the mesh, and the first page it holds. -/
def place (d : Dev nD) : BitVec 32 := Scalar.remsi (Scalar.divsi (Dev.word d) 1#32) 8#32
/-- The device's first page. -/
def base (d : Dev nD) : BitVec 32 := Scalar.muli (place d) 512#32

/-- What one device starts from. -/
structure Args (F : FTy → Type) [FloatOps F] where
  d : Dev nD
  xq : Vec F S8x1x8x128 .f32
  xb : Vec F S8x512 .i32
  xl : Vec F S8 .i32
  kc : ∀ b : ℕ, b < 8 → Vec F S64x16x8x128 .f32
  vc : ∀ b : ℕ, b < 8 → Vec F S64x16x8x128 .f32

/-- A sequence's length lies in the lengths. -/
theorem len_inb (k : Fin 8) : ∀ a, (![k.val] : Fin 1 → Nat) a + S1.size a ≤ S8.size a := by revert k; decide

/-- Length `k`, as a word read from scalar memory. -/
def lenAt (xl : Vec F S8 .i32) (k : Fin 8) : Elt F .i32 :=
  (((Memref.whole cc0_stg2_0 : Memref sig .tc .smem S8 .i32).access (Rect.unit (s := S8) ![k.val] S1.size (len_inb k))) : View sig .tc _ _ _).read
    (Elt F) xl (Shape.Idx.first (numel1_S1.symm ▸ Nat.one_pos))

/-- The query as a block-diagonal matrix. -/
def qwV (xq : Vec F S8x1x8x128 .f32) : FVec F S64x1024 .f32 :=
  k0_pay10 (k0_pay8 xq) k0_pay9 (iota .tc S64x1024 32 [1] iota_S64x1024_d1_w32) 128#32

/-- How often each of the device's pages is used, by sequence. -/
def wV (d : Dev nD) (xb : Vec F S8x512 .i32) (xl : Vec F S8 .i32) : FVec F S8x8192 .f32 :=
  k0_pay26
    (k0_pay21 (base d) (k0_pay11 xb) (iota .tc S512x512 32 [1] iota_S512x512_d1_w32) (iota .tc S512x1 32 [0] iota_S512x1_d0_w32)
      (k0_pay13 (k0_pay12 (base d) xb (lenAt xl 0)) (Scalar.ofBits .f32 0x3F800000#32) (Scalar.ofBits .f32 0x00000000#32))
      (k0_pay14 (base d) (k0_pay11 xb) (iota .tc S512x512 32 [1] iota_S512x512_d1_w32) (iota .tc S512x1 32 [0] iota_S512x1_d0_w32) (lenAt xl 1))
      (k0_pay15 (base d) (k0_pay11 xb) (iota .tc S512x512 32 [1] iota_S512x512_d1_w32) (iota .tc S512x1 32 [0] iota_S512x1_d0_w32) (lenAt xl 2))
      (k0_pay17 (k0_pay16 (base d) (k0_pay11 xb) (iota .tc S512x512 32 [1] iota_S512x512_d1_w32) (iota .tc S512x1 32 [0] iota_S512x1_d0_w32) (lenAt xl 3)))
      (k0_pay18 (base d) (k0_pay11 xb) (iota .tc S512x512 32 [1] iota_S512x512_d1_w32) (iota .tc S512x1 32 [0] iota_S512x1_d0_w32) (lenAt xl 4))
      (k0_pay19 (base d) (k0_pay11 xb) (iota .tc S512x512 32 [1] iota_S512x512_d1_w32) (iota .tc S512x1 32 [0] iota_S512x1_d0_w32) (lenAt xl 5))
      (k0_pay20 (base d) (k0_pay11 xb) (iota .tc S512x512 32 [1] iota_S512x512_d1_w32) (iota .tc S512x1 32 [0] iota_S512x1_d0_w32) (lenAt xl 6))
      (lenAt xl 7))
    k0_pay22

/-- The counts' buffer. -/
abbrev wM : Memref sig .tc .vmem S8x8192 .f32 := Memref.whole cc0_scratch0

/-- The weights of the chunk at point `i`. -/
def wLd (i : grid0.Coords) (w : Vec F S8x8192 .f32) : Vec F S8x1024 .f32 :=
  wM.view.readAt (Elt F) (Rect.unit (s := S8x8192) (k0_off8 i) S8x1024.size (k0_off8_inb i)).toLoadRect w

/-- A chunk as it is loaded from its slot. -/
def ld1 (X : Vec F S64x16x8x128 .f32) : Vec F S1x64x16x8x128 .f32 := shapeCast S1x64x16x8x128 X (by decide)

/-- The zero block the scores are summed onto. -/
def zeroS : FVec F S64x1024 .f32 := constant S64x1024 .f32 0x00000000#32

/-- The running maximum, denominator and numerator. -/
structure St (F : FTy → Type) [FloatOps F] where
  m : FVec F S64x1 .f32
  l : FVec F S64x1 .f32
  a : FVec F S64x128 .f32

/-- One chunk's update. -/
def step (w : Vec F S8x1024 .f32) (qw : Vec F S64x1024 .f32) (k v : Vec F S64x16x8x128 .f32) (s : St F) : St F where
  m := k0_pay3 (k0_pay30 (k0_pay27 (ld1 k)) w qw zeroS s.m)
  l := k0_pay1 (k0_pay31 (k0_pay27 (ld1 k)) w qw zeroS s.m s.m) (k0_pay32 (k0_pay27 (ld1 k)) w qw zeroS s.m) s.l
  a := k0_pay2 (k0_pay31 (k0_pay27 (ld1 k)) w qw zeroS s.m s.m) (k0_pay33 (k0_pay27 (ld1 k)) w qw zeroS s.m (ld1 v))
    (k0_pay34 (k0_pay27 (ld1 k)) w qw zeroS s.m (ld1 v)) (k0_pay35 (k0_pay27 (ld1 k)) w qw zeroS s.m (ld1 v))
    (k0_pay36 (k0_pay27 (ld1 k)) w qw zeroS s.m (ld1 v)) (k0_pay37 (k0_pay27 (ld1 k)) w qw zeroS s.m (ld1 v))
    (k0_pay38 (k0_pay27 (ld1 k)) w qw zeroS s.m (ld1 v)) (k0_pay39 (k0_pay27 (ld1 k)) w qw zeroS s.m (ld1 v))
    (k0_pay40 (k0_pay27 (ld1 k)) w qw zeroS s.m (ld1 v)) s.a

/-- Grid point `n`. -/
def pt (n : ℕ) (h : n < 8) : grid0.Coords := fun | 0 => (⟨n, h⟩ : Fin 8)

/-- The state after `n` chunks. -/
def st (A : Args F) : ℕ → St F
  | 0 => ⟨k0_pay5, k0_pay6, k0_pay7⟩
  | n + 1 => if h : n < 8 then step (wLd (pt n h) (wV A.d A.xb A.xl)) (qwV A.xq) (A.kc n h) (A.vc n h) (st A n) else st A n

/-- The state after one more chunk. -/
theorem st_succ (A : Args F) (n : ℕ) (h : n < 8) :
    st A (n + 1) = step (wLd (pt n h) (wV A.d A.xb A.xl)) (qwV A.xq) (A.kc n h) (A.vc n h) (st A n) := dif_pos h

/-- The two tables: row `s` is what device `s` ends with. -/
def gaV (As : Dev nD → Args F) : Vec F S8x8x8x128 .f32 := fun i =>
  k0_pay23 (st (As (i 0)) 8).a (ValueIdx.ix4 (0 : Fin 1) (i 1) (i 2) (i 3))
/-- The gathered maxima and denominators of all devices. -/
def gmV (As : Dev nD → Args F) : Vec F S8x8x2x8x1 .f32 := fun i =>
  if (i 2).val = 0 then k0_pay24 (st (As (i 0)) 8).m (ValueIdx.ix5 (0 : Fin 1) (i 1) (0 : Fin 1) (i 3) (i 4))
  else k0_pay25 (st (As (i 0)) 8).l (ValueIdx.ix5 (0 : Fin 1) (i 1) (0 : Fin 1) (i 3) (i 4))

/-- The result, the same on every device. -/
def outV (As : Dev nD → Args F) : Vec F S8x1x8x128 .f32 := k0_pay4 (gaV As) (gmV As)

end Cert.Pa

end
-- ==== Proof.Pa.Mem.lean ====
/-
# Paged attention: loads and stores of whole buffers
-/
module

public import proofs.«01_k».proof.Proof.Pa.Vals

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A buffer of device `c`, whole, holding `X`. -/
abbrev scr (c : Dev nD) (b : Ref sig .tc) (X : Buf (Elt F) ((c : Thread nD τ).loc b)) : sProp 𝕄 :=
  (((c : Thread nD τ).loc b) ↦{fullShare} X)

/-- The offset of a whole buffer is zero. -/
theorem hz2 : (![0, 0] : Fin 2 → Nat) = fun _ => 0 := funext fun a => by fin_cases a <;> rfl
/-- The offset of a whole buffer is zero. -/
theorem hz4 : (![0, 0, 0, 0] : Fin 4 → Nat) = fun _ => 0 := funext fun a => by fin_cases a <;> rfl
/-- The offset of a whole buffer is zero. -/
theorem hz5 : (![0, 0, 0, 0, 0] : Fin 5 → Nat) = fun _ => 0 := funext fun a => by fin_cases a <;> rfl

/-! Of each buffer: a load of all of it gives its contents, and a store of all of it replaces them. -/

section
variable (c : Dev nD)

/-- Loading the staged queries. -/
theorem load_q (inb : ∀ a, (![0, 0, 0, 0] : Fin 4 → Nat) a + S8x1x8x128.size a ≤ S8x1x8x128.size a) (f : Vec F S8x1x8x128 .f32) {α : Type}
    {hl : (Memref.whole cc0_stg0_0 : Memref sig .tc .vmem S8x1x8x128 .f32).view.LoadsAt (Rect.unit (s := S8x1x8x128) ![0, 0, 0, 0] S8x1x8x128.size inb).toLoadRect}
    {k : Vec F S8x1x8x128 .f32 → Prog (TpuEff nD τ sig (Elt F) Λ₀ .tc) α} (Q : α → sProp 𝕄) :
    scr c cc0_stg0_0 f ⊢ iprop((scr c cc0_stg0_0 f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_stg0_0 : Memref sig .tc .vmem S8x1x8x128 .f32) (Rect.unit (s := S8x1x8x128) ![0, 0, 0, 0] S8x1x8x128.size inb).toLoadRect hl) k) Q) := by
  have h := wp_load (defs := defs₀ (F := F)) (Γ := .empty) 𝒱₀ (c : Thread nD τ) none Set.univ (m := (Memref.whole cc0_stg0_0 : Memref sig .tc .vmem S8x1x8x128 .f32)) (r := (Rect.unit (s := S8x1x8x128) ![0, 0, 0, 0] S8x1x8x128.size inb).toLoadRect)
    (hl := hl) (k := k) (f := f) (q := fullShare) (Q := Q) (Finset.subset_univ _)
  have e : (Memref.whole cc0_stg0_0 : Memref sig .tc .vmem S8x1x8x128 .f32).view.readAt (Elt F) (Rect.unit (s := S8x1x8x128) ![0, 0, 0, 0] S8x1x8x128.size inb).toLoadRect f = f := Memref.readAt_unit_zero (Elt F) cc0_stg0_0 hz4 inb f
  rw [e] at h
  exact h

/-- Loading the staged table. -/
theorem load_b (inb : ∀ a, (![0, 0] : Fin 2 → Nat) a + S8x512.size a ≤ S8x512.size a) (f : Vec F S8x512 .i32) {α : Type}
    {hl : (Memref.whole cc0_stg1_0 : Memref sig .tc .vmem S8x512 .i32).view.LoadsAt (Rect.unit (s := S8x512) ![0, 0] S8x512.size inb).toLoadRect}
    {k : Vec F S8x512 .i32 → Prog (TpuEff nD τ sig (Elt F) Λ₀ .tc) α} (Q : α → sProp 𝕄) :
    scr c cc0_stg1_0 f ⊢ iprop((scr c cc0_stg1_0 f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_stg1_0 : Memref sig .tc .vmem S8x512 .i32) (Rect.unit (s := S8x512) ![0, 0] S8x512.size inb).toLoadRect hl) k) Q) := by
  have h := wp_load (defs := defs₀ (F := F)) (Γ := .empty) 𝒱₀ (c : Thread nD τ) none Set.univ (m := (Memref.whole cc0_stg1_0 : Memref sig .tc .vmem S8x512 .i32)) (r := (Rect.unit (s := S8x512) ![0, 0] S8x512.size inb).toLoadRect)
    (hl := hl) (k := k) (f := f) (q := fullShare) (Q := Q) (Finset.subset_univ _)
  have e : (Memref.whole cc0_stg1_0 : Memref sig .tc .vmem S8x512 .i32).view.readAt (Elt F) (Rect.unit (s := S8x512) ![0, 0] S8x512.size inb).toLoadRect f = f := Memref.readAt_unit_zero (Elt F) cc0_stg1_0 hz2 inb f
  rw [e] at h
  exact h

/-- Loading the staged result. -/
theorem load_o (inb : ∀ a, (![0, 0, 0, 0] : Fin 4 → Nat) a + S8x1x8x128.size a ≤ S8x1x8x128.size a) (f : Vec F S8x1x8x128 .f32) {α : Type}
    {hl : (Memref.whole cc0_stg3_0 : Memref sig .tc .vmem S8x1x8x128 .f32).view.LoadsAt (Rect.unit (s := S8x1x8x128) ![0, 0, 0, 0] S8x1x8x128.size inb).toLoadRect}
    {k : Vec F S8x1x8x128 .f32 → Prog (TpuEff nD τ sig (Elt F) Λ₀ .tc) α} (Q : α → sProp 𝕄) :
    scr c cc0_stg3_0 f ⊢ iprop((scr c cc0_stg3_0 f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_stg3_0 : Memref sig .tc .vmem S8x1x8x128 .f32) (Rect.unit (s := S8x1x8x128) ![0, 0, 0, 0] S8x1x8x128.size inb).toLoadRect hl) k) Q) := by
  have h := wp_load (defs := defs₀ (F := F)) (Γ := .empty) 𝒱₀ (c : Thread nD τ) none Set.univ (m := (Memref.whole cc0_stg3_0 : Memref sig .tc .vmem S8x1x8x128 .f32)) (r := (Rect.unit (s := S8x1x8x128) ![0, 0, 0, 0] S8x1x8x128.size inb).toLoadRect)
    (hl := hl) (k := k) (f := f) (q := fullShare) (Q := Q) (Finset.subset_univ _)
  have e : (Memref.whole cc0_stg3_0 : Memref sig .tc .vmem S8x1x8x128 .f32).view.readAt (Elt F) (Rect.unit (s := S8x1x8x128) ![0, 0, 0, 0] S8x1x8x128.size inb).toLoadRect f = f := Memref.readAt_unit_zero (Elt F) cc0_stg3_0 hz4 inb f
  rw [e] at h
  exact h

/-- Storing the staged result. -/
theorem store_o (inb : ∀ a, (![0, 0, 0, 0] : Fin 4 → Nat) a + S8x1x8x128.size a ≤ S8x1x8x128.size a) (f X : Vec F S8x1x8x128 .f32) {α : Type}
    {hx : ((Memref.whole cc0_stg3_0 : Memref sig .tc .vmem S8x1x8x128 .f32).access (Rect.unit (s := S8x1x8x128) ![0, 0, 0, 0] S8x1x8x128.size inb)).Stores Finset.univ}
    {hm : (Finset.univ : Finset (Rect.unit (s := S8x1x8x128) ![0, 0, 0, 0] S8x1x8x128.size inb).shape.Idx) = Finset.univ ∨ ∀ a, (Rect.unit (s := S8x1x8x128) ![0, 0, 0, 0] S8x1x8x128.size inb).stride a = 1}
    {k : PUnit → Prog (TpuEff nD τ sig (Elt F) Λ₀ .tc) α} (Q : α → sProp 𝕄) :
    scr c cc0_stg3_0 f ⊢ iprop((scr c cc0_stg3_0 X -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_stg3_0 : Memref sig .tc .vmem S8x1x8x128 .f32) (Rect.unit (s := S8x1x8x128) ![0, 0, 0, 0] S8x1x8x128.size inb) X Finset.univ hx hm) k) Q) := by
  have h := wp_store (defs := defs₀ (F := F)) (Γ := .empty) 𝒱₀ (c : Thread nD τ) none Set.univ (m := (Memref.whole cc0_stg3_0 : Memref sig .tc .vmem S8x1x8x128 .f32)) (r := Rect.unit (s := S8x1x8x128) ![0, 0, 0, 0] S8x1x8x128.size inb)
    (hx := hx) (hm := hm) (k := k) (w := X) (f := f) (Q := Q) (Finset.subset_univ _)
  have e : ((Memref.whole cc0_stg3_0 : Memref sig .tc .vmem S8x1x8x128 .f32).access (Rect.unit (s := S8x1x8x128) ![0, 0, 0, 0] S8x1x8x128.size inb) : View sig .tc _ _ _).write (Elt F) f X Finset.univ = X :=
    Memref.write_access_unit_zero_univ (Elt F) cc0_stg3_0 hz4 inb f X
  rw [e] at h
  exact h

/-- Loading the counts. -/
theorem load_w (inb : ∀ a, (![0, 0] : Fin 2 → Nat) a + S8x8192.size a ≤ S8x8192.size a) (f : Vec F S8x8192 .f32) {α : Type}
    {hl : (Memref.whole cc0_scratch0 : Memref sig .tc .vmem S8x8192 .f32).view.LoadsAt (Rect.unit (s := S8x8192) ![0, 0] S8x8192.size inb).toLoadRect}
    {k : Vec F S8x8192 .f32 → Prog (TpuEff nD τ sig (Elt F) Λ₀ .tc) α} (Q : α → sProp 𝕄) :
    scr c cc0_scratch0 f ⊢ iprop((scr c cc0_scratch0 f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_scratch0 : Memref sig .tc .vmem S8x8192 .f32) (Rect.unit (s := S8x8192) ![0, 0] S8x8192.size inb).toLoadRect hl) k) Q) := by
  have h := wp_load (defs := defs₀ (F := F)) (Γ := .empty) 𝒱₀ (c : Thread nD τ) none Set.univ (m := (Memref.whole cc0_scratch0 : Memref sig .tc .vmem S8x8192 .f32)) (r := (Rect.unit (s := S8x8192) ![0, 0] S8x8192.size inb).toLoadRect)
    (hl := hl) (k := k) (f := f) (q := fullShare) (Q := Q) (Finset.subset_univ _)
  have e : (Memref.whole cc0_scratch0 : Memref sig .tc .vmem S8x8192 .f32).view.readAt (Elt F) (Rect.unit (s := S8x8192) ![0, 0] S8x8192.size inb).toLoadRect f = f := Memref.readAt_unit_zero (Elt F) cc0_scratch0 hz2 inb f
  rw [e] at h
  exact h

/-- Storing the counts. -/
theorem store_w (inb : ∀ a, (![0, 0] : Fin 2 → Nat) a + S8x8192.size a ≤ S8x8192.size a) (f X : Vec F S8x8192 .f32) {α : Type}
    {hx : ((Memref.whole cc0_scratch0 : Memref sig .tc .vmem S8x8192 .f32).access (Rect.unit (s := S8x8192) ![0, 0] S8x8192.size inb)).Stores Finset.univ}
    {hm : (Finset.univ : Finset (Rect.unit (s := S8x8192) ![0, 0] S8x8192.size inb).shape.Idx) = Finset.univ ∨ ∀ a, (Rect.unit (s := S8x8192) ![0, 0] S8x8192.size inb).stride a = 1}
    {k : PUnit → Prog (TpuEff nD τ sig (Elt F) Λ₀ .tc) α} (Q : α → sProp 𝕄) :
    scr c cc0_scratch0 f ⊢ iprop((scr c cc0_scratch0 X -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch0 : Memref sig .tc .vmem S8x8192 .f32) (Rect.unit (s := S8x8192) ![0, 0] S8x8192.size inb) X Finset.univ hx hm) k) Q) := by
  have h := wp_store (defs := defs₀ (F := F)) (Γ := .empty) 𝒱₀ (c : Thread nD τ) none Set.univ (m := (Memref.whole cc0_scratch0 : Memref sig .tc .vmem S8x8192 .f32)) (r := Rect.unit (s := S8x8192) ![0, 0] S8x8192.size inb)
    (hx := hx) (hm := hm) (k := k) (w := X) (f := f) (Q := Q) (Finset.subset_univ _)
  have e : ((Memref.whole cc0_scratch0 : Memref sig .tc .vmem S8x8192 .f32).access (Rect.unit (s := S8x8192) ![0, 0] S8x8192.size inb) : View sig .tc _ _ _).write (Elt F) f X Finset.univ = X :=
    Memref.write_access_unit_zero_univ (Elt F) cc0_scratch0 hz2 inb f X
  rw [e] at h
  exact h

/-- Loading the query matrix. -/
theorem load_qw (inb : ∀ a, (![0, 0] : Fin 2 → Nat) a + S64x1024.size a ≤ S64x1024.size a) (f : Vec F S64x1024 .f32) {α : Type}
    {hl : (Memref.whole cc0_scratch1 : Memref sig .tc .vmem S64x1024 .f32).view.LoadsAt (Rect.unit (s := S64x1024) ![0, 0] S64x1024.size inb).toLoadRect}
    {k : Vec F S64x1024 .f32 → Prog (TpuEff nD τ sig (Elt F) Λ₀ .tc) α} (Q : α → sProp 𝕄) :
    scr c cc0_scratch1 f ⊢ iprop((scr c cc0_scratch1 f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_scratch1 : Memref sig .tc .vmem S64x1024 .f32) (Rect.unit (s := S64x1024) ![0, 0] S64x1024.size inb).toLoadRect hl) k) Q) := by
  have h := wp_load (defs := defs₀ (F := F)) (Γ := .empty) 𝒱₀ (c : Thread nD τ) none Set.univ (m := (Memref.whole cc0_scratch1 : Memref sig .tc .vmem S64x1024 .f32)) (r := (Rect.unit (s := S64x1024) ![0, 0] S64x1024.size inb).toLoadRect)
    (hl := hl) (k := k) (f := f) (q := fullShare) (Q := Q) (Finset.subset_univ _)
  have e : (Memref.whole cc0_scratch1 : Memref sig .tc .vmem S64x1024 .f32).view.readAt (Elt F) (Rect.unit (s := S64x1024) ![0, 0] S64x1024.size inb).toLoadRect f = f := Memref.readAt_unit_zero (Elt F) cc0_scratch1 hz2 inb f
  rw [e] at h
  exact h

/-- Storing the query matrix. -/
theorem store_qw (inb : ∀ a, (![0, 0] : Fin 2 → Nat) a + S64x1024.size a ≤ S64x1024.size a) (f X : Vec F S64x1024 .f32) {α : Type}
    {hx : ((Memref.whole cc0_scratch1 : Memref sig .tc .vmem S64x1024 .f32).access (Rect.unit (s := S64x1024) ![0, 0] S64x1024.size inb)).Stores Finset.univ}
    {hm : (Finset.univ : Finset (Rect.unit (s := S64x1024) ![0, 0] S64x1024.size inb).shape.Idx) = Finset.univ ∨ ∀ a, (Rect.unit (s := S64x1024) ![0, 0] S64x1024.size inb).stride a = 1}
    {k : PUnit → Prog (TpuEff nD τ sig (Elt F) Λ₀ .tc) α} (Q : α → sProp 𝕄) :
    scr c cc0_scratch1 f ⊢ iprop((scr c cc0_scratch1 X -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch1 : Memref sig .tc .vmem S64x1024 .f32) (Rect.unit (s := S64x1024) ![0, 0] S64x1024.size inb) X Finset.univ hx hm) k) Q) := by
  have h := wp_store (defs := defs₀ (F := F)) (Γ := .empty) 𝒱₀ (c : Thread nD τ) none Set.univ (m := (Memref.whole cc0_scratch1 : Memref sig .tc .vmem S64x1024 .f32)) (r := Rect.unit (s := S64x1024) ![0, 0] S64x1024.size inb)
    (hx := hx) (hm := hm) (k := k) (w := X) (f := f) (Q := Q) (Finset.subset_univ _)
  have e : ((Memref.whole cc0_scratch1 : Memref sig .tc .vmem S64x1024 .f32).access (Rect.unit (s := S64x1024) ![0, 0] S64x1024.size inb) : View sig .tc _ _ _).write (Elt F) f X Finset.univ = X :=
    Memref.write_access_unit_zero_univ (Elt F) cc0_scratch1 hz2 inb f X
  rw [e] at h
  exact h

/-- Loading the running maxima. -/
theorem load_m (inb : ∀ a, (![0, 0] : Fin 2 → Nat) a + S64x1.size a ≤ S64x1.size a) (f : Vec F S64x1 .f32) {α : Type}
    {hl : (Memref.whole cc0_scratch2 : Memref sig .tc .vmem S64x1 .f32).view.LoadsAt (Rect.unit (s := S64x1) ![0, 0] S64x1.size inb).toLoadRect}
    {k : Vec F S64x1 .f32 → Prog (TpuEff nD τ sig (Elt F) Λ₀ .tc) α} (Q : α → sProp 𝕄) :
    scr c cc0_scratch2 f ⊢ iprop((scr c cc0_scratch2 f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_scratch2 : Memref sig .tc .vmem S64x1 .f32) (Rect.unit (s := S64x1) ![0, 0] S64x1.size inb).toLoadRect hl) k) Q) := by
  have h := wp_load (defs := defs₀ (F := F)) (Γ := .empty) 𝒱₀ (c : Thread nD τ) none Set.univ (m := (Memref.whole cc0_scratch2 : Memref sig .tc .vmem S64x1 .f32)) (r := (Rect.unit (s := S64x1) ![0, 0] S64x1.size inb).toLoadRect)
    (hl := hl) (k := k) (f := f) (q := fullShare) (Q := Q) (Finset.subset_univ _)
  have e : (Memref.whole cc0_scratch2 : Memref sig .tc .vmem S64x1 .f32).view.readAt (Elt F) (Rect.unit (s := S64x1) ![0, 0] S64x1.size inb).toLoadRect f = f := Memref.readAt_unit_zero (Elt F) cc0_scratch2 hz2 inb f
  rw [e] at h
  exact h

/-- Storing the running maxima. -/
theorem store_m (inb : ∀ a, (![0, 0] : Fin 2 → Nat) a + S64x1.size a ≤ S64x1.size a) (f X : Vec F S64x1 .f32) {α : Type}
    {hx : ((Memref.whole cc0_scratch2 : Memref sig .tc .vmem S64x1 .f32).access (Rect.unit (s := S64x1) ![0, 0] S64x1.size inb)).Stores Finset.univ}
    {hm : (Finset.univ : Finset (Rect.unit (s := S64x1) ![0, 0] S64x1.size inb).shape.Idx) = Finset.univ ∨ ∀ a, (Rect.unit (s := S64x1) ![0, 0] S64x1.size inb).stride a = 1}
    {k : PUnit → Prog (TpuEff nD τ sig (Elt F) Λ₀ .tc) α} (Q : α → sProp 𝕄) :
    scr c cc0_scratch2 f ⊢ iprop((scr c cc0_scratch2 X -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch2 : Memref sig .tc .vmem S64x1 .f32) (Rect.unit (s := S64x1) ![0, 0] S64x1.size inb) X Finset.univ hx hm) k) Q) := by
  have h := wp_store (defs := defs₀ (F := F)) (Γ := .empty) 𝒱₀ (c : Thread nD τ) none Set.univ (m := (Memref.whole cc0_scratch2 : Memref sig .tc .vmem S64x1 .f32)) (r := Rect.unit (s := S64x1) ![0, 0] S64x1.size inb)
    (hx := hx) (hm := hm) (k := k) (w := X) (f := f) (Q := Q) (Finset.subset_univ _)
  have e : ((Memref.whole cc0_scratch2 : Memref sig .tc .vmem S64x1 .f32).access (Rect.unit (s := S64x1) ![0, 0] S64x1.size inb) : View sig .tc _ _ _).write (Elt F) f X Finset.univ = X :=
    Memref.write_access_unit_zero_univ (Elt F) cc0_scratch2 hz2 inb f X
  rw [e] at h
  exact h

/-- Loading the running denominators. -/
theorem load_l (inb : ∀ a, (![0, 0] : Fin 2 → Nat) a + S64x1.size a ≤ S64x1.size a) (f : Vec F S64x1 .f32) {α : Type}
    {hl : (Memref.whole cc0_scratch3 : Memref sig .tc .vmem S64x1 .f32).view.LoadsAt (Rect.unit (s := S64x1) ![0, 0] S64x1.size inb).toLoadRect}
    {k : Vec F S64x1 .f32 → Prog (TpuEff nD τ sig (Elt F) Λ₀ .tc) α} (Q : α → sProp 𝕄) :
    scr c cc0_scratch3 f ⊢ iprop((scr c cc0_scratch3 f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_scratch3 : Memref sig .tc .vmem S64x1 .f32) (Rect.unit (s := S64x1) ![0, 0] S64x1.size inb).toLoadRect hl) k) Q) := by
  have h := wp_load (defs := defs₀ (F := F)) (Γ := .empty) 𝒱₀ (c : Thread nD τ) none Set.univ (m := (Memref.whole cc0_scratch3 : Memref sig .tc .vmem S64x1 .f32)) (r := (Rect.unit (s := S64x1) ![0, 0] S64x1.size inb).toLoadRect)
    (hl := hl) (k := k) (f := f) (q := fullShare) (Q := Q) (Finset.subset_univ _)
  have e : (Memref.whole cc0_scratch3 : Memref sig .tc .vmem S64x1 .f32).view.readAt (Elt F) (Rect.unit (s := S64x1) ![0, 0] S64x1.size inb).toLoadRect f = f := Memref.readAt_unit_zero (Elt F) cc0_scratch3 hz2 inb f
  rw [e] at h
  exact h

/-- Storing the running denominators. -/
theorem store_l (inb : ∀ a, (![0, 0] : Fin 2 → Nat) a + S64x1.size a ≤ S64x1.size a) (f X : Vec F S64x1 .f32) {α : Type}
    {hx : ((Memref.whole cc0_scratch3 : Memref sig .tc .vmem S64x1 .f32).access (Rect.unit (s := S64x1) ![0, 0] S64x1.size inb)).Stores Finset.univ}
    {hm : (Finset.univ : Finset (Rect.unit (s := S64x1) ![0, 0] S64x1.size inb).shape.Idx) = Finset.univ ∨ ∀ a, (Rect.unit (s := S64x1) ![0, 0] S64x1.size inb).stride a = 1}
    {k : PUnit → Prog (TpuEff nD τ sig (Elt F) Λ₀ .tc) α} (Q : α → sProp 𝕄) :
    scr c cc0_scratch3 f ⊢ iprop((scr c cc0_scratch3 X -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch3 : Memref sig .tc .vmem S64x1 .f32) (Rect.unit (s := S64x1) ![0, 0] S64x1.size inb) X Finset.univ hx hm) k) Q) := by
  have h := wp_store (defs := defs₀ (F := F)) (Γ := .empty) 𝒱₀ (c : Thread nD τ) none Set.univ (m := (Memref.whole cc0_scratch3 : Memref sig .tc .vmem S64x1 .f32)) (r := Rect.unit (s := S64x1) ![0, 0] S64x1.size inb)
    (hx := hx) (hm := hm) (k := k) (w := X) (f := f) (Q := Q) (Finset.subset_univ _)
  have e : ((Memref.whole cc0_scratch3 : Memref sig .tc .vmem S64x1 .f32).access (Rect.unit (s := S64x1) ![0, 0] S64x1.size inb) : View sig .tc _ _ _).write (Elt F) f X Finset.univ = X :=
    Memref.write_access_unit_zero_univ (Elt F) cc0_scratch3 hz2 inb f X
  rw [e] at h
  exact h

/-- Loading the running numerators. -/
theorem load_a (inb : ∀ a, (![0, 0] : Fin 2 → Nat) a + S64x128.size a ≤ S64x128.size a) (f : Vec F S64x128 .f32) {α : Type}
    {hl : (Memref.whole cc0_scratch4 : Memref sig .tc .vmem S64x128 .f32).view.LoadsAt (Rect.unit (s := S64x128) ![0, 0] S64x128.size inb).toLoadRect}
    {k : Vec F S64x128 .f32 → Prog (TpuEff nD τ sig (Elt F) Λ₀ .tc) α} (Q : α → sProp 𝕄) :
    scr c cc0_scratch4 f ⊢ iprop((scr c cc0_scratch4 f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_scratch4 : Memref sig .tc .vmem S64x128 .f32) (Rect.unit (s := S64x128) ![0, 0] S64x128.size inb).toLoadRect hl) k) Q) := by
  have h := wp_load (defs := defs₀ (F := F)) (Γ := .empty) 𝒱₀ (c : Thread nD τ) none Set.univ (m := (Memref.whole cc0_scratch4 : Memref sig .tc .vmem S64x128 .f32)) (r := (Rect.unit (s := S64x128) ![0, 0] S64x128.size inb).toLoadRect)
    (hl := hl) (k := k) (f := f) (q := fullShare) (Q := Q) (Finset.subset_univ _)
  have e : (Memref.whole cc0_scratch4 : Memref sig .tc .vmem S64x128 .f32).view.readAt (Elt F) (Rect.unit (s := S64x128) ![0, 0] S64x128.size inb).toLoadRect f = f := Memref.readAt_unit_zero (Elt F) cc0_scratch4 hz2 inb f
  rw [e] at h
  exact h

/-- Storing the running numerators. -/
theorem store_a (inb : ∀ a, (![0, 0] : Fin 2 → Nat) a + S64x128.size a ≤ S64x128.size a) (f X : Vec F S64x128 .f32) {α : Type}
    {hx : ((Memref.whole cc0_scratch4 : Memref sig .tc .vmem S64x128 .f32).access (Rect.unit (s := S64x128) ![0, 0] S64x128.size inb)).Stores Finset.univ}
    {hm : (Finset.univ : Finset (Rect.unit (s := S64x128) ![0, 0] S64x128.size inb).shape.Idx) = Finset.univ ∨ ∀ a, (Rect.unit (s := S64x128) ![0, 0] S64x128.size inb).stride a = 1}
    {k : PUnit → Prog (TpuEff nD τ sig (Elt F) Λ₀ .tc) α} (Q : α → sProp 𝕄) :
    scr c cc0_scratch4 f ⊢ iprop((scr c cc0_scratch4 X -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch4 : Memref sig .tc .vmem S64x128 .f32) (Rect.unit (s := S64x128) ![0, 0] S64x128.size inb) X Finset.univ hx hm) k) Q) := by
  have h := wp_store (defs := defs₀ (F := F)) (Γ := .empty) 𝒱₀ (c : Thread nD τ) none Set.univ (m := (Memref.whole cc0_scratch4 : Memref sig .tc .vmem S64x128 .f32)) (r := Rect.unit (s := S64x128) ![0, 0] S64x128.size inb)
    (hx := hx) (hm := hm) (k := k) (w := X) (f := f) (Q := Q) (Finset.subset_univ _)
  have e : ((Memref.whole cc0_scratch4 : Memref sig .tc .vmem S64x128 .f32).access (Rect.unit (s := S64x128) ![0, 0] S64x128.size inb) : View sig .tc _ _ _).write (Elt F) f X Finset.univ = X :=
    Memref.write_access_unit_zero_univ (Elt F) cc0_scratch4 hz2 inb f X
  rw [e] at h
  exact h

/-- Loading the gathered numerators. -/
theorem load_ca (inb : ∀ a, (![0, 0, 0, 0] : Fin 4 → Nat) a + S8x8x8x128.size a ≤ S8x8x8x128.size a) (f : Vec F S8x8x8x128 .f32) {α : Type}
    {hl : (Memref.whole cc0_scratch7 : Memref sig .tc .vmem S8x8x8x128 .f32).view.LoadsAt (Rect.unit (s := S8x8x8x128) ![0, 0, 0, 0] S8x8x8x128.size inb).toLoadRect}
    {k : Vec F S8x8x8x128 .f32 → Prog (TpuEff nD τ sig (Elt F) Λ₀ .tc) α} (Q : α → sProp 𝕄) :
    scr c cc0_scratch7 f ⊢ iprop((scr c cc0_scratch7 f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_scratch7 : Memref sig .tc .vmem S8x8x8x128 .f32) (Rect.unit (s := S8x8x8x128) ![0, 0, 0, 0] S8x8x8x128.size inb).toLoadRect hl) k) Q) := by
  have h := wp_load (defs := defs₀ (F := F)) (Γ := .empty) 𝒱₀ (c : Thread nD τ) none Set.univ (m := (Memref.whole cc0_scratch7 : Memref sig .tc .vmem S8x8x8x128 .f32)) (r := (Rect.unit (s := S8x8x8x128) ![0, 0, 0, 0] S8x8x8x128.size inb).toLoadRect)
    (hl := hl) (k := k) (f := f) (q := fullShare) (Q := Q) (Finset.subset_univ _)
  have e : (Memref.whole cc0_scratch7 : Memref sig .tc .vmem S8x8x8x128 .f32).view.readAt (Elt F) (Rect.unit (s := S8x8x8x128) ![0, 0, 0, 0] S8x8x8x128.size inb).toLoadRect f = f := Memref.readAt_unit_zero (Elt F) cc0_scratch7 hz4 inb f
  rw [e] at h
  exact h

/-- Loading the gathered maxima and denominators. -/
theorem load_cm (inb : ∀ a, (![0, 0, 0, 0, 0] : Fin 5 → Nat) a + S8x8x2x8x1.size a ≤ S8x8x2x8x1.size a) (f : Vec F S8x8x2x8x1 .f32) {α : Type}
    {hl : (Memref.whole cc0_scratch8 : Memref sig .tc .vmem S8x8x2x8x1 .f32).view.LoadsAt (Rect.unit (s := S8x8x2x8x1) ![0, 0, 0, 0, 0] S8x8x2x8x1.size inb).toLoadRect}
    {k : Vec F S8x8x2x8x1 .f32 → Prog (TpuEff nD τ sig (Elt F) Λ₀ .tc) α} (Q : α → sProp 𝕄) :
    scr c cc0_scratch8 f ⊢ iprop((scr c cc0_scratch8 f -∗ wp frame (wpE (defs₀ (F := F)) 𝒱₀ (c : Thread nD τ) none) Set.univ (k f) Q)
      -∗ wp frame (wpE (defs₀ (F := F)) 𝒱₀ (c : Thread nD τ) none) Set.univ (.op (.load (Memref.whole cc0_scratch8 : Memref sig .tc .vmem S8x8x2x8x1 .f32) (Rect.unit (s := S8x8x2x8x1) ![0, 0, 0, 0, 0] S8x8x2x8x1.size inb).toLoadRect hl) k) Q) := by
  have h := wp_load (defs := defs₀ (F := F)) (Γ := .empty) 𝒱₀ (c : Thread nD τ) none Set.univ (m := (Memref.whole cc0_scratch8 : Memref sig .tc .vmem S8x8x2x8x1 .f32)) (r := (Rect.unit (s := S8x8x2x8x1) ![0, 0, 0, 0, 0] S8x8x2x8x1.size inb).toLoadRect)
    (hl := hl) (k := k) (f := f) (q := fullShare) (Q := Q) (Finset.subset_univ _)
  have e : (Memref.whole cc0_scratch8 : Memref sig .tc .vmem S8x8x2x8x1 .f32).view.readAt (Elt F) (Rect.unit (s := S8x8x2x8x1) ![0, 0, 0, 0, 0] S8x8x2x8x1.size inb).toLoadRect f = f := Memref.readAt_unit_zero (Elt F) cc0_scratch8 hz5 inb f
  rw [e] at h
  exact h

/-- A word read from the lengths. -/
theorem load_len (j : Fin 8) (inb : ∀ a, (![j.val] : Fin 1 → Nat) a + S1.size a ≤ S8.size a) (f : Vec F S8 .i32) {α : Type}
    {k : Elt F .i32 → Prog (TpuEff nD τ sig (Elt F) Λ₀ .tc) α} (Q : α → sProp 𝕄) :
    scr c cc0_stg2_0 f ⊢ iprop((scr c cc0_stg2_0 f -∗ wp frame (wpE (defs₀ (F := F)) 𝒱₀ (c : Thread nD τ) none) Set.univ (k (lenAt f j)) Q)
      -∗ wp frame (wpE (defs₀ (F := F)) 𝒱₀ (c : Thread nD τ) none) Set.univ ((smemLoad (Memref.whole cc0_stg2_0 : Memref sig .tc .smem S8 .i32) (Rect.unit (s := S8) ![j.val] S1.size inb) numel1_S1 rfl) >>= k) Q) :=
  wp_smemLoadElt (defs := defs₀ (F := F)) (Γ := .empty) (hw := View.loads_smem_one rfl numel1_S1) 𝒱₀ (c : Thread nD τ) none Set.univ (m := (Memref.whole cc0_stg2_0 : Memref sig .tc .smem S8 .i32))
    (r := Rect.unit (s := S8) ![j.val] S1.size inb) (k := k) (f := f) (q := fullShare) (Q := Q) (Finset.subset_univ _)

end

end Cert.Pa

end
-- ==== Proof.Pa.BodyA.lean ====
/-
# Paged attention: the parts of the first point that only load and store
-/
module

public import proofs.«01_k».proof.Proof.Pa.Mem

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (c : Dev nD) (i : grid0.Coords)

/-- Part 3: the denominator and the numerator start at zero; the query is loaded. -/
theorem part3_wp (xq : Vec F S8x1x8x128 .f32) {α : Type} (k) (Q : α → sProp 𝕄) :
    iprop(scr c cc0_stg0_0 xq ∗ (∃ f, scr c cc0_scratch3 f) ∗ (∃ f, scr c cc0_scratch4 f))
      ⊢ iprop((scr c cc0_stg0_0 xq ∗ scr c cc0_scratch3 (k0_pay6 (F := F)) ∗ scr c cc0_scratch4 (k0_pay7 (F := F))
            -∗ wp frame (wpE (defs₀ (F := F)) 𝒱₀ (c : Thread nD τ) none) Set.univ (k ⟨k0_pay8 xq, k0_pay9, iota .tc S64x1024 32 [1] iota_S64x1024_d1_w32, 128#32⟩) Q)
        -∗ wp frame (wpE (defs₀ (F := F)) 𝒱₀ (c : Thread nD τ) none) Set.univ (k0_part3 (F := F) i (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 >>= k) Q) := by
  rw [k0_part3_eq_skeleton]; unfold k0_part3_skel
  simp only [Prog.lift, Prog.bind_op, Prog.bind_ret, Prog.pure_eq_ret]
  iintro ⟨Hq, ⟨%f3, H3⟩, ⟨%f4, H4⟩⟩ Hk
  iapply (load_l c _ f3) $$ H3; iintro H3
  iapply (store_l c _ f3) $$ H3; iintro H3
  iapply (load_a c _ f4) $$ H4; iintro H4
  iapply (store_a c _ f4) $$ H4; iintro H4
  iapply (load_q c _ xq) $$ Hq; iintro Hq
  iapply Hk
  isplitl [Hq]; · iexact Hq
  isplitl [H3] <;> iassumption

/-- Part 4: the block-diagonal query is stored; the page table and the first length are loaded. -/
theorem part4_wp (xb : Vec F S8x512 .i32) (xl : Vec F S8 .i32) (v3 v151 v176 v177 v) {α : Type} (k) (Q : α → sProp 𝕄) :
    iprop((∃ f, scr c cc0_scratch1 f) ∗ scr c cc0_stg1_0 xb ∗ scr c cc0_stg2_0 xl)
      ⊢ iprop((scr c cc0_scratch1 (k0_pay10 (F := F) v151 v176 v177 v) ∗ scr c cc0_stg1_0 xb ∗ scr c cc0_stg2_0 xl
            -∗ wp frame (wpE (defs₀ (F := F)) 𝒱₀ (c : Thread nD τ) none) Set.univ (k ⟨k0_pay11 xb, iota .tc S512x512 32 [1] iota_S512x512_d1_w32, iota .tc S512x1 32 [0] iota_S512x1_d0_w32,
              k0_pay12 v3 xb (lenAt xl 0), Scalar.ofBits .f32 0x3F800000#32, Scalar.ofBits .f32 0x00000000#32⟩) Q)
        -∗ wp frame (wpE (defs₀ (F := F)) 𝒱₀ (c : Thread nD τ) none) Set.univ (k0_part4 (F := F) i (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 v3 v151 v176 v177 v >>= k) Q) := by
  rw [k0_part4_eq_skeleton]; unfold k0_part4_skel
  simp only [Prog.lift, Prog.bind_op, Prog.bind_ret, Prog.pure_eq_ret, bind_assoc]
  iintro ⟨⟨%f1, H1⟩, Hb, Hl⟩ Hk
  iapply (load_qw c _ f1) $$ H1; iintro H1
  iapply (store_qw c _ f1) $$ H1; iintro H1
  iapply (load_b c _ xb) $$ Hb; iintro Hb
  iapply (load_len c 0 _ xl) $$ Hl; iintro Hl
  iapply Hk
  isplitl [H1]; · iexact H1
  isplitl [Hb] <;> iassumption

/-- Part 5: three more lengths. -/
theorem part5_wp (xl : Vec F S8 .i32) (v3 v210 v211 v212 v222 a b) {α : Type} (k) (Q : α → sProp 𝕄) :
    scr c cc0_stg2_0 xl
      ⊢ iprop((scr c cc0_stg2_0 xl
            -∗ wp frame (wpE (defs₀ (F := F)) 𝒱₀ (c : Thread nD τ) none) Set.univ (k ⟨k0_pay13 v222 a b, k0_pay14 v3 v210 v211 v212 (lenAt xl 1), k0_pay15 v3 v210 v211 v212 (lenAt xl 2),
              k0_pay16 v3 v210 v211 v212 (lenAt xl 3)⟩) Q)
        -∗ wp frame (wpE (defs₀ (F := F)) 𝒱₀ (c : Thread nD τ) none) Set.univ (k0_part5 (F := F) i (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 v3 v210 v211 v212 v222 a b >>= k) Q) := by
  rw [k0_part5_eq_skeleton]; unfold k0_part5_skel
  simp only [Prog.bind_ret, Prog.pure_eq_ret, bind_assoc]
  iintro Hl Hk
  iapply (load_len c 1 _ xl) $$ Hl; iintro Hl
  iapply (load_len c 2 _ xl) $$ Hl; iintro Hl
  iapply (load_len c 3 _ xl) $$ Hl; iintro Hl
  iapply Hk; iexact Hl

/-- Part 6: three more lengths. -/
theorem part6_wp (xl : Vec F S8 .i32) (v3 v210 v211 v212 v270) {α : Type} (k) (Q : α → sProp 𝕄) :
    scr c cc0_stg2_0 xl
      ⊢ iprop((scr c cc0_stg2_0 xl
            -∗ wp frame (wpE (defs₀ (F := F)) 𝒱₀ (c : Thread nD τ) none) Set.univ (k ⟨k0_pay17 v270, k0_pay18 v3 v210 v211 v212 (lenAt xl 4), k0_pay19 v3 v210 v211 v212 (lenAt xl 5),
              k0_pay20 v3 v210 v211 v212 (lenAt xl 6)⟩) Q)
        -∗ wp frame (wpE (defs₀ (F := F)) 𝒱₀ (c : Thread nD τ) none) Set.univ (k0_part6 (F := F) i (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 v3 v210 v211 v212 v270 >>= k) Q) := by
  rw [k0_part6_eq_skeleton]; unfold k0_part6_skel
  simp only [Prog.bind_ret, Prog.pure_eq_ret, bind_assoc]
  iintro Hl Hk
  iapply (load_len c 4 _ xl) $$ Hl; iintro Hl
  iapply (load_len c 5 _ xl) $$ Hl; iintro Hl
  iapply (load_len c 6 _ xl) $$ Hl; iintro Hl
  iapply Hk; iexact Hl

/-- Part 7: the last length. -/
theorem part7_wp (xl : Vec F S8 .i32) (v3 v210 v211 v212 v227 v242 v257 v272 v287 v302 v317) {α : Type} (k) (Q : α → sProp 𝕄) :
    scr c cc0_stg2_0 xl
      ⊢ iprop((scr c cc0_stg2_0 xl
            -∗ wp frame (wpE (defs₀ (F := F)) 𝒱₀ (c : Thread nD τ) none) Set.univ (k ⟨k0_pay21 v3 v210 v211 v212 v227 v242 v257 v272 v287 v302 v317 (lenAt xl 7), k0_pay22⟩) Q)
        -∗ wp frame (wpE (defs₀ (F := F)) 𝒱₀ (c : Thread nD τ) none) Set.univ (k0_part7 (F := F) i (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 v3 v210 v211 v212 v227 v242 v257 v272 v287 v302 v317 >>= k) Q) := by
  rw [k0_part7_eq_skeleton]; unfold k0_part7_skel
  simp only [Prog.bind_ret, Prog.pure_eq_ret, bind_assoc]
  iintro Hl Hk
  iapply (load_len c 7 _ xl) $$ Hl; iintro Hl
  iapply Hk; iexact Hl

end

end Cert.Pa

end
-- ==== Proof.Pa.BodyB.lean ====
/-
# Paged attention: the parts of the first point that start copies and signal
-/
module

public import proofs.«01_k».proof.Proof.Pa.BodyA

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The key slots. -/
abbrev kM : Memref sig .tc .vmem S3x64x16x8x128 .f32 := Memref.whole cc0_scratch5
/-- The value slots. -/
abbrev vM : Memref sig .tc .vmem S3x64x16x8x128 .f32 := Memref.whole cc0_scratch6
/-- The device's key pages. -/
abbrev kH : Memref sig .tc .hbm S512x16x8x128 .f32 := Memref.whole main_arg1
/-- The device's value pages. -/
abbrev vH : Memref sig .tc .hbm S512x16x8x128 .f32 := Memref.whole main_arg2

section
variable (GA : cc0_scratch7.ty.Contents (Elt F)) (GM : cc0_scratch8.ty.Contents (Elt F)) (K : Dev nD × CK → ℕ)
variable (c : Dev nD) (i : grid0.Coords)
variable (hk : Buf (Elt F) (kH.view.loc (c : Thread nD τ))) (hv : Buf (Elt F) (vH.view.loc (c : Thread nD τ)))

/-- A free key slot. -/
abbrev FreeK (s : ℕ) (h : s < 3) : sProp 𝕄 := FreeS kM kH cc0_scratch9 c hk s h
/-- A free value slot. -/
abbrev FreeV (s : ℕ) (h : s < 3) : sProp 𝕄 := FreeS vM vH cc0_scratch10 c hv s h
/-- A key slot with a chunk in flight. -/
abbrev InflK (b s : ℕ) (hb : b < 8) (h : s < 3) : sProp 𝕄 := InflS kM kH cc0_scratch9 c hk b s hb h
/-- A value slot with a chunk in flight. -/
abbrev InflV (b s : ℕ) (hb : b < 8) (h : s < 3) : sProp 𝕄 := InflS vM vH cc0_scratch10 c hv b s hb h

/-- Part 1: three of the first four copies. -/
theorem part1_wp {α : Type} (k) (Q : α → sProp 𝕄) :
    iprop(FreeK c hk 0 (by decide) ∗ FreeV c hv 0 (by decide) ∗ FreeK c hk 1 (by decide))
      ⊢ iprop((InflK c hk 0 0 (by decide) (by decide) ∗ InflV c hv 0 0 (by decide) (by decide) ∗ InflK c hk 1 1 (by decide) (by decide)
            -∗ wp frame (wpE (defs₀ (F := F)) 𝒱₀ (c : Thread nD τ) none) Set.univ (k ⟨⟩) Q)
        -∗ wp frame (wpE (defs₀ (F := F)) 𝒱₀ (c : Thread nD τ) none) Set.univ (k0_part1 (F := F) i (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 >>= k) Q) := by
  rw [k0_part1_eq_skeleton]; unfold k0_part1_skel
  simp only [Prog.lift, Prog.bind_op, Prog.bind_ret, Prog.pure_eq_ret]
  iintro ⟨H1, H2, H3⟩ Hk
  iapply (ring_issue kM kH cc0_scratch9 c hk 0 0 _ _ rfl rfl rfl Q) $$ H1; iintro H1
  iapply (ring_issue vM vH cc0_scratch10 c hv 0 0 _ _ rfl rfl rfl Q) $$ H2; iintro H2
  iapply (ring_issue kM kH cc0_scratch9 c hk 1 1 _ _ rfl rfl rfl Q) $$ H3; iintro H3
  iapply Hk
  isplitl [H1]; · iexact H1
  isplitl [H2] <;> iassumption

/-- The signal to device 0 is guarded by not being it. -/
theorem cond2_iff (c : Dev nD) : k0_cond2 c = 1#1 ↔ c ≠ 0 := by revert c; decide +kernel
/-- The signal to device 1 is guarded by not being it. -/
theorem cond3_iff (c : Dev nD) : k0_cond3 c = 1#1 ↔ c ≠ 1 := by revert c; decide +kernel
/-- The signal to device 2 is guarded by not being it. -/
theorem cond4_iff (c : Dev nD) : k0_cond4 c = 1#1 ↔ c ≠ 2 := by revert c; decide +kernel
/-- The signal to device 3 is guarded by not being it. -/
theorem cond5_iff (c : Dev nD) : k0_cond5 c = 1#1 ↔ c ≠ 3 := by revert c; decide +kernel
/-- The signal to device 4 is guarded by not being it. -/
theorem cond6_iff (c : Dev nD) : k0_cond6 c = 1#1 ↔ c ≠ 4 := by revert c; decide +kernel
/-- The signal to device 5 is guarded by not being it. -/
theorem cond7_iff (c : Dev nD) : k0_cond7 c = 1#1 ↔ c ≠ 5 := by revert c; decide +kernel
/-- The signal to device 6 is guarded by not being it. -/
theorem cond8_iff (c : Dev nD) : k0_cond8 c = 1#1 ↔ c ≠ 6 := by revert c; decide +kernel
/-- The signal to device 7 is guarded by not being it. -/
theorem cond9_iff (c : Dev nD) : k0_cond9 c = 1#1 ↔ c ≠ 7 := by revert c; decide +kernel

/-- A signal under its guard, followed by the rest of the program. -/
theorem sig_jp (c t : Dev nD) (l : List (Dev nD)) {p : Prop} [Decidable p] {dev : p → Dev nD}
    (hp : p ↔ c ≠ t) (hdev : ∀ h, dev h = t) {α : Type} {X : Prog (TpuEff nD τ sig (Elt F) Λ₀ .tc) α} {Q : α → sProp 𝕄} :
    iprop(records GA GM K ∗ SigSt (F := F) c (t :: l))
      ⊢ iprop((SigSt (F := F) c l -∗ wp frame (wpE (defs₀ (F := F)) 𝒱₀ (c : Thread nD τ) none) Set.univ X Q) -∗ wp frame (wpE (defs₀ (F := F)) 𝒱₀ (c : Thread nD τ) none) Set.univ
          (if h : p then (do semSignalWord (dev h) barS 1#32; X) else X) Q) := by
  have e : (if h : p then (do semSignalWord (dev h) barS 1#32; X) else X)
      = (((if h : p then (do semSignalWord (dev h) barS 1#32; pure ⟨⟩) else pure ⟨⟩) : Prog (TpuEff nD τ sig (Elt F) Λ₀ .tc) Unit) >>= fun _ => X) := by
    by_cases h : p
    · rw [dif_pos h, dif_pos h, bind_assoc]; rfl
    · rw [dif_neg h, dif_neg h]; rfl
  rw [e, wp_bind]
  exact sig_step GA GM K c t l hp hdev (fun _ => wp frame (wpE (defs₀ (F := F)) 𝒱₀ (c : Thread nD τ) none) Set.univ X Q)

set_option maxHeartbeats 1600000 in
/-- Part 2: the fourth copy, the signals, and the running maximum's start. -/
theorem part2_wp (v2 : BitVec 32) (h1 : k0_cond1 i = 1#1) {α : Type} (k) (Q : α → sProp 𝕄) :
    iprop(records GA GM K ∗ FreeV c hv 1 (by decide) ∗ SigSt (F := F) c devs ∗ (∃ f, scr c cc0_scratch2 f))
      ⊢ iprop((InflV c hv 1 1 (by decide) (by decide) ∗ SigSt (F := F) c [] ∗ scr c cc0_scratch2 (k0_pay5 (F := F))
            -∗ wp frame (wpE (defs₀ (F := F)) 𝒱₀ (c : Thread nD τ) none) Set.univ (k ⟨⟩) Q)
        -∗ wp frame (wpE (defs₀ (F := F)) 𝒱₀ (c : Thread nD τ) none) Set.univ (k0_part2 (F := F) i (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c v2 (SemArray.scalar (sig.barrier 0 rfl)) h1 >>= k) Q) := by
  rw [k0_part2_eq_skeleton, wp_bind]; unfold k0_part2_skel
  simp (config := { zeta := false, zetaHave := false }) only [Prog.lift, Prog.bind_op, Prog.bind_ret]
  iintro ⟨#HR, H1, HS, ⟨%f2, H2⟩⟩ Hk
  iapply (ring_issue vM vH cc0_scratch10 c hv 1 1 _ _ rfl rfl rfl _) $$ H1; iintro H1
  iapply (sig_jp GA GM K c 0 _ (cond2_iff c) (fun _ => Fin.ext k0_dev1_eq)) $$ [HS]
  · isplitr; · iexact HR
    iexact HS
  iintro HS
  iapply (sig_jp GA GM K c 1 _ (cond3_iff c) (fun _ => Fin.ext k0_dev2_eq)) $$ [HS]
  · isplitr; · iexact HR
    iexact HS
  iintro HS
  iapply (sig_jp GA GM K c 2 _ (cond4_iff c) (fun _ => Fin.ext k0_dev3_eq)) $$ [HS]
  · isplitr; · iexact HR
    iexact HS
  iintro HS
  iapply (sig_jp GA GM K c 3 _ (cond5_iff c) (fun _ => Fin.ext k0_dev4_eq)) $$ [HS]
  · isplitr; · iexact HR
    iexact HS
  iintro HS
  iapply (sig_jp GA GM K c 4 _ (cond6_iff c) (fun _ => Fin.ext k0_dev5_eq)) $$ [HS]
  · isplitr; · iexact HR
    iexact HS
  iintro HS
  iapply (sig_jp GA GM K c 5 _ (cond7_iff c) (fun _ => Fin.ext k0_dev6_eq)) $$ [HS]
  · isplitr; · iexact HR
    iexact HS
  iintro HS
  iapply (sig_jp GA GM K c 6 _ (cond8_iff c) (fun _ => Fin.ext k0_dev7_eq)) $$ [HS]
  · isplitr; · iexact HR
    iexact HS
  iintro HS
  iapply (sig_jp GA GM K c 7 _ (cond9_iff c) (fun _ => Fin.ext k0_dev8_eq)) $$ [HS]
  · isplitr; · iexact HR
    iexact HS
  iintro HS
  iapply (load_m c _ f2) $$ H2; iintro H2
  iapply (store_m c _ f2) $$ H2; iintro H2
  rw [Prog.pure_eq_ret, wp_ret]; imodintro
  iapply Hk
  isplitl [H1]; · iexact H1
  isplitl [HS] <;> iassumption

end

end Cert.Pa

end
-- ==== Proof.Pa.BodyC.lean ====
/-
# Paged attention: one chunk's update, and the first point's start

`RingSt t` is a ring before point `t`: chunk `t` and chunk `t + 1` in flight (or their slots free when there are no such
chunks), the third slot free. A point starts chunk `t + 2` in the third slot, waits for chunk `t` and reads it.
-/
module

public import proofs.«01_k».proof.Proof.Pa.BodyB
public import Idealize.ShloMosaic.Lib.Pipeline.Value

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Ring
variable (M : Memref sig .tc .vmem S3x64x16x8x128 .f32) (H : Memref sig .tc .hbm S512x16x8x128 .f32) (A : DmaSems sig S3)
variable (c : Dev nD) (hf : Buf (Elt F) (H.view.loc (c : Thread nD τ)))

/-- Slot `s`, with chunk `b` in flight if there is one. -/
def blkSt (b s : ℕ) (h : s < 3) : sProp 𝕄 := if hb : b < 8 then InflS M H A c hf b s hb h else FreeS M H A c hf s h

/-- A remainder by three names a slot. -/
theorem mod3 (t : ℕ) : t % 3 < 3 := Nat.mod_lt _ (by decide)

/-- The ring before the chunk of point `t`: two chunks in flight where there are so many left, the other slots free. -/
def RingSt (t : ℕ) : sProp 𝕄 :=
  iprop(blkSt M H A c hf t (t % 3) (mod3 t) ∗ blkSt M H A c hf (t + 1) ((t + 1) % 3) (mod3 _) ∗ FreeS M H A c hf ((t + 2) % 3) (mod3 _))
/-- The ring once the prefetch of point `t` is started. -/
def RingMid (t : ℕ) : sProp 𝕄 :=
  iprop(blkSt M H A c hf t (t % 3) (mod3 t) ∗ blkSt M H A c hf (t + 1) ((t + 1) % 3) (mod3 _) ∗ blkSt M H A c hf (t + 2) ((t + 2) % 3) (mod3 _))
/-- The ring without the slot of point `t`. -/
def RingRest (t : ℕ) : sProp 𝕄 :=
  iprop(blkSt M H A c hf (t + 1) ((t + 1) % 3) (mod3 _) ∗ blkSt M H A c hf (t + 2) ((t + 2) % 3) (mod3 _))

/-- A free slot named by two equal numbers. -/
theorem FreeS_congr (s s' : ℕ) (e : s = s') (h : s < 3) (h' : s' < 3) : FreeS M H A c hf s h = FreeS M H A c hf s' h' := by subst e; rfl

/-- With the slot of point `t` given back, the ring stands before point `t + 1`. -/
theorem ring_next (t : ℕ) : iprop(FreeS M H A c hf (t % 3) (mod3 t) ∗ RingRest M H A c hf t) ⊢ RingSt M H A c hf (t + 1) := by
  unfold RingRest RingSt
  iintro ⟨Hf, H1, H2⟩
  isplitl [H1]; · iexact H1
  isplitl [H2]; · iexact H2
  iapply (Entails.of_eq (FreeS_congr M H A c hf (t % 3) ((t + 1 + 2) % 3) (by omega) _ _)); iexact Hf

/-- Chunks 0 and 1 in flight and slot 2 free are the ring at the start. -/
theorem ring_zero : iprop(InflS M H A c hf 0 0 (by decide) (by decide) ∗ InflS M H A c hf 1 1 (by decide) (by decide) ∗ FreeS M H A c hf 2 (by decide))
    ⊢ RingSt M H A c hf 0 := .rfl

/-- A slot's memref at an equal offset. -/
theorem slot_eq (s : ℕ) (h : s < 3) (o : Fin 5 → Nat) (ho : o = ![s, 0, 0, 0, 0]) (inb) :
    (M.slice (Rect.unit (s := S3x64x16x8x128) o S1x64x16x8x128.size inb) (fun _ => rfl)).squeeze S64x16x8x128
      squeezes_S1x64x16x8x128_S64x16x8x128 = slotR M s h := by subst ho; rfl
/-- A chunk's memref at an equal offset. -/
theorem blk_eq (b : ℕ) (h : b < 8) (o : Fin 4 → Nat) (ho : o = ![64 * b, 0, 0, 0]) (inb) :
    H.slice (Rect.unit (s := S512x16x8x128) o S64x16x8x128.size inb) (fun _ => rfl) = blkR H b h := by subst ho; rfl
/-- A slot's semaphore at an equal offset. -/
theorem sem_eq (s : ℕ) (h : s < 3) (o : Fin 1 → Nat) (ho : o = ![s]) (inb) :
    ((A.slice (Rect.unit (s := S3) o S1.size inb)).squeeze S_ squeezes_S1_S_).sem = semR A s h := by subst ho; rfl

/-- A load of the whole of slot `s`. -/
theorem load_slot (s : ℕ) (h : s < 3) (X : Vec F S64x16x8x128 .f32) (o : Fin 5 → Nat) (ho : o = ![s, 0, 0, 0, 0]) (inb) {α : Type}
    {hl : M.view.LoadsAt (Rect.unit (s := S3x64x16x8x128) o S1x64x16x8x128.size inb).toLoadRect}
    {k : Vec F S1x64x16x8x128 .f32 → Prog (TpuEff nD τ sig (Elt F) Λ₀ .tc) α} (Q : α → sProp 𝕄) :
    slotHas M c s h X ⊢ iprop((slotHas M c s h X -∗ wp frame (wpE (defs₀ (F := F)) 𝒱₀ (c : Thread nD τ) none) Set.univ (k (ld1 X)) Q)
      -∗ wp frame (wpE (defs₀ (F := F)) 𝒱₀ (c : Thread nD τ) none) Set.univ (.op (.load M (Rect.unit (s := S3x64x16x8x128) o S1x64x16x8x128.size inb).toLoadRect hl) k) Q) := by
  subst ho
  unfold slotHas
  iintro ⟨%g, %hg, Hs⟩ Hk
  have hS : M.view.setOn (Rect.unit (s := S3x64x16x8x128) ![s, 0, 0, 0, 0] S1x64x16x8x128.size inb).toLoadRect.set ⊆ (slotR M s h).view.set := by
    have e : (slotR M s h).view.set = (M.view.slice (Rect.unit (s := S3x64x16x8x128) ![s, 0, 0, 0, 0] S1x64x16x8x128.size inb)).set :=
      View.set_reshape _ _
    rw [e, View.set_slice]; exact subset_rfl
  have hr : M.view.readAt (Elt F) (Rect.unit (s := S3x64x16x8x128) ![s, 0, 0, 0, 0] S1x64x16x8x128.size inb).toLoadRect g = ld1 X := by
    rw [← hg]
    have e := Memref.read_squeeze_slice (Val := Elt F) M (Rect.unit (s := S3x64x16x8x128) ![s, 0, 0, 0, 0] S1x64x16x8x128.size inb) (fun _ => rfl)
      squeezes_S1x64x16x8x128_S64x16x8x128 shapeCasts_S1x64x16x8x128_S64x16x8x128 g
    have e' : (slotR M s h).view.read (Elt F) g = shapeCast S64x16x8x128 (M.view.readAt (Elt F) (Rect.unit (s := S3x64x16x8x128) ![s, 0, 0, 0, 0] S1x64x16x8x128.size inb).toLoadRect g) shapeCasts_S1x64x16x8x128_S64x16x8x128 := e
    rw [e']; unfold ld1
    exact (shapeCast_shapeCast _ _ _).symm
  iapply (wp_load (defs := defs₀ (F := F)) (Γ := .empty) 𝒱₀ (c : Thread nD τ) none Set.univ (m := M) (hl := hl) hS) $$ Hs
  iintro Hs
  rw [hr]
  iapply Hk
  iexists g
  isplitr; · ipureintro; exact hg
  iexact Hs

end Ring

/-- The first point is tested by its number. -/
theorem cond1_iff (t : ℕ) (h : t < 8) : k0_cond1 (pt t h) = 1#1 ↔ t = 0 :=
  (by decide +kernel : ∀ n : Fin 8, k0_cond1 (pt n.val n.isLt) = 1#1 ↔ n.val = 0) ⟨t, h⟩
/-- A chunk is prefetched as long as two more are left. -/
theorem cond10_iff (t : ℕ) (h : t < 8) : k0_cond10 (pt t h) = 1#1 ↔ t + 2 < 8 :=
  (by decide +kernel : ∀ n : Fin 8, k0_cond10 (pt n.val n.isLt) = 1#1 ↔ n.val + 2 < 8) ⟨t, h⟩
/-- The last point is tested by its number. -/
theorem cond11_iff (t : ℕ) (h : t < 8) : k0_cond11 (pt t h) = 1#1 ↔ t = 7 :=
  (by decide +kernel : ∀ n : Fin 8, k0_cond11 (pt n.val n.isLt) = 1#1 ↔ n.val = 7) ⟨t, h⟩

section
variable (GA : cc0_scratch7.ty.Contents (Elt F)) (GM : cc0_scratch8.ty.Contents (Elt F)) (K : Dev nD × CK → ℕ)
variable (c : Dev nD) (t : ℕ) (ht : t < 8)
variable (hk : Buf (Elt F) (kH.view.loc (c : Thread nD τ))) (hv : Buf (Elt F) (vH.view.loc (c : Thread nD τ)))

/-- The ring of keys before point `t`. -/
abbrev RingK (t : ℕ) : sProp 𝕄 := RingSt kM kH cc0_scratch9 c hk t
/-- The ring of values before point `t`. -/
abbrev RingV (t : ℕ) : sProp 𝕄 := RingSt vM vH cc0_scratch10 c hv t
/-- The ring of keys once the prefetch is started. -/
abbrev MidK (t : ℕ) : sProp 𝕄 := RingMid kM kH cc0_scratch9 c hk t
/-- The ring of values once the prefetch is started. -/
abbrev MidV (t : ℕ) : sProp 𝕄 := RingMid vM vH cc0_scratch10 c hv t
/-- The ring of keys without the slot in use. -/
abbrev RestK (t : ℕ) : sProp 𝕄 := RingRest kM kH cc0_scratch9 c hk t
/-- The ring of values without the slot in use. -/
abbrev RestV (t : ℕ) : sProp 𝕄 := RingRest vM vH cc0_scratch10 c hv t

/-- The prefetch, followed by the rest of the program. -/
theorem pre_jp {α : Type} {X : Prog (TpuEff nD τ sig (Elt F) Λ₀ .tc) α} {Q : α → sProp 𝕄} :
    iprop(RingK c hk t ∗ RingV c hv t)
      ⊢ iprop((MidK c hk t ∗ MidV c hv t -∗ wp frame (wpE (defs₀ (F := F)) 𝒱₀ (c : Thread nD τ) none) Set.univ X Q) -∗ wp frame (wpE (defs₀ (F := F)) 𝒱₀ (c : Thread nD τ) none) Set.univ
          (if k0_h10 : k0_cond10 (pt t ht) = 1#1 then
            Prog.op (.enqueueDma (kH.slice (Rect.unit (s := S512x16x8x128) (k0_off3 (pt t ht)) S64x16x8x128.size (k0_off3_inb (pt t ht) k0_h10)) (fun _ => rfl))
                (.here ((kM.slice (Rect.unit (s := S3x64x16x8x128) (k0_off2 (pt t ht)) S1x64x16x8x128.size (k0_off2_inb (pt t ht) k0_h10)) (fun _ => rfl)).squeeze
                  S64x16x8x128 squeezes_S1x64x16x8x128_S64x16x8x128))
                (.dma ((cc0_scratch9.slice (Rect.unit (s := S3) (k0_off1 (pt t ht)) S1.size (k0_off1_inb (pt t ht) k0_h10))).squeeze S_ squeezes_S1_S_).sem)
                (View.wordExact_bits rfl) ((View.wordExact_bits rfl).reshape _ _) ⟨Or.inl rfl, trivial⟩) fun _ =>
            Prog.op (.enqueueDma (vH.slice (Rect.unit (s := S512x16x8x128) (k0_off3 (pt t ht)) S64x16x8x128.size (k0_off3_inb (pt t ht) k0_h10)) (fun _ => rfl))
                (.here ((vM.slice (Rect.unit (s := S3x64x16x8x128) (k0_off2 (pt t ht)) S1x64x16x8x128.size (k0_off2_inb (pt t ht) k0_h10)) (fun _ => rfl)).squeeze
                  S64x16x8x128 squeezes_S1x64x16x8x128_S64x16x8x128))
                (.dma ((cc0_scratch10.slice (Rect.unit (s := S3) (k0_off1 (pt t ht)) S1.size (k0_off1_inb (pt t ht) k0_h10))).squeeze S_ squeezes_S1_S_).sem)
                (View.wordExact_bits rfl) ((View.wordExact_bits rfl).reshape _ _) ⟨Or.inl rfl, trivial⟩) fun _ => X
          else X) Q) := by
  unfold RingK RingV MidK MidV RingSt RingMid
  iintro ⟨⟨Ha, Hb, Hc⟩, ⟨Hd, He, Hf⟩⟩ Hk
  by_cases h : k0_cond10 (pt t ht) = 1#1
  · have h2 := (cond10_iff t ht).mp h
    rw [dif_pos h]
    have e3 : k0_off3 (pt t ht) = ![64 * (t + 2), 0, 0, 0] := (k0_off3_eq (pt t ht)).trans (by rw [Nat.mul_add]; rfl)
    iapply (ring_issue kM kH cc0_scratch9 c hk (t + 2) ((t + 2) % 3) h2 (mod3 _) (blk_eq kH (t + 2) h2 _ e3 _)
      (slot_eq kM _ _ _ (k0_off2_eq (pt t ht)) _) (sem_eq cc0_scratch9 _ _ _ (k0_off1_eq (pt t ht)) _) Q) $$ Hc
    iintro Hc
    iapply (ring_issue vM vH cc0_scratch10 c hv (t + 2) ((t + 2) % 3) h2 (mod3 _) (blk_eq vH (t + 2) h2 _ e3 _)
      (slot_eq vM _ _ _ (k0_off2_eq (pt t ht)) _) (sem_eq cc0_scratch10 _ _ _ (k0_off1_eq (pt t ht)) _) Q) $$ Hf
    iintro Hf
    iapply Hk
    have ek : blkSt kM kH cc0_scratch9 c hk (t + 2) ((t + 2) % 3) (mod3 _) = InflS kM kH cc0_scratch9 c hk (t + 2) ((t + 2) % 3) h2 (mod3 _) := dif_pos h2
    have ev : blkSt vM vH cc0_scratch10 c hv (t + 2) ((t + 2) % 3) (mod3 _) = InflS vM vH cc0_scratch10 c hv (t + 2) ((t + 2) % 3) h2 (mod3 _) := dif_pos h2
    rw [ek, ev]
    isplitl [Ha Hb Hc]
    · isplitl [Ha]; · iexact Ha
      isplitl [Hb] <;> iassumption
    isplitl [Hd]; · iexact Hd
    isplitl [He] <;> iassumption
  · have h2 : ¬ t + 2 < 8 := fun h' => h ((cond10_iff t ht).mpr h')
    rw [dif_neg h]
    iapply Hk
    have ek : blkSt kM kH cc0_scratch9 c hk (t + 2) ((t + 2) % 3) (mod3 _) = FreeS kM kH cc0_scratch9 c hk ((t + 2) % 3) (mod3 _) := dif_neg h2
    have ev : blkSt vM vH cc0_scratch10 c hv (t + 2) ((t + 2) % 3) (mod3 _) = FreeS vM vH cc0_scratch10 c hv ((t + 2) % 3) (mod3 _) := dif_neg h2
    rw [ek, ev]
    isplitl [Ha Hb Hc]
    · isplitl [Ha]; · iexact Ha
      isplitl [Hb] <;> iassumption
    isplitl [Hd]; · iexact Hd
    isplitl [He] <;> iassumption

/-- The chunk in flight at point `t` has landed: its elements, and what makes the slot free again. -/
abbrev GotK (X : Vec F S64x16x8x128 .f32) : sProp 𝕄 :=
  iprop(semVal ((c : Thread nD τ), .dma (semR cc0_scratch9 (t % 3) (mod3 t))) 0 ∗ slotHas kM c (t % 3) (mod3 t) X ∗ hTok kH c hk (t % 3) (mod3 t))

/-- No cell of the protocol is a semaphore of the key slots. -/
theorem semK_ne : ∀ (s : ℕ) (h : s < 3) (k : CK), csem k ≠ .dma (semR cc0_scratch9 s h) := by
  have : ∀ (s : Fin 3) (k : CK), csem k ≠ .dma (semR cc0_scratch9 s.val s.isLt) := by
    intro s k
    rcases k with _ | ⟨j, k⟩
    · exact fun e => by cases e
    · intro e
      have e' : (SemLoc.dma (semAt (fam j) k) : SemLoc sig) = SemLoc.dma (semR cc0_scratch9 s.val s.isLt) := e
      exact absurd (SemLoc.dma.inj e') ((by decide +kernel : ∀ (j : Fin 4) (k : Dev nD) (s : Fin 3), semAt (fam j) k ≠ semR cc0_scratch9 s.val s.isLt) j k s)
  exact fun s h k => this ⟨s, h⟩ k

/-- No cell of the protocol is a semaphore of the value slots. -/
theorem semV_ne : ∀ (s : ℕ) (h : s < 3) (k : CK), csem k ≠ .dma (semR cc0_scratch10 s h) := by
  have : ∀ (s : Fin 3) (k : CK), csem k ≠ .dma (semR cc0_scratch10 s.val s.isLt) := by
    intro s k
    rcases k with _ | ⟨j, k⟩
    · exact fun e => by cases e
    · intro e
      have e' : (SemLoc.dma (semAt (fam j) k) : SemLoc sig) = SemLoc.dma (semR cc0_scratch10 s.val s.isLt) := e
      exact absurd (SemLoc.dma.inj e') ((by decide +kernel : ∀ (j : Fin 4) (k : Dev nD) (s : Fin 3), semAt (fam j) k ≠ semR cc0_scratch10 s.val s.isLt) j k s)
  exact fun s h k => this ⟨s, h⟩ k

end

end Cert.Pa

end
-- ==== Proof.Pa.BodyD.lean ====
/-
# Paged attention: a point up to the last point's exchange
-/
module

public import proofs.«01_k».proof.Proof.Pa.BodyC

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (GA : cc0_scratch7.ty.Contents (Elt F)) (GM : cc0_scratch8.ty.Contents (Elt F)) (K : Dev nD × CK → ℕ)
variable (c : Dev nD) (t : ℕ) (ht : t < 8)
variable (hk : Buf (Elt F) (kH.view.loc (c : Thread nD τ))) (hv : Buf (Elt F) (vH.view.loc (c : Thread nD τ)))
variable (xq : Vec F S8x1x8x128 .f32) (xb : Vec F S8x512 .i32) (xl : Vec F S8 .i32)

/-- What device `c` starts from, given its staged inputs and its two caches. -/
def argsOf : Args F := ⟨c, xq, xb, xl, chunk kH c hk, chunk vH c hv⟩

/-- The staged inputs. -/
def Ins : sProp 𝕄 := iprop(scr c cc0_stg0_0 xq ∗ scr c cc0_stg1_0 xb ∗ scr c cc0_stg2_0 xl)

/-- The five working buffers, holding anything. -/
def Any5 : sProp 𝕄 :=
  iprop((∃ f, scr c cc0_scratch0 f) ∗ (∃ f, scr c cc0_scratch1 f) ∗ (∃ f, scr c cc0_scratch2 f) ∗ (∃ f, scr c cc0_scratch3 f)
    ∗ (∃ f, scr c cc0_scratch4 f))

/-- The five working buffers: weights, query, maximum, denominator, numerator. -/
def Bufs (w : Vec F S8x8192 .f32) (qw : Vec F S64x1024 .f32) (s : St F) : sProp 𝕄 :=
  iprop(scr c cc0_scratch0 w ∗ scr c cc0_scratch1 qw ∗ scr c cc0_scratch2 s.m ∗ scr c cc0_scratch3 s.l ∗ scr c cc0_scratch4 s.a)

/-- Before the first point. -/
def Start0 : sProp 𝕄 :=
  iprop(Ins c xq xb xl ∗ Any5 (F := F) c
    ∗ (FreeK c hk 0 (by decide) ∗ FreeK c hk 1 (by decide) ∗ FreeK c hk 2 (by decide))
    ∗ (FreeV c hv 0 (by decide) ∗ FreeV c hv 1 (by decide) ∗ FreeV c hv 2 (by decide))
    ∗ SigSt (F := F) c devs)

/-- Before the chunk of point `t`. -/
def MidSt (t : ℕ) : sProp 𝕄 :=
  iprop(Ins c xq xb xl ∗ Bufs c (wV c xb xl) (qwV xq) (st (argsOf c hk hv xq xb xl) t) ∗ RingK c hk t ∗ RingV c hv t ∗ SigSt (F := F) c [])

/-- What a device holds before point `t`. -/
def PreSt (t : ℕ) : sProp 𝕄 := if t = 0 then Start0 c hk hv xq xb xl else MidSt c hk hv xq xb xl t

set_option maxHeartbeats 1600000 in
/-- The first point's start, followed by the rest of the program. -/
theorem first_jp {α : Type} {X : Prog (TpuEff nD τ sig (Elt F) Λ₀ .tc) α} {Q : α → sProp 𝕄} :
    iprop(records GA GM K ∗ PreSt c hk hv xq xb xl t)
      ⊢ iprop((MidSt c hk hv xq xb xl t -∗ wp frame (wpE (defs₀ (F := F)) 𝒱₀ (c : Thread nD τ) none) Set.univ X Q) -∗ wp frame (wpE (defs₀ (F := F)) 𝒱₀ (c : Thread nD τ) none) Set.univ
          (if k0_h1 : k0_cond1 (pt t ht) = 1#1 then do
            k0_part1 (F := F) (pt t ht) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14
            k0_part2 (F := F) (pt t ht) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (place c) (SemArray.scalar (sig.barrier 0 rfl)) k0_h1
            let ⟨v151, v176, v177, c128_i32⟩ : Σ' (v151 : FVec F S64x1024 .f32) (v176 : IVec S64x1024 32) (v177 : IVec S64x1024 32), BitVec 32 ←
              k0_part3 (F := F) (pt t ht) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14
            let ⟨v210, v211, v212, v222, cst_134, cst_135⟩ : Σ' (v210 : IVec S512x8 32) (v211 : IVec S512x512 32) (v212 : IVec S512x1 32) (v222 : IVec S512x512 1) (cst_134 : F .f32), F .f32 ←
              k0_part4 (F := F) (pt t ht) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (base c) v151 v176 v177 c128_i32
            let ⟨v227, v242, v257, v270⟩ : Σ' (v227 : FVec F S1x512 .f32) (v242 : FVec F S1x512 .f32) (v257 : FVec F S1x512 .f32), FVec F S512x512 .f32 ←
              k0_part5 (F := F) (pt t ht) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (base c) v210 v211 v212 v222 cst_134 cst_135
            let ⟨v272, v287, v302, v317⟩ : Σ' (v272 : FVec F S1x512 .f32) (v287 : FVec F S1x512 .f32) (v302 : FVec F S1x512 .f32), FVec F S1x512 .f32 ←
              k0_part6 (F := F) (pt t ht) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (base c) v210 v211 v212 v270
            let ⟨v333, v364⟩ : Σ' (v333 : FVec F S8x512 .f32), FVec F S512x8192 .bf16 ←
              k0_part7 (F := F) (pt t ht) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 (base c) v210 v211 v212 v227 v242 v257 v272 v287 v302 v317
            let v367 : Vec F S8x8192 .f32 ← Prog.lift (.load (Memref.whole cc0_scratch0) (Rect.unit (s := S8x8192) ![0, 0] S8x8192.size inb_S8x8192_S8x8192_0_0).toLoadRect (View.loadsAt_vmem h_S8x8192))
            Prog.lift (.store (Memref.whole cc0_scratch0) (Rect.unit (s := S8x8192) ![0, 0] S8x8192.size inb_S8x8192_S8x8192_0_0) (k0_pay26 v333 v364) Finset.univ (View.stores_vmem_bits_univ h_S8x8192 rfl) (.inl rfl))
            X
          else X) Q) := by
  by_cases h0 : t = 0
  · have h : k0_cond1 (pt t ht) = 1#1 := (cond1_iff t ht).mpr h0
    subst h0
    rw [dif_pos h]
    unfold PreSt MidSt
    rw [if_pos rfl]
    unfold Start0 Ins Any5
    iintro ⟨#HR, ⟨Hq, Hb, Hl⟩, ⟨⟨%f0, H0⟩, H1, H2, H3, H4⟩, ⟨Ka, Kb, Kc⟩, ⟨Va, Vb, Vc⟩, HS⟩ Hk
    iapply (part1_wp c _ hk hv) $$ [Ka Va Kb]
    · isplitl [Ka]; · iexact Ka
      isplitl [Va] <;> iassumption
    iintro ⟨Ka, Va, Kb⟩
    iapply (part2_wp GA GM K c _ hv) $$ [Vb HS H2]
    · isplitr; · iexact HR
      isplitl [Vb]; · iexact Vb
      isplitl [HS] <;> iassumption
    iintro ⟨Vb, HS, H2⟩
    iapply (part3_wp c _ xq) $$ [Hq H3 H4]
    · isplitl [Hq]; · iexact Hq
      isplitl [H3] <;> iassumption
    iintro ⟨Hq, H3, H4⟩
    iapply (part4_wp c _ xb xl) $$ [H1 Hb Hl]
    · isplitl [H1]; · iexact H1
      isplitl [Hb] <;> iassumption
    iintro ⟨H1, Hb, Hl⟩
    iapply (part5_wp c _ xl) $$ Hl; iintro Hl
    iapply (part6_wp c _ xl) $$ Hl; iintro Hl
    iapply (part7_wp c _ xl) $$ Hl; iintro Hl
    iapply (load_w c _ f0) $$ H0; iintro H0
    iapply (store_w c _ f0) $$ H0; iintro H0
    iapply Hk
    isplitl [Hq Hb Hl]
    · isplitl [Hq]; · iexact Hq
      isplitl [Hb] <;> iassumption
    isplitl [H0 H1 H2 H3 H4]
    · unfold Bufs
      isplitl [H0]; · iexact H0
      isplitl [H1]; · iexact H1
      isplitl [H2]; · iexact H2
      isplitl [H3]; · iexact H3
      iexact H4
    isplitl [Ka Kb Kc]
    · iapply (ring_zero kM kH cc0_scratch9 c hk)
      isplitl [Ka]; · iexact Ka
      isplitl [Kb] <;> iassumption
    isplitl [Va Vb Vc]
    · iapply (ring_zero vM vH cc0_scratch10 c hv)
      isplitl [Va]; · iexact Va
      isplitl [Vb] <;> iassumption
    iexact HS
  · have h : ¬ k0_cond1 (pt t ht) = 1#1 := fun h => h0 ((cond1_iff t ht).mp h)
    rw [dif_neg h]
    unfold PreSt
    rw [if_neg h0]
    iintro ⟨#HR, HP⟩ Hk
    iapply Hk; iexact HP

/-- The wait for chunk `t` of a ring, and the load of it. -/
theorem wait_slot (M : Memref sig .tc .vmem S3x64x16x8x128 .f32) (H : Memref sig .tc .hbm S512x16x8x128 .f32) (A : DmaSems sig S3)
    (hf : Buf (Elt F) (H.view.loc (c : Thread nD τ))) (hA : ∀ (s : ℕ) (h : s < 3) (k : CK), csem k ≠ .dma (semR A s h)) {α : Type}
    {k : Vec F S1x64x16x8x128 .f32 → Prog (TpuEff nD τ sig (Elt F) Λ₀ .tc) α} {Q : α → sProp 𝕄} :
    iprop(records GA GM K ∗ RingMid M H A c hf t ∗ SigSt (F := F) c [])
      ⊢ iprop((RingSt M H A c hf (t + 1) ∗ SigSt (F := F) c [] -∗ wp frame (wpE (defs₀ (F := F)) 𝒱₀ (c : Thread nD τ) none) Set.univ (k (ld1 (chunk H c hf t ht))) Q) -∗ wp frame (wpE (defs₀ (F := F)) 𝒱₀ (c : Thread nD τ) none) Set.univ
          (Prog.op (.waitDma2 ((A.slice (Rect.unit (s := S3) (k0_off4 (pt t ht)) S1.size (k0_off4_inb (pt t ht)))).squeeze S_ squeezes_S1_S_).sem
              (H.slice (Rect.unit (s := S512x16x8x128) (k0_off6 (pt t ht)) S64x16x8x128.size (k0_off6_inb (pt t ht))) (fun _ => rfl))
              ((M.slice (Rect.unit (s := S3x64x16x8x128) (k0_off5 (pt t ht)) S1x64x16x8x128.size (k0_off5_inb (pt t ht))) (fun _ => rfl)).squeeze
                S64x16x8x128 squeezes_S1x64x16x8x128_S64x16x8x128) (View.wordExact_bits rfl) ((View.wordExact_bits rfl).reshape _ _)) fun _ =>
            Prog.op (.load M (Rect.unit (s := S3x64x16x8x128) (k0_off7 (pt t ht)) S1x64x16x8x128.size (k0_off7_inb (pt t ht))).toLoadRect
              (View.loadsAt_vmem h_S1x64x16x8x128)) k) Q) := by
  unfold RingMid SigSt
  have eb : blkSt M H A c hf t (t % 3) (mod3 t) = InflS M H A c hf t (t % 3) ht (mod3 t) := dif_pos ht
  rw [eb]
  iintro ⟨#HR, ⟨Ha, Hb, Hc⟩, ⟨HO, HE⟩⟩ Hk
  iapply (ring_wait M H A c hf t (t % 3) ht (mod3 t) (hA _ _) devs []
    (congrArg (fun m : Memref sig .tc .vmem S64x16x8x128 .f32 => m.view.dmaCredit) (slot_eq M _ _ _ (k0_off5_eq (pt t ht)) _))
    (sem_eq A _ _ _ (k0_off4_eq (pt t ht)) _) Q) $$ [Ha HO]
  · isplitr; · iapply (levs_at GA GM K); iexact HR
    isplitl [Ha] <;> iassumption
  iintro ⟨Hv, Hs, Ht, HO⟩
  iapply (load_slot M c (t % 3) (mod3 t) _ _ (k0_off7_eq (pt t ht)) _ Q) $$ Hs
  iintro Hs
  iapply Hk
  isplitl [Hv Hs Ht Hb Hc]
  · iapply (ring_next M H A c hf t)
    isplitl [Hv Hs Ht]
    · unfold FreeS
      isplitl [Hv]; · iexact Hv
      isplitl [Hs]; · iexists _; iexact Hs
      iexact Ht
    unfold RingRest
    isplitl [Hb] <;> iassumption
  isplitl [HO] <;> iassumption

/-- After the keys of point `t` are read. -/
def St11 (t : ℕ) : sProp 𝕄 :=
  iprop(Ins c xq xb xl ∗ Bufs c (wV c xb xl) (qwV xq) (st (argsOf c hk hv xq xb xl) t) ∗ RingK c hk (t + 1) ∗ MidV c hv t ∗ SigSt (F := F) c [])

/-- A program that only returns. -/
theorem wp_done {α : Type} (a : α) (Q : α → sProp 𝕄) : Q a ⊢ wp frame (wpE (defs₀ (F := F)) 𝒱₀ (c : Thread nD τ) none) Set.univ (Prog.ret a : Prog (TpuEff nD τ sig (Elt F) Λ₀ .tc) α) Q := by
  rw [wp_ret]; iintro H; imodintro; iexact H

set_option maxHeartbeats 1600000 in
/-- Part 11: the first point's start, the prefetch, the keys, the chunk's weights, the query. -/
theorem part11_wp {Q : _ → sProp 𝕄} :
    iprop(records GA GM K ∗ PreSt c hk hv xq xb xl t)
      ⊢ iprop((St11 c hk hv xq xb xl t -∗
          Q ⟨BitVec.ofNat 32 t, c, place c, SemArray.scalar (sig.barrier 0 rfl), Scalar.remsi (BitVec.ofNat 32 t) 3#32,
            k0_pay27 (ld1 (chunk kH c hk t ht)), wLd (pt t ht) (wV c xb xl), qwV xq, zeroS⟩)
        -∗ wp frame (wpE (defs₀ (F := F)) 𝒱₀ (c : Thread nD τ) none) Set.univ (k0_part11 (F := F) (pt t ht) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) Q) := by
  rw [k0_part11_eq_skeleton]; unfold k0_part11_skel
  rw [Prog.bind_lift, wp_deviceId]
  iintro ⟨#HR, HP⟩ Hk
  iapply (first_jp GA GM K c t ht hk hv xq xb xl) $$ [HP]
  · isplitr; · iexact HR
    iexact HP
  iintro HM
  unfold MidSt
  icases HM with ⟨HI, HB, HK, HV, HS⟩
  iapply (pre_jp c t ht hk hv) $$ [HK HV]
  · isplitl [HK] <;> iassumption
  iintro ⟨HK, HV⟩
  iapply (wait_slot GA GM K c t ht kM kH cc0_scratch9 hk semK_ne) $$ [HK HS]
  · isplitr; · iexact HR
    isplitl [HK] <;> iassumption
  iintro ⟨HK, HS⟩
  unfold Bufs
  icases HB with ⟨H0, H1, H2, H3, H4⟩
  iapply (wp_load (defs := defs₀ (F := F)) (Γ := .empty) 𝒱₀ (c : Thread nD τ) none Set.univ (m := Memref.whole cc0_scratch0) (Finset.subset_univ _)) $$ H0
  iintro H0
  iapply (load_qw c _ _) $$ H1; iintro H1
  iapply (wp_done c (⟨BitVec.ofNat 32 t, c, place c, SemArray.scalar (sig.barrier 0 rfl), Scalar.remsi (BitVec.ofNat 32 t) 3#32,
            k0_pay27 (ld1 (chunk kH c hk t ht)), wLd (pt t ht) (wV c xb xl), qwV xq, zeroS⟩ :
      Σ' (arg0 : BitVec 32) (d0 : Dev nD) (v2 : BitVec 32) (v4 : Sems sig S_) (v12 : BitVec 32) (v23 : FVec F S1024x1024 .f32) (v26 : Vec F S8x1024 .f32) (v27 : Vec F S64x1024 .f32), FVec F S64x1024 .f32) Q)
  iapply Hk
  unfold St11
  isplitl [HI]; · iexact HI
  isplitl [H0 H1 H2 H3 H4]
  · unfold Bufs
    isplitl [H0]; · iexact H0
    isplitl [H1]; · iexact H1
    isplitl [H2]; · iexact H2
    isplitl [H3]; · iexact H3
    iexact H4
  isplitl [HK]; · iexact HK
  isplitl [HV]; · iexact HV
  iexact HS

/-- What part 12 returns: the new maximum, the factor of the old state, the weights of the chunk, and the products' blocks. -/
abbrev ret12 (v23 : FVec F S1024x1024 .f32) (w : Vec F S8x1024 .f32) (qw : Vec F S64x1024 .f32) (m : Vec F S64x1 .f32) (v : Vec F S1x64x16x8x128 .f32) :
    Σ' (v42 : FVec F S64x1 .f32) (v45 : FVec F S64x1 .f32) (v49 : FVec F S64x1024 .f32) (v59 : FVec F S64x1024 .f32) (v60 : FVec F S8x128 .f32) (v61 : FVec F S8x128 .f32) (v62 : FVec F S8x128 .f32) (v63 : FVec F S8x128 .f32) (v64 : FVec F S8x128 .f32) (v65 : FVec F S8x128 .f32), FVec F S8x128 .f32 :=
  ⟨k0_pay30 v23 w qw zeroS m, k0_pay31 v23 w qw zeroS m m, k0_pay32 v23 w qw zeroS m, k0_pay33 v23 w qw zeroS m v, k0_pay34 v23 w qw zeroS m v,
    k0_pay35 v23 w qw zeroS m v, k0_pay36 v23 w qw zeroS m v, k0_pay37 v23 w qw zeroS m v, k0_pay38 v23 w qw zeroS m v, k0_pay39 v23 w qw zeroS m v,
    k0_pay40 v23 w qw zeroS m v⟩

/-- Part 12: the running maximum is read, and the values. -/
theorem part12_wp (m : Vec F S64x1 .f32) (v12 : BitVec 32) (v23 : FVec F S1024x1024 .f32) (w : Vec F S8x1024 .f32) (qw : Vec F S64x1024 .f32) {Q : _ → sProp 𝕄} :
    iprop(records GA GM K ∗ scr c cc0_scratch2 m ∗ MidV c hv t ∗ SigSt (F := F) c [])
      ⊢ iprop((scr c cc0_scratch2 m ∗ RingV c hv (t + 1) ∗ SigSt (F := F) c [] -∗ Q (ret12 v23 w qw m (ld1 (chunk vH c hv t ht))))
        -∗ wp frame (wpE (defs₀ (F := F)) 𝒱₀ (c : Thread nD τ) none) Set.univ (k0_part12 (F := F) (pt t ht) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 v12 v23 w qw zeroS) Q) := by
  rw [k0_part12_eq_skeleton]; unfold k0_part12_skel
  iintro ⟨#HR, H2, HV, HS⟩ Hk
  iapply (load_m c _ m) $$ H2; iintro H2
  iapply (load_m c _ m) $$ H2; iintro H2
  iapply (wait_slot GA GM K c t ht vM vH cc0_scratch10 hv semV_ne) $$ [HV HS]
  · isplitr; · iexact HR
    isplitl [HV] <;> iassumption
  iintro ⟨HV, HS⟩
  iapply (wp_done c (ret12 v23 w qw m (ld1 (chunk vH c hv t ht))) Q)
  iapply Hk
  isplitl [H2]; · iexact H2
  isplitl [HV]; · iexact HV
  iexact HS

end

end Cert.Pa

end
-- ==== Proof.Pa.BodyE.lean ====
/-
# Paged attention: the last point

The device writes its own row of the two tables, waits for the seven signals, sends its row to the seven others,
receives their rows, and combines all eight.
-/
module

public import proofs.«01_k».proof.Proof.Pa.BodyD

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (GA : cc0_scratch7.ty.Contents (Elt F)) (GM : cc0_scratch8.ty.Contents (Elt F)) (K : Dev nD × CK → ℕ) (c : Dev nD)

/-! ## Lists of devices -/

omit [FloatOps F] in
/-- A list of facts entails a list of weaker ones. -/
theorem sepL_mono {P Q : Dev nD → sProp 𝕄} (h : ∀ t, P t ⊢ Q t) : ∀ l : List (Dev nD), sepL l P ⊢ sepL l Q
  | [] => by simp only [sepL]; exact .rfl
  | t :: l => by simp only [sepL]; exact BI.sep_mono (h t) (sepL_mono h l)

omit [FloatOps F] in
/-- Two lists of facts joined into one. -/
theorem sepL_sep (P Q : Dev nD → sProp 𝕄) : ∀ l : List (Dev nD), sepL l P ∗ sepL l Q ⊢ sepL l fun t => iprop(P t ∗ Q t)
  | [] => by simp only [sepL]; iintro ⟨H, _⟩; iexact H
  | t :: l => by
    simp only [sepL]
    iintro ⟨⟨HP, HPl⟩, HQ, HQl⟩
    isplitl [HP HQ]
    · isplitl [HP] <;> iassumption
    · iapply (sepL_sep P Q l); isplitl [HPl] <;> iassumption

omit [FloatOps F] in
/-- A list of pairs parted into two lists. -/
theorem sepL_unsep (P Q : Dev nD → sProp 𝕄) : ∀ l : List (Dev nD), sepL l (fun t => iprop(P t ∗ Q t)) ⊢ sepL l P ∗ sepL l Q
  | [] => by simp only [sepL]; iintro H; isplitl [H]; · iexact H
             iempintro
  | t :: l => by
    simp only [sepL]
    iintro ⟨⟨HP, HQ⟩, Hl⟩
    ihave ⟨HPl, HQl⟩ := (sepL_unsep P Q l) $$ Hl
    isplitl [HP HPl]
    · isplitl [HP] <;> iassumption
    · isplitl [HQ] <;> iassumption

/-- The devices from the last to the first: the order in which finished steps pile up. -/
abbrev back : List (Dev nD) := [7, 6, 5, 4, 3, 2, 1, 0]

omit [FloatOps F] in
/-- The order of the devices does not matter. -/
theorem sepL_back (P : Dev nD → sProp 𝕄) : sepL back P = sepL devs P := by
  rw [← bigSep_devs, ← bigSep_list P back (by decide)]; exact congrArg (fun S => bigSep S P) (by decide)

omit [FloatOps F] in
/-- Two facts about another device, joined. -/
theorem other_sep (t : Dev nD) (P Q : sProp 𝕄) : other c t P ∗ other c t Q ⊢ other c t iprop(P ∗ Q) := by
  unfold other
  by_cases h : c = t
  · rw [if_pos h, if_pos h, if_pos h]; iintro ⟨H, _⟩; iexact H
  · rw [if_neg h, if_neg h, if_neg h]

/-! ## The same steps, followed by the rest of the program -/

/-- One guarded pair of sends, followed by the rest of the program. -/
theorem send_jp (t : Dev nD) (l d : List (Dev nD)) {p : Prop} [Decidable p]
    {dev₁ dev₂ : p → Dev nD} {A B A' B' : p → DmaSem sig}
    {sa da : p → Memref sig .tc .vmem S8x8x128 .f32} {sm dm : p → Memref sig .tc .vmem S8x2x8x1 .f32}
    {ha : ∀ h, (da h).view.ref.isScScratch = false} {hm : ∀ h, (dm h).view.ref.isScScratch = false}
    {wa : ∀ h, (sa h).view.WordExact} {wa' : ∀ h, (da h).view.WordExact} {wm : ∀ h, (sm h).view.WordExact} {wm' : ∀ h, (dm h).view.WordExact}
    {ta : ∀ h, DmaTarget.Typed (nD := nD) (τ := τ) (p := .tc) .vmem (.dma (B h)) (.remote (Dev.tc (dev₁ h)) (da h) (.dma (A h)) (ha h))}
    {tm : ∀ h, DmaTarget.Typed (nD := nD) (τ := τ) (p := .tc) .vmem (.dma (B' h)) (.remote (Dev.tc (dev₂ h)) (dm h) (.dma (A' h)) (hm h))}
    (hp : p ↔ c ≠ t) (hdev₁ : ∀ h, dev₁ h = t) (hdev₂ : ∀ h, dev₂ h = t)
    (hA : ∀ h, A h = semAt (fam 0) t) (hB : ∀ h, B h = semAt (fam 1) c) (hA' : ∀ h, A' h = semAt (fam 2) t) (hB' : ∀ h, B' h = semAt (fam 3) c)
    (hsa : ∀ h, sa h = accRow c) (hda : ∀ h, da h = accRow c) (hsm : ∀ h, sm h = mlRow c) (hdm : ∀ h, dm h = mlRow c)
    {α : Type} {X : Prog (TpuEff nD τ sig (Elt F) Λ₀ .tc) α} {Q : α → sProp 𝕄} :
    iprop(records GA GM K ∗ SendSt GA GM c (t :: l) d)
      ⊢ iprop((SendSt GA GM c l (t :: d) -∗ wp frame (wpE (defs₀ (F := F)) 𝒱₀ (c : Thread nD τ) none) Set.univ X Q) -∗ wp frame (wpE (defs₀ (F := F)) 𝒱₀ (c : Thread nD τ) none) Set.univ
          (if h : p then (do
            Prog.lift (.enqueueDma (sa h) (.remote (Dev.tc (dev₁ h)) (da h) (.dma (A h)) (ha h)) (.dma (B h)) (wa h) (wa' h) (ta h))
            Prog.lift (.enqueueDma (sm h) (.remote (Dev.tc (dev₂ h)) (dm h) (.dma (A' h)) (hm h)) (.dma (B' h)) (wm h) (wm' h) (tm h))
            X) else X) Q) := by
  have e : (if h : p then (do
            Prog.lift (.enqueueDma (sa h) (.remote (Dev.tc (dev₁ h)) (da h) (.dma (A h)) (ha h)) (.dma (B h)) (wa h) (wa' h) (ta h))
            Prog.lift (.enqueueDma (sm h) (.remote (Dev.tc (dev₂ h)) (dm h) (.dma (A' h)) (hm h)) (.dma (B' h)) (wm h) (wm' h) (tm h))
            X) else X)
      = (((if h : p then (do
            Prog.lift (.enqueueDma (sa h) (.remote (Dev.tc (dev₁ h)) (da h) (.dma (A h)) (ha h)) (.dma (B h)) (wa h) (wa' h) (ta h))
            Prog.lift (.enqueueDma (sm h) (.remote (Dev.tc (dev₂ h)) (dm h) (.dma (A' h)) (hm h)) (.dma (B' h)) (wm h) (wm' h) (tm h))
            pure ⟨⟩) else pure ⟨⟩) : Prog (TpuEff nD τ sig (Elt F) Λ₀ .tc) Unit) >>= fun _ => X) := by
    by_cases h : p
    · rw [dif_pos h, dif_pos h]; simp only [bind_assoc]; rfl
    · rw [dif_neg h, dif_neg h]; rfl
  rw [e, wp_bind]
  exact send_step GA GM K c t l d hp hdev₁ hdev₂ hA hB hA' hB' hsa hda hsm hdm (fun _ => wp frame (wpE (defs₀ (F := F)) 𝒱₀ (c : Thread nD τ) none) Set.univ X Q)

/-- One guarded pair of receive waits, followed by the rest of the program. -/
theorem recv_jp (t : Dev nD) (l d : List (Dev nD)) {p : Prop} [Decidable p] {A A' : p → DmaSem sig}
    {sa da : p → Memref sig .tc .vmem S8x8x128 .f32} {sm dm : p → Memref sig .tc .vmem S8x2x8x1 .f32}
    {wa : ∀ h, (sa h).view.WordExact} {wa' : ∀ h, (da h).view.WordExact} {wm : ∀ h, (sm h).view.WordExact} {wm' : ∀ h, (dm h).view.WordExact}
    (hp : p ↔ c ≠ t) (hA : ∀ h, A h = semAt (fam 1) t) (hA' : ∀ h, A' h = semAt (fam 3) t)
    (hda : ∀ h, (da h).view.dmaCredit = NA) (hdm : ∀ h, (dm h).view.dmaCredit = NM)
    {α : Type} {X : Prog (TpuEff nD τ sig (Elt F) Λ₀ .tc) α} {Q : α → sProp 𝕄} :
    iprop(records GA GM K ∗ RecvSt GA GM c (t :: l) d)
      ⊢ iprop((RecvSt GA GM c l (t :: d) -∗ wp frame (wpE (defs₀ (F := F)) 𝒱₀ (c : Thread nD τ) none) Set.univ X Q) -∗ wp frame (wpE (defs₀ (F := F)) 𝒱₀ (c : Thread nD τ) none) Set.univ
          (if h : p then (do
            Prog.lift (.waitDma2 (A h) (sa h) (da h) (wa h) (wa' h))
            Prog.lift (.waitDma2 (A' h) (sm h) (dm h) (wm h) (wm' h))
            X) else X) Q) := by
  have e : (if h : p then (do
            Prog.lift (.waitDma2 (A h) (sa h) (da h) (wa h) (wa' h))
            Prog.lift (.waitDma2 (A' h) (sm h) (dm h) (wm h) (wm' h))
            X) else X)
      = (((if h : p then (do
            Prog.lift (.waitDma2 (A h) (sa h) (da h) (wa h) (wa' h))
            Prog.lift (.waitDma2 (A' h) (sm h) (dm h) (wm h) (wm' h))
            pure ⟨⟩) else pure ⟨⟩) : Prog (TpuEff nD τ sig (Elt F) Λ₀ .tc) Unit) >>= fun _ => X) := by
    by_cases h : p
    · rw [dif_pos h, dif_pos h]; simp only [bind_assoc]; rfl
    · rw [dif_neg h, dif_neg h]; rfl
  rw [e, wp_bind]
  exact recv_step GA GM K c t l d hp hA hA' hda hdm (fun _ => wp frame (wpE (defs₀ (F := F)) 𝒱₀ (c : Thread nD τ) none) Set.univ X Q)

/-- One guarded pair of send waits, followed by the rest of the program. -/
theorem sent_jp (t : Dev nD) (l d : List (Dev nD)) {p : Prop} [Decidable p] {A A' : p → DmaSem sig}
    {sa da : p → Memref sig .tc .vmem S8x8x128 .f32} {sm dm : p → Memref sig .tc .vmem S8x2x8x1 .f32}
    {wa : ∀ h, (sa h).view.WordExact} {wa' : ∀ h, (da h).view.WordExact} {wm : ∀ h, (sm h).view.WordExact} {wm' : ∀ h, (dm h).view.WordExact}
    (hp : p ↔ c ≠ t) (hA : ∀ h, A h = semAt (fam 0) t) (hA' : ∀ h, A' h = semAt (fam 2) t)
    (hda : ∀ h, (da h).view.dmaCredit = NA) (hdm : ∀ h, (dm h).view.dmaCredit = NM)
    {α : Type} {X : Prog (TpuEff nD τ sig (Elt F) Λ₀ .tc) α} {Q : α → sProp 𝕄} :
    iprop(records GA GM K ∗ SentSt GA GM c (t :: l) d)
      ⊢ iprop((SentSt GA GM c l (t :: d) -∗ wp frame (wpE (defs₀ (F := F)) 𝒱₀ (c : Thread nD τ) none) Set.univ X Q) -∗ wp frame (wpE (defs₀ (F := F)) 𝒱₀ (c : Thread nD τ) none) Set.univ
          (if h : p then (do
            Prog.lift (.waitDma2 (A h) (sa h) (da h) (wa h) (wa' h))
            Prog.lift (.waitDma2 (A' h) (sm h) (dm h) (wm h) (wm' h))
            X) else X) Q) := by
  have e : (if h : p then (do
            Prog.lift (.waitDma2 (A h) (sa h) (da h) (wa h) (wa' h))
            Prog.lift (.waitDma2 (A' h) (sm h) (dm h) (wm h) (wm' h))
            X) else X)
      = (((if h : p then (do
            Prog.lift (.waitDma2 (A h) (sa h) (da h) (wa h) (wa' h))
            Prog.lift (.waitDma2 (A' h) (sm h) (dm h) (wm h) (wm' h))
            pure ⟨⟩) else pure ⟨⟩) : Prog (TpuEff nD τ sig (Elt F) Λ₀ .tc) Unit) >>= fun _ => X) := by
    by_cases h : p
    · rw [dif_pos h, dif_pos h]; simp only [bind_assoc]; rfl
    · rw [dif_neg h, dif_neg h]; rfl
  rw [e, wp_bind]
  exact sent_step GA GM K c t l d hp hA hA' hda hdm (fun _ => wp frame (wpE (defs₀ (F := F)) 𝒱₀ (c : Thread nD τ) none) Set.univ X Q)

end

section
variable (c : Dev nD)

/-! ## Offsets and conditions of the last point -/

/-- A row of the numerators' table at an equal offset. -/
theorem accRow_eq (o : Fin 4 → Nat) (ho : o = ![c.val, 0, 0, 0]) (inb) :
    (accM.slice (Rect.unit (s := S8x8x8x128) o S1x8x8x128.size inb) (fun _ => rfl)).squeeze S8x8x128 squeezes_S1x8x8x128_S8x8x128 = accRow c := by
  subst ho; rfl
/-- A row of the maxima and denominators' table at an equal offset. -/
theorem mlRow_eq (o : Fin 5 → Nat) (ho : o = ![c.val, 0, 0, 0, 0]) (inb) :
    (mlM.slice (Rect.unit (s := S8x8x2x8x1) o S1x8x2x8x1.size inb) (fun _ => rfl)).squeeze S8x2x8x1 squeezes_S1x8x2x8x1_S8x2x8x1 = mlRow c := by
  subst ho; rfl
/-- A semaphore of a family at an equal offset. -/
theorem semRow_eq (A : DmaSems sig S8) (o : Fin 1 → Nat) (ho : o = ![c.val]) (inb) :
    ((A.slice (Rect.unit (s := S8) o S1.size inb)).squeeze S_ squeezes_S1_S_).sem = semAt A c := by
  subst ho; rfl

/-- The sends to device 0 are guarded by not being it. -/
theorem cond12_iff : k0_cond12 c = 1#1 ↔ c ≠ 0 := by revert c; decide +kernel
/-- The sends to device 1 are guarded by not being it. -/
theorem cond13_iff : k0_cond13 c = 1#1 ↔ c ≠ 1 := by revert c; decide +kernel
/-- The sends to device 2 are guarded by not being it. -/
theorem cond14_iff : k0_cond14 c = 1#1 ↔ c ≠ 2 := by revert c; decide +kernel
/-- The sends to device 3 are guarded by not being it. -/
theorem cond15_iff : k0_cond15 c = 1#1 ↔ c ≠ 3 := by revert c; decide +kernel
/-- The sends to device 4 are guarded by not being it. -/
theorem cond16_iff : k0_cond16 c = 1#1 ↔ c ≠ 4 := by revert c; decide +kernel
/-- The sends to device 5 are guarded by not being it. -/
theorem cond17_iff : k0_cond17 c = 1#1 ↔ c ≠ 5 := by revert c; decide +kernel
/-- The sends to device 6 are guarded by not being it. -/
theorem cond18_iff : k0_cond18 c = 1#1 ↔ c ≠ 6 := by revert c; decide +kernel
/-- The sends to device 7 are guarded by not being it. -/
theorem cond19_iff : k0_cond19 c = 1#1 ↔ c ≠ 7 := by revert c; decide +kernel
/-- The send waits for device 0 are guarded by not being it. -/
theorem cond28_iff : k0_cond28 c = 1#1 ↔ c ≠ 0 := by revert c; decide +kernel
/-- The send waits for device 1 are guarded by not being it. -/
theorem cond29_iff : k0_cond29 c = 1#1 ↔ c ≠ 1 := by revert c; decide +kernel
/-- The send waits for device 2 are guarded by not being it. -/
theorem cond30_iff : k0_cond30 c = 1#1 ↔ c ≠ 2 := by revert c; decide +kernel
/-- The send waits for device 3 are guarded by not being it. -/
theorem cond31_iff : k0_cond31 c = 1#1 ↔ c ≠ 3 := by revert c; decide +kernel
/-- The send waits for device 4 are guarded by not being it. -/
theorem cond32_iff : k0_cond32 c = 1#1 ↔ c ≠ 4 := by revert c; decide +kernel
/-- The send waits for device 5 are guarded by not being it. -/
theorem cond33_iff : k0_cond33 c = 1#1 ↔ c ≠ 5 := by revert c; decide +kernel
/-- The send waits for device 6 are guarded by not being it. -/
theorem cond34_iff : k0_cond34 c = 1#1 ↔ c ≠ 6 := by revert c; decide +kernel
/-- The send waits for device 7 are guarded by not being it. -/
theorem cond35_iff : k0_cond35 c = 1#1 ↔ c ≠ 7 := by revert c; decide +kernel
/-- The receive waits for device 0 are guarded by not being it. -/
theorem from0_iff : Scalar.cmpi .ne (Scalar.extui (Scalar.cmpi .ne (place c) 0#32) : BitVec 32) 0#32 = 1#1 ↔ c ≠ 0 := by revert c; decide +kernel
/-- The receive waits for device 1 are guarded by not being it. -/
theorem from1_iff : Scalar.cmpi .ne (Scalar.extui (Scalar.cmpi .ne (place c) 1#32) : BitVec 32) 0#32 = 1#1 ↔ c ≠ 1 := by revert c; decide +kernel
/-- The receive waits for device 2 are guarded by not being it. -/
theorem from2_iff : Scalar.cmpi .ne (Scalar.extui (Scalar.cmpi .ne (place c) 2#32) : BitVec 32) 0#32 = 1#1 ↔ c ≠ 2 := by revert c; decide +kernel
/-- The receive waits for device 3 are guarded by not being it. -/
theorem from3_iff : Scalar.cmpi .ne (Scalar.extui (Scalar.cmpi .ne (place c) 3#32) : BitVec 32) 0#32 = 1#1 ↔ c ≠ 3 := by revert c; decide +kernel
/-- The receive waits for device 4 are guarded by not being it. -/
theorem from4_iff : Scalar.cmpi .ne (Scalar.extui (Scalar.cmpi .ne (place c) 4#32) : BitVec 32) 0#32 = 1#1 ↔ c ≠ 4 := by revert c; decide +kernel
/-- The receive waits for device 5 are guarded by not being it. -/
theorem from5_iff : Scalar.cmpi .ne (Scalar.extui (Scalar.cmpi .ne (place c) 5#32) : BitVec 32) 0#32 = 1#1 ↔ c ≠ 5 := by revert c; decide +kernel
/-- The receive waits for device 6 are guarded by not being it. -/
theorem from6_iff : Scalar.cmpi .ne (Scalar.extui (Scalar.cmpi .ne (place c) 6#32) : BitVec 32) 0#32 = 1#1 ↔ c ≠ 6 := by revert c; decide +kernel
/-- The receive waits for device 7 are guarded by not being it. -/
theorem from7_iff : Scalar.cmpi .ne (Scalar.extui (Scalar.cmpi .ne (place c) 7#32) : BitVec 32) 0#32 = 1#1 ↔ c ≠ 7 := by revert c; decide +kernel

end

end Cert.Pa

end
-- ==== Proof.Pa.BodyF.lean ====
/-
# Paged attention: the last point's steps in order
-/
module

public import proofs.«01_k».proof.Proof.Pa.BodyE

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (c : Dev nD)

/-! ## The device's own row -/

/-- A load from the device's own row. -/
theorem load_row_a (f : cc0_scratch7.ty.Contents (Elt F)) (o : Fin 4 → Nat) (ho : o = ![c.val, 0, 0, 0]) (inb) {α : Type}
    {hl : accM.view.LoadsAt (Rect.unit (s := S8x8x8x128) o S1x8x8x128.size inb).toLoadRect}
    {k : Vec F S1x8x8x128 .f32 → Prog (TpuEff nD τ sig (Elt F) Λ₀ .tc) α} (Q : α → sProp 𝕄) :
    accPts c c fullShare f ⊢ iprop((∀ x, accPts c c fullShare f -∗ wp frame (wpE (defs₀ (F := F)) 𝒱₀ (c : Thread nD τ) none) Set.univ (k x) Q)
      -∗ wp frame (wpE (defs₀ (F := F)) 𝒱₀ (c : Thread nD τ) none) Set.univ (.op (.load accM (Rect.unit (s := S8x8x8x128) o S1x8x8x128.size inb).toLoadRect hl) k) Q) := by
  subst ho
  have hS : accM.view.setOn (Rect.unit (s := S8x8x8x128) ![c.val, 0, 0, 0] S1x8x8x128.size inb).toLoadRect.set ⊆ (accRow c).view.set := by
    have e : (accRow c).view.set = (accM.view.slice (Rect.unit (s := S8x8x8x128) ![c.val, 0, 0, 0] S1x8x8x128.size inb)).set :=
      View.set_reshape _ _
    rw [e, View.set_slice]; exact subset_rfl
  unfold accPts
  iintro H Hk
  iapply (wp_load (defs := defs₀ (F := F)) (Γ := .empty) 𝒱₀ (c : Thread nD τ) none Set.univ (m := accM) (hl := hl) hS) $$ H
  iintro H
  iapply Hk; iexact H

/-- The store of the device's own row of numerators. -/
theorem store_row_a (GA f : cc0_scratch7.ty.Contents (Elt F)) (X : Vec F S1x8x8x128 .f32) (o : Fin 4 → Nat) (ho : o = ![c.val, 0, 0, 0]) (inb)
    (hX : ∀ (d0 : Fin 1) (d1 d2 : Fin 8) (d3 : Fin 128), X (ValueIdx.ix4 d0 d1 d2 d3) = GA (ValueIdx.ix4 c d1 d2 d3)) {α : Type}
    {hx : (accM.access (Rect.unit (s := S8x8x8x128) o S1x8x8x128.size inb)).Stores Finset.univ} {hm}
    {k : PUnit → Prog (TpuEff nD τ sig (Elt F) Λ₀ .tc) α} (Q : α → sProp 𝕄) :
    accPts c c fullShare f ⊢ iprop((accPts c c fullShare GA -∗ wp frame (wpE (defs₀ (F := F)) 𝒱₀ (c : Thread nD τ) none) Set.univ (k ⟨⟩) Q)
      -∗ wp frame (wpE (defs₀ (F := F)) 𝒱₀ (c : Thread nD τ) none) Set.univ (.op (.store accM (Rect.unit (s := S8x8x8x128) o S1x8x8x128.size inb) X Finset.univ hx hm) k) Q) := by
  subst ho
  have e : (accRow c).view.set = (accM.access (Rect.unit (s := S8x8x8x128) ![c.val, 0, 0, 0] S1x8x8x128.size inb)).set :=
    View.set_reshape _ _
  have hw : ∀ i ∈ (accRow c).view.set, (accM.access (Rect.unit (s := S8x8x8x128) ![c.val, 0, 0, 0] S1x8x8x128.size inb)).write (Elt F) f X Finset.univ i = GA i := by
    intro i hi
    rw [e] at hi
    obtain ⟨x, -, rfl⟩ := Finset.mem_map.mp hi
    refine (View.write_emb_of_mem _ _ (Finset.mem_univ x)).trans ?_
    show X x = _
    have hx : x = ValueIdx.ix4 (x 0) (x 1) (x 2) (x 3) := ValueIdx.eq_ix4 x
    rw [hx]
    refine (hX _ _ _ _).trans (congrArg GA ?_)
    funext a; fin_cases a <;> apply Fin.ext
    · show c.val = c.val + 1 * (x 0).val; have h := (x 0).isLt; change (x 0).val < 1 at h; omega
    · show (x 1).val = 0 + 1 * (x 1).val; omega
    · show (x 2).val = 0 + 1 * (x 2).val; omega
    · show (x 3).val = 0 + 1 * (x 3).val; omega
  unfold accPts
  iintro H Hk
  iapply (wp_store (defs := defs₀ (F := F)) (Γ := .empty) 𝒱₀ (c : Thread nD τ) none Set.univ (m := accM) (hx := hx) (hm := hm)
    (S := (accRow c).view.set) (by rw [View.setOn_univ, ← e])) $$ H
  iintro H
  ihave H2 := (Entails.of_eq (pointsTo_congr hw)) $$ H
  iapply Hk; iexact H2

/-- A half of a device's row lies in the row. -/
theorem sub_row_m (j : ℕ) (hj : j < 2) (inb) :
    (Rect.unit (s := S8x8x2x8x1) ![c.val, 0, j, 0, 0] S1x8x1x8x1.size inb).set ⊆ (Rect.unit (s := S8x8x2x8x1) ![c.val, 0, 0, 0, 0] S1x8x2x8x1.size (ml_inb c)).set := by
  intro i hi
  rw [Rect.mem_set_unit] at hi ⊢
  intro a
  have h := hi a
  fin_cases a
  · exact h
  · exact h
  · have h2 : (i 2).val < 2 := (i 2).isLt; exact ⟨Nat.zero_le _, by show (i 2).val < 0 + 2; omega⟩
  · exact h
  · exact h

/-- The elements of a row of maxima and denominators. -/
theorem mlRow_set : (mlRow c).view.set = (Rect.unit (s := S8x8x2x8x1) ![c.val, 0, 0, 0, 0] S1x8x2x8x1.size (ml_inb c)).set :=
  (View.set_reshape _ _).trans (View.set_slice_whole _ _)
/-- The elements of a row of numerators. -/
theorem accRow_set : (accRow c).view.set = (Rect.unit (s := S8x8x8x128) ![c.val, 0, 0, 0] S1x8x8x128.size (acc_inb c)).set :=
  (View.set_reshape _ _).trans (View.set_slice_whole _ _)

/-- A load from half of the device's own row of maxima and denominators. -/
theorem load_row_m (j : ℕ) (hj : j < 2) (f : cc0_scratch8.ty.Contents (Elt F)) (o : Fin 5 → Nat) (ho : o = ![c.val, 0, j, 0, 0]) (inb) {α : Type}
    {hl : mlM.view.LoadsAt (Rect.unit (s := S8x8x2x8x1) o S1x8x1x8x1.size inb).toLoadRect}
    {k : Vec F S1x8x1x8x1 .f32 → Prog (TpuEff nD τ sig (Elt F) Λ₀ .tc) α} (Q : α → sProp 𝕄) :
    mlPts c c fullShare f ⊢ iprop((∀ x, mlPts c c fullShare f -∗ wp frame (wpE (defs₀ (F := F)) 𝒱₀ (c : Thread nD τ) none) Set.univ (k x) Q)
      -∗ wp frame (wpE (defs₀ (F := F)) 𝒱₀ (c : Thread nD τ) none) Set.univ (.op (.load mlM (Rect.unit (s := S8x8x2x8x1) o S1x8x1x8x1.size inb).toLoadRect hl) k) Q) := by
  subst ho
  have hS : mlM.view.setOn (Rect.unit (s := S8x8x2x8x1) ![c.val, 0, j, 0, 0] S1x8x1x8x1.size inb).toLoadRect.set ⊆ (mlRow c).view.set := by
    rw [mlRow_set]
    refine Finset.Subset.trans ?_ (sub_row_m c j hj inb)
    intro i hi
    obtain ⟨x, hx, rfl⟩ := Finset.mem_map.mp hi
    exact hx
  unfold mlPts
  iintro H Hk
  iapply (wp_load (defs := defs₀ (F := F)) (Γ := .empty) 𝒱₀ (c : Thread nD τ) none Set.univ (m := mlM) (hl := hl) hS) $$ H
  iintro H
  iapply Hk; iexact H

/-- What a store to half `j` of the own row leaves: the half holds what was stored, the other half is as before. -/
theorem write_row_m (j : ℕ) (hj : j < 2) (f : cc0_scratch8.ty.Contents (Elt F)) (X : Vec F S1x8x1x8x1 .f32) (inb) (i : S8x8x2x8x1.Idx)
    (hi : i ∈ (Rect.unit (s := S8x8x2x8x1) ![c.val, 0, 0, 0, 0] S1x8x2x8x1.size (ml_inb c)).set) :
    (mlM.access (Rect.unit (s := S8x8x2x8x1) ![c.val, 0, j, 0, 0] S1x8x1x8x1.size inb)).write (Elt F) f X Finset.univ i
      = if (i 2).val = j then X (ValueIdx.ix5 (0 : Fin 1) (i 1) (0 : Fin 1) (i 3) (i 4)) else f i := by
  by_cases h : (i 2).val = j
  · rw [if_pos h]
    have hx : (mlM.access (Rect.unit (s := S8x8x2x8x1) ![c.val, 0, j, 0, 0] S1x8x1x8x1.size inb)).emb (ValueIdx.ix5 (0 : Fin 1) (i 1) (0 : Fin 1) (i 3) (i 4)) = i := by
      have h0 := (Rect.mem_set_unit.mp hi) 0
      change c.val ≤ (i 0).val ∧ (i 0).val < c.val + 1 at h0
      funext a; fin_cases a <;> apply Fin.ext
      · show c.val + 1 * 0 = (i 0).val; omega
      · show 0 + 1 * (i 1).val = (i 1).val; omega
      · show j + 1 * 0 = (i 2).val; omega
      · show 0 + 1 * (i 3).val = (i 3).val; omega
      · show 0 + 1 * (i 4).val = (i 4).val; omega
    conv_lhs => rw [← hx]
    exact View.write_emb_of_mem _ _ (Finset.mem_univ _)
  · rw [if_neg h]
    refine View.write_of_not_mem _ _ _ fun hm => h ?_
    obtain ⟨x, -, rfl⟩ := Finset.mem_map.mp hm
    show j + 1 * (x 2).val = j
    have hx2 := (x 2).isLt; change (x 2).val < 1 at hx2; omega

/-- The store to half `j` of the own row. -/
theorem store_row_m (j : ℕ) (hj : j < 2) (f : cc0_scratch8.ty.Contents (Elt F)) (X : Vec F S1x8x1x8x1 .f32) (o : Fin 5 → Nat) (ho : o = ![c.val, 0, j, 0, 0]) (inb) {α : Type}
    {hx : (mlM.access (Rect.unit (s := S8x8x2x8x1) o S1x8x1x8x1.size inb)).Stores Finset.univ} {hm}
    {k : PUnit → Prog (TpuEff nD τ sig (Elt F) Λ₀ .tc) α} (Q : α → sProp 𝕄) :
    mlPts c c fullShare f ⊢ iprop((mlPts c c fullShare
          (fun i => if (i 2).val = j then X (ValueIdx.ix5 (0 : Fin 1) (i 1) (0 : Fin 1) (i 3) (i 4)) else f i : Vec F S8x8x2x8x1 .f32) -∗ wp frame (wpE (defs₀ (F := F)) 𝒱₀ (c : Thread nD τ) none) Set.univ (k ⟨⟩) Q)
      -∗ wp frame (wpE (defs₀ (F := F)) 𝒱₀ (c : Thread nD τ) none) Set.univ (.op (.store mlM (Rect.unit (s := S8x8x2x8x1) o S1x8x1x8x1.size inb) X Finset.univ hx hm) k) Q) := by
  subst ho
  have hw : ∀ i ∈ (mlRow c).view.set, (mlM.access (Rect.unit (s := S8x8x2x8x1) ![c.val, 0, j, 0, 0] S1x8x1x8x1.size inb)).write (Elt F) f X Finset.univ i
      = (fun i => if (i 2).val = j then X (ValueIdx.ix5 (0 : Fin 1) (i 1) (0 : Fin 1) (i 3) (i 4)) else f i : Vec F S8x8x2x8x1 .f32) i := by
    intro i hi
    rw [mlRow_set] at hi
    exact write_row_m c j hj f X inb i hi
  have hS : (mlM.access (Rect.unit (s := S8x8x2x8x1) ![c.val, 0, j, 0, 0] S1x8x1x8x1.size inb)).setOn Finset.univ ⊆ (mlRow c).view.set := by
    rw [View.setOn_univ, mlRow_set]
    exact Finset.Subset.trans (Finset.Subset.trans (le_of_eq (View.set_slice_whole _ _)) subset_rfl) (sub_row_m c j hj inb)
  unfold mlPts
  iintro H Hk
  iapply (wp_store (defs := defs₀ (F := F)) (Γ := .empty) 𝒱₀ (c : Thread nD τ) none Set.univ (m := mlM) (hx := hx) (hm := hm) hS) $$ H
  iintro H
  ihave H2 := (Entails.of_eq (pointsTo_congr hw)) $$ H
  iapply Hk; iexact H2

/-- Both halves stored, the own row is the table's. -/
theorem row_m_done (GM f : cc0_scratch8.ty.Contents (Elt F)) (X0 X1 : Vec F S1x8x1x8x1 .f32)
    (hX0 : ∀ (d0 : Fin 1) (d1 : Fin 8) (d2 : Fin 1) (d3 : Fin 8) (d4 : Fin 1), X0 (ValueIdx.ix5 d0 d1 d2 d3 d4) = GM (ValueIdx.ix5 c d1 (0 : Fin 2) d3 d4))
    (hX1 : ∀ (d0 : Fin 1) (d1 : Fin 8) (d2 : Fin 1) (d3 : Fin 8) (d4 : Fin 1), X1 (ValueIdx.ix5 d0 d1 d2 d3 d4) = GM (ValueIdx.ix5 c d1 (1 : Fin 2) d3 d4)) :
    (mlPts c c fullShare
      (fun i => if (i 2).val = 1 then X1 (ValueIdx.ix5 (0 : Fin 1) (i 1) (0 : Fin 1) (i 3) (i 4)) else
        (fun i => if (i 2).val = 0 then X0 (ValueIdx.ix5 (0 : Fin 1) (i 1) (0 : Fin 1) (i 3) (i 4)) else f i : Vec F S8x8x2x8x1 .f32) i : Vec F S8x8x2x8x1 .f32) : sProp 𝕄)
      = mlPts c c fullShare GM := by
  unfold mlPts
  have key : ∀ i : S8x8x2x8x1.Idx, i ∈ (Rect.unit (s := S8x8x2x8x1) ![c.val, 0, 0, 0, 0] S1x8x2x8x1.size (ml_inb c)).set →
      (if (i 2).val = 1 then X1 (ValueIdx.ix5 (0 : Fin 1) (i 1) (0 : Fin 1) (i 3) (i 4)) else
        if (i 2).val = 0 then X0 (ValueIdx.ix5 (0 : Fin 1) (i 1) (0 : Fin 1) (i 3) (i 4)) else f i) = GM i := by
    intro i hi
    have h0 := (Rect.mem_set_unit.mp hi) 0
    change c.val ≤ (i 0).val ∧ (i 0).val < c.val + 1 at h0
    have e0 : c = i 0 := Fin.ext (by omega)
    have h2 : (i 2).val < 2 := (i 2).isLt
    by_cases h : (i 2).val = 1
    · have e2 : (1 : Fin 2) = i 2 := Fin.ext h.symm
      rw [if_pos h]
      refine (hX1 _ _ _ _ _).trans (congrArg GM ?_)
      rw [e0, e2]; exact (ValueIdx.eq_ix5 i).symm
    · have e2 : (0 : Fin 2) = i 2 := Fin.ext (by show 0 = (i 2).val; omega)
      rw [if_neg h, if_pos (by omega)]
      refine (hX0 _ _ _ _ _).trans (congrArg GM ?_)
      rw [e0, e2]; exact (ValueIdx.eq_ix5 i).symm
  refine pointsTo_congr fun i hi => ?_
  rw [mlRow_set] at hi
  exact key i hi
end

section
variable (GA : cc0_scratch7.ty.Contents (Elt F)) (GM : cc0_scratch8.ty.Contents (Elt F)) (K : Dev nD × CK → ℕ) (c : Dev nD)

/-- What a copy of a row of numerators signals. -/
theorem credit_a (m : Memref sig .tc .vmem S8x8x128 .f32) : m.view.dmaCredit = NA := rfl
/-- What a copy of a row of maxima and denominators signals. -/
theorem credit_m (m : Memref sig .tc .vmem S8x2x8x1 .f32) : m.view.dmaCredit = NM := rfl

/-! ## What is kept for the last point -/

/-- The tokens of the copies to `t`. -/
def toksTo (t : Dev nD) : sProp 𝕄 :=
  other c t iprop(dutyTok ER (cell c 0 t) 0 t ∗ dutyTok ER (cell c 2 t) 0 t ∗ dutyTok ER (cell t 1 c) 0 c ∗ dutyTok ER (cell t 3 c) 0 c)
/-- The send cells' positions. -/
def sentPos (t : Dev nD) : sProp 𝕄 := iprop(atPos ER (cell c 0 t) 0 ∅ 0 ∗ atPos ER (cell c 2 t) 0 ∅ 0)

/-- The device's own rows, its cells and its tokens. -/
def Hold : sProp 𝕄 :=
  iprop((∃ f, accPts (F := F) c c fullShare f) ∗ (∃ f, mlPts (F := F) c c fullShare f) ∗ atPos ER (barCell c) 0 ∅ 0 ∗ cred (tallyAt (barCell c) () 7)
    ∗ sepL devs (toksTo (F := F) c) ∗ sepL devs (recvTodo (F := F) c) ∗ sepL devs (sentPos (F := F) c))

/-- What is left of the own rows after the eight loans. -/
def Rest : sProp 𝕄 := iprop(accPts c c (Transfers.shareDrop fullShare 8) GA ∗ mlPts c c (Transfers.shareDrop fullShare 8) GM)

/-- The own row of numerators, parted into one share for each send and a rest. -/
theorem lend_a : (accPts c c fullShare GA : sProp 𝕄) ⊢ iprop(accPts c c (Transfers.shareDrop fullShare 8) GA ∗ sepL devs fun t => accPts c c (lent t) GA) := by
  rw [← bigSep_devs]; unfold accPts; exact Transfers.pointsTo_toks_split fullShare 8
/-- The own row of maxima and denominators, parted likewise. -/
theorem lend_m : (mlPts c c fullShare GM : sProp 𝕄) ⊢ iprop(mlPts c c (Transfers.shareDrop fullShare 8) GM ∗ sepL devs fun t => mlPts c c (lent t) GM) := by
  rw [← bigSep_devs]; unfold mlPts; exact Transfers.pointsTo_toks_split fullShare 8
/-- The shares of the row of numerators put together again. -/
theorem back_a : iprop(accPts c c (Transfers.shareDrop fullShare 8) GA ∗ sepL devs fun t => accPts c c (lent t) GA) ⊢ (accPts c c fullShare GA : sProp 𝕄) := by
  rw [← bigSep_devs]; unfold accPts; exact Transfers.pointsTo_toks_join fullShare 8
/-- The shares of the row of maxima and denominators put together again. -/
theorem back_m : iprop(mlPts c c (Transfers.shareDrop fullShare 8) GM ∗ sepL devs fun t => mlPts c c (lent t) GM) ⊢ (mlPts c c fullShare GM : sProp 𝕄) := by
  rw [← bigSep_devs]; unfold mlPts; exact Transfers.pointsTo_toks_join fullShare 8

/-- Everything the eight sends need. -/
theorem send_start :
    iprop((sepL devs fun t => accPts c c (lent t) GA) ∗ (sepL devs fun t => mlPts c c (lent t) GM) ∗ (sepL devs fun t => other c t (barPay (F := F) c t)) ∗ sepL devs (toksTo (F := F) c))
      ⊢ sepL devs (sendTodo GA GM c) := by
  iintro ⟨HA, HM, HB, HT⟩
  iapply (sepL_mono (P := fun t => iprop(accPts c c (lent t) GA ∗ mlPts c c (lent t) GM ∗ other c t (barPay (F := F) c t) ∗ toksTo (F := F) c t)) (fun t => by
    unfold sendTodo toksTo
    iintro ⟨H1, H2, H3, H4⟩
    isplitl [H1]; · iexact H1
    isplitl [H2]; · iexact H2
    iapply (other_sep c t); isplitl [H3] <;> iassumption) devs)
  iapply (sepL_sep _ _ devs); isplitl [HA]; · iexact HA
  iapply (sepL_sep _ _ devs); isplitl [HM]; · iexact HM
  iapply (sepL_sep _ _ devs); isplitl [HB] <;> iassumption

variable (i : grid0.Coords) (h11 : k0_cond11 i = 1#1)

set_option maxHeartbeats 3200000 in
/-- Part 8: the own row, the seven signals, and the first three sends. -/
theorem part8_wp (v2 : BitVec 32) (m l : Vec F S64x1 .f32) (a : Vec F S64x128 .f32)
    (hA : ∀ (d0 : Fin 1) (d1 d2 : Fin 8) (d3 : Fin 128), k0_pay23 a (ValueIdx.ix4 d0 d1 d2 d3) = GA (ValueIdx.ix4 c d1 d2 d3))
    (hM : ∀ (d0 : Fin 1) (d1 : Fin 8) (d2 : Fin 1) (d3 : Fin 8) (d4 : Fin 1), k0_pay24 m (ValueIdx.ix5 d0 d1 d2 d3 d4) = GM (ValueIdx.ix5 c d1 (0 : Fin 2) d3 d4))
    (hL : ∀ (d0 : Fin 1) (d1 : Fin 8) (d2 : Fin 1) (d3 : Fin 8) (d4 : Fin 1), k0_pay25 l (ValueIdx.ix5 d0 d1 d2 d3 d4) = GM (ValueIdx.ix5 c d1 (1 : Fin 2) d3 d4))
    {Q : _ → sProp 𝕄} :
    iprop(records GA GM K ∗ (scr c cc0_scratch2 m ∗ scr c cc0_scratch3 l ∗ scr c cc0_scratch4 a) ∗ SigSt (F := F) c [] ∗ Hold (F := F) c)
      ⊢ iprop(((scr c cc0_scratch2 m ∗ scr c cc0_scratch3 l ∗ scr c cc0_scratch4 a) ∗ Rest GA GM c ∗ semVal (barCell c) 0
            ∗ SendSt GA GM c [3, 4, 5, 6, 7] [2, 1, 0] ∗ sepL devs (recvTodo (F := F) c) ∗ sepL devs (sentPos (F := F) c) -∗ Q 3#32)
        -∗ wp frame (wpE (defs₀ (F := F)) 𝒱₀ (c : Thread nD τ) none) Set.univ (k0_part8 (F := F) i (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c v2 (SemArray.scalar (sig.barrier 0 rfl)) h11) Q) := by
  rw [k0_part8_eq_skeleton]; unfold k0_part8_skel
  unfold SigSt Hold
  iintro ⟨#HR, ⟨H2, H3, H4⟩, ⟨HO, _⟩, ⟨%fa, HA⟩, ⟨%fm, HM⟩, Hat, Hcr, HT, HRv, HSp⟩ Hk
  iapply (load_a c _ a) $$ H4; iintro H4
  iapply (load_row_a c fa _ (k0_off9_eq c) _) $$ HA; iintro %x HA
  iapply (store_row_a c GA fa _ _ (k0_off9_eq c) _ hA) $$ HA; iintro HA
  iapply (load_m c _ m) $$ H2; iintro H2
  iapply (load_row_m c 0 (by decide) fm _ (k0_off10_eq c) _) $$ HM; iintro %x HM
  iapply (store_row_m c 0 (by decide) fm _ _ (k0_off10_eq c) _) $$ HM; iintro HM
  iapply (load_l c _ l) $$ H3; iintro H3
  iapply (load_row_m c 1 (by decide) _ _ (k0_off11_eq c) _) $$ HM; iintro %x HM
  iapply (store_row_m c 1 (by decide) _ _ _ (k0_off11_eq c) _) $$ HM; iintro HM
  ihave HM := (Entails.of_eq (row_m_done c GM fm _ _ hM hL)) $$ HM
  iapply (bar_wait GA GM K c _ (add_zero _) _) $$ [HO Hat Hcr]
  · isplitr; · iexact HR
    isplitl [HO]; · iexact HO
    isplitl [Hat] <;> iassumption
  iintro ⟨HO, Hb, HB⟩
  ihave ⟨HAr, HA⟩ := (lend_a GA c) $$ HA
  ihave ⟨HMr, HM⟩ := (lend_m GM c) $$ HM
  ihave HT := (send_start GA GM c) $$ [HA HM HB HT]
  · isplitl [HA]; · iexact HA
    isplitl [HM]; · iexact HM
    isplitl [HB] <;> iassumption
  ihave HS : SendSt GA GM c devs [] $$ [HO HT]
  · unfold SendSt
    isplitl [HO]; · rw [add_zero]; iexact HO
    isplitl [HT]; · iexact HT
    unfold sepL; iempintro

  iapply (send_jp GA GM K c 0 _ _ (cond12_iff c) (fun _ => Fin.ext k0_dev9_eq) (fun _ => Fin.ext k0_dev10_eq)
      (fun _ => rfl) (fun _ => semRow_eq c _ _ (k0_off12_eq c) _) (fun _ => rfl) (fun _ => semRow_eq c _ _ (k0_off12_eq c) _)
      (fun _ => accRow_eq c _ (k0_off13_eq c) _) (fun _ => accRow_eq c _ (k0_off13_eq c) _) (fun _ => mlRow_eq c _ (k0_off14_eq c) _) (fun _ => mlRow_eq c _ (k0_off14_eq c) _)) $$ [HS]
  · isplitr; · iexact HR
    iexact HS
  iintro HS
  iapply (send_jp GA GM K c 1 _ _ (cond13_iff c) (fun _ => Fin.ext k0_dev11_eq) (fun _ => Fin.ext k0_dev12_eq)
      (fun _ => rfl) (fun _ => semRow_eq c _ _ (k0_off15_eq c) _) (fun _ => rfl) (fun _ => semRow_eq c _ _ (k0_off15_eq c) _)
      (fun _ => accRow_eq c _ (k0_off16_eq c) _) (fun _ => accRow_eq c _ (k0_off16_eq c) _) (fun _ => mlRow_eq c _ (k0_off17_eq c) _) (fun _ => mlRow_eq c _ (k0_off17_eq c) _)) $$ [HS]
  · isplitr; · iexact HR
    iexact HS
  iintro HS
  iapply (send_jp GA GM K c 2 _ _ (cond14_iff c) (fun _ => Fin.ext k0_dev13_eq) (fun _ => Fin.ext k0_dev14_eq)
      (fun _ => rfl) (fun _ => semRow_eq c _ _ (k0_off18_eq c) _) (fun _ => rfl) (fun _ => semRow_eq c _ _ (k0_off18_eq c) _)
      (fun _ => accRow_eq c _ (k0_off19_eq c) _) (fun _ => accRow_eq c _ (k0_off19_eq c) _) (fun _ => mlRow_eq c _ (k0_off20_eq c) _) (fun _ => mlRow_eq c _ (k0_off20_eq c) _)) $$ [HS]
  · isplitr; · iexact HR
    iexact HS
  iintro HS
  iapply (wp_done c (3#32 : BitVec 32) Q)
  iapply Hk
  isplitl [H2 H3 H4]
  · isplitl [H2]; · iexact H2
    isplitl [H3] <;> iassumption
  isplitl [HAr HMr]
  · unfold Rest; isplitl [HAr] <;> iassumption
  isplitl [Hb]; · iexact Hb
  isplitl [HS]; · iexact HS
  isplitl [HRv] <;> iassumption

set_option maxHeartbeats 3200000 in
/-- Part 9: the last five sends, and the first five rows received. -/
theorem part9_wp (n : BitVec 32) {Q : _ → sProp 𝕄} :
    iprop(records GA GM K ∗ SendSt GA GM c [3, 4, 5, 6, 7] [2, 1, 0] ∗ sepL devs (recvTodo (F := F) c))
      ⊢ iprop((RecvSt GA GM c [5, 6, 7] [4, 3, 2, 1, 0] ∗ sepL back (sendDone GA GM c) -∗ Q 5#32)
        -∗ wp frame (wpE (defs₀ (F := F)) 𝒱₀ (c : Thread nD τ) none) Set.univ (k0_part9 (F := F) i (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (place c) h11 n) Q) := by
  rw [k0_part9_eq_skeleton]; unfold k0_part9_skel
  iintro ⟨#HR, HS, HRv⟩ Hk
  iapply (send_jp GA GM K c 3 _ _ (cond15_iff c) (fun _ => Fin.ext k0_dev15_eq) (fun _ => Fin.ext k0_dev16_eq)
      (fun _ => rfl) (fun _ => semRow_eq c _ _ (k0_off21_eq c) _) (fun _ => rfl) (fun _ => semRow_eq c _ _ (k0_off21_eq c) _)
      (fun _ => accRow_eq c _ (k0_off22_eq c) _) (fun _ => accRow_eq c _ (k0_off22_eq c) _) (fun _ => mlRow_eq c _ (k0_off23_eq c) _) (fun _ => mlRow_eq c _ (k0_off23_eq c) _)) $$ [HS]
  · isplitr; · iexact HR
    iexact HS
  iintro HS
  iapply (send_jp GA GM K c 4 _ _ (cond16_iff c) (fun _ => Fin.ext k0_dev17_eq) (fun _ => Fin.ext k0_dev18_eq)
      (fun _ => rfl) (fun _ => semRow_eq c _ _ (k0_off24_eq c) _) (fun _ => rfl) (fun _ => semRow_eq c _ _ (k0_off24_eq c) _)
      (fun _ => accRow_eq c _ (k0_off25_eq c) _) (fun _ => accRow_eq c _ (k0_off25_eq c) _) (fun _ => mlRow_eq c _ (k0_off26_eq c) _) (fun _ => mlRow_eq c _ (k0_off26_eq c) _)) $$ [HS]
  · isplitr; · iexact HR
    iexact HS
  iintro HS
  iapply (send_jp GA GM K c 5 _ _ (cond17_iff c) (fun _ => Fin.ext k0_dev19_eq) (fun _ => Fin.ext k0_dev20_eq)
      (fun _ => rfl) (fun _ => semRow_eq c _ _ (k0_off27_eq c) _) (fun _ => rfl) (fun _ => semRow_eq c _ _ (k0_off27_eq c) _)
      (fun _ => accRow_eq c _ (k0_off28_eq c) _) (fun _ => accRow_eq c _ (k0_off28_eq c) _) (fun _ => mlRow_eq c _ (k0_off29_eq c) _) (fun _ => mlRow_eq c _ (k0_off29_eq c) _)) $$ [HS]
  · isplitr; · iexact HR
    iexact HS
  iintro HS
  iapply (send_jp GA GM K c 6 _ _ (cond18_iff c) (fun _ => Fin.ext k0_dev21_eq) (fun _ => Fin.ext k0_dev22_eq)
      (fun _ => rfl) (fun _ => semRow_eq c _ _ (k0_off30_eq c) _) (fun _ => rfl) (fun _ => semRow_eq c _ _ (k0_off30_eq c) _)
      (fun _ => accRow_eq c _ (k0_off31_eq c) _) (fun _ => accRow_eq c _ (k0_off31_eq c) _) (fun _ => mlRow_eq c _ (k0_off32_eq c) _) (fun _ => mlRow_eq c _ (k0_off32_eq c) _)) $$ [HS]
  · isplitr; · iexact HR
    iexact HS
  iintro HS
  iapply (send_jp GA GM K c 7 _ _ (cond19_iff c) (fun _ => Fin.ext k0_dev23_eq) (fun _ => Fin.ext k0_dev24_eq)
      (fun _ => rfl) (fun _ => semRow_eq c _ _ (k0_off33_eq c) _) (fun _ => rfl) (fun _ => semRow_eq c _ _ (k0_off33_eq c) _)
      (fun _ => accRow_eq c _ (k0_off34_eq c) _) (fun _ => accRow_eq c _ (k0_off34_eq c) _) (fun _ => mlRow_eq c _ (k0_off35_eq c) _) (fun _ => mlRow_eq c _ (k0_off35_eq c) _)) $$ [HS]
  · isplitr; · iexact HR
    iexact HS
  iintro HS
  ihave ⟨HO, _, HD⟩ : iprop((∃ W, owes (c : Thread nD τ) (sends c []) W) ∗ sepL [] (sendTodo GA GM c) ∗ sepL back (sendDone GA GM c)) $$ [HS]
  · unfold SendSt; iexact HS
  ihave HS : RecvSt GA GM c devs [] $$ [HO HRv]
  · unfold RecvSt
    isplitl [HO]; · iexact HO
    isplitl [HRv]; · iexact HRv
    unfold sepL; iempintro
  iapply (recv_jp GA GM K c 0 _ _ (from0_iff c) (fun _ => rfl) (fun _ => rfl) (fun _ => credit_a _) (fun _ => credit_m _)) $$ [HS]
  · isplitr; · iexact HR
    iexact HS
  iintro HS
  iapply (recv_jp GA GM K c 1 _ _ (from1_iff c) (fun _ => rfl) (fun _ => rfl) (fun _ => credit_a _) (fun _ => credit_m _)) $$ [HS]
  · isplitr; · iexact HR
    iexact HS
  iintro HS
  iapply (recv_jp GA GM K c 2 _ _ (from2_iff c) (fun _ => rfl) (fun _ => rfl) (fun _ => credit_a _) (fun _ => credit_m _)) $$ [HS]
  · isplitr; · iexact HR
    iexact HS
  iintro HS
  iapply (recv_jp GA GM K c 3 _ _ (from3_iff c) (fun _ => rfl) (fun _ => rfl) (fun _ => credit_a _) (fun _ => credit_m _)) $$ [HS]
  · isplitr; · iexact HR
    iexact HS
  iintro HS
  iapply (recv_jp GA GM K c 4 _ _ (from4_iff c) (fun _ => rfl) (fun _ => rfl) (fun _ => credit_a _) (fun _ => credit_m _)) $$ [HS]
  · isplitr; · iexact HR
    iexact HS
  iintro HS
  iapply (wp_done c (5#32 : BitVec 32) Q)
  iapply Hk
  isplitl [HS] <;> iassumption

set_option maxHeartbeats 3200000 in
/-- Part 10: the last three rows received, and all but one of the sends completed. -/
theorem part10_wp {Q : _ → sProp 𝕄} :
    iprop(records GA GM K ∗ RecvSt GA GM c [5, 6, 7] [4, 3, 2, 1, 0] ∗ sepL back (sendDone GA GM c) ∗ sepL devs (sentPos (F := F) c))
      ⊢ iprop((SentSt GA GM c [7] [6, 5, 4, 3, 2, 1, 0] ∗ sepL back (recvDone GA GM c) -∗ Q 7#32)
        -∗ wp frame (wpE (defs₀ (F := F)) 𝒱₀ (c : Thread nD τ) none) Set.univ (k0_part10 (F := F) i (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 c (place c) h11 5#32) Q) := by
  rw [k0_part10_eq_skeleton]; unfold k0_part10_skel
  iintro ⟨#HR, HS, HD, HSp⟩ Hk
  iapply (recv_jp GA GM K c 5 _ _ (from5_iff c) (fun _ => rfl) (fun _ => rfl) (fun _ => credit_a _) (fun _ => credit_m _)) $$ [HS]
  · isplitr; · iexact HR
    iexact HS
  iintro HS
  iapply (recv_jp GA GM K c 6 _ _ (from6_iff c) (fun _ => rfl) (fun _ => rfl) (fun _ => credit_a _) (fun _ => credit_m _)) $$ [HS]
  · isplitr; · iexact HR
    iexact HS
  iintro HS
  iapply (recv_jp GA GM K c 7 _ _ (from7_iff c) (fun _ => rfl) (fun _ => rfl) (fun _ => credit_a _) (fun _ => credit_m _)) $$ [HS]
  · isplitr; · iexact HR
    iexact HS
  iintro HS
  ihave ⟨HO, _, HV⟩ : iprop((∃ W, owes (c : Thread nD τ) 0 W) ∗ sepL [] (recvTodo (F := F) c) ∗ sepL back (recvDone GA GM c)) $$ [HS]
  · unfold RecvSt; iexact HS
  ihave HD := (Entails.of_eq (sepL_back (sendDone GA GM c))) $$ HD
  ihave HT := (sepL_sep _ _ devs) $$ [HSp HD]
  · isplitl [HSp] <;> iassumption
  ihave HS : SentSt GA GM c devs [] $$ [HO HT]
  · unfold SentSt
    isplitl [HO]; · iexact HO
    isplitl [HT]
    · iapply (sepL_mono (P := fun t => iprop(sentPos (F := F) c t ∗ sendDone GA GM c t)) (fun t => by
        unfold sentTodo sentPos
        iintro ⟨⟨H1, H2⟩, H3⟩
        isplitl [H1]; · iexact H1
        isplitl [H2] <;> iassumption) devs)
      iexact HT
    unfold sepL; iempintro
  iapply (sent_jp GA GM K c 0 _ _ (cond28_iff c) (fun _ => rfl) (fun _ => rfl) (fun _ => credit_a _) (fun _ => credit_m _)) $$ [HS]
  · isplitr; · iexact HR
    iexact HS
  iintro HS
  iapply (sent_jp GA GM K c 1 _ _ (cond29_iff c) (fun _ => rfl) (fun _ => rfl) (fun _ => credit_a _) (fun _ => credit_m _)) $$ [HS]
  · isplitr; · iexact HR
    iexact HS
  iintro HS
  iapply (sent_jp GA GM K c 2 _ _ (cond30_iff c) (fun _ => rfl) (fun _ => rfl) (fun _ => credit_a _) (fun _ => credit_m _)) $$ [HS]
  · isplitr; · iexact HR
    iexact HS
  iintro HS
  iapply (sent_jp GA GM K c 3 _ _ (cond31_iff c) (fun _ => rfl) (fun _ => rfl) (fun _ => credit_a _) (fun _ => credit_m _)) $$ [HS]
  · isplitr; · iexact HR
    iexact HS
  iintro HS
  iapply (sent_jp GA GM K c 4 _ _ (cond32_iff c) (fun _ => rfl) (fun _ => rfl) (fun _ => credit_a _) (fun _ => credit_m _)) $$ [HS]
  · isplitr; · iexact HR
    iexact HS
  iintro HS
  iapply (sent_jp GA GM K c 5 _ _ (cond33_iff c) (fun _ => rfl) (fun _ => rfl) (fun _ => credit_a _) (fun _ => credit_m _)) $$ [HS]
  · isplitr; · iexact HR
    iexact HS
  iintro HS
  iapply (sent_jp GA GM K c 6 _ _ (cond34_iff c) (fun _ => rfl) (fun _ => rfl) (fun _ => credit_a _) (fun _ => credit_m _)) $$ [HS]
  · isplitr; · iexact HR
    iexact HS
  iintro HS
  iapply (wp_done c (7#32 : BitVec 32) Q)
  iapply Hk
  isplitl [HS] <;> iassumption

end

end Cert.Pa

end
-- ==== Proof.Pa.BodyG.lean ====
/-
# Paged attention: the whole body at one grid point
-/
module

public import proofs.«01_k».proof.Proof.Pa.BodyF

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (c : Dev nD)

/-! ## The tables as rows -/

/-- Every element of the numerators' table lies in its device's row. -/
theorem accRow_cover (i : S8x8x8x128.Idx) : i ∈ (accRow (⟨(i 0).val, (i 0).isLt⟩ : Dev nD)).view.set := by
  rw [accRow_set]
  refine Rect.mem_set_unit.mpr fun a => ?_
  fin_cases a
  · exact ⟨le_refl _, Nat.lt_succ_self _⟩
  all_goals exact ⟨Nat.zero_le _, lt_of_lt_of_eq (Fin.isLt _) (Nat.zero_add _).symm⟩

/-- The numerators' table is its rows. -/
theorem rows_a (f : cc0_scratch7.ty.Contents (Elt F)) : (scr c cc0_scratch7 f : sProp 𝕄) = bigSep Finset.univ fun s => accPts c s fullShare f := by
  have hc : (Finset.univ : Finset (Idx ((c : Thread nD τ).loc cc0_scratch7))) = Finset.univ.biUnion fun s : Dev nD => (accRow s).view.set := by
    refine (Finset.eq_univ_iff_forall.mpr fun i => ?_).symm
    refine Finset.mem_biUnion.mpr ⟨(⟨((i : S8x8x8x128.Idx) 0).val, ((i : S8x8x8x128.Idx) 0).isLt⟩ : Dev nD), Finset.mem_univ _, ?_⟩
    exact accRow_cover i
  have hd : ∀ t ∈ (Finset.univ : Finset (Dev nD)), ∀ t' ∈ (Finset.univ : Finset (Dev nD)), t ≠ t' → Disjoint (accRow t).view.set (accRow t').view.set := by
    intro t _ t' _ hne
    rw [accRow_set, accRow_set]
    refine Rect.unit_disjoint 0 ?_
    have : t.val ≠ t'.val := fun e => hne (Fin.ext e)
    show t.val + 1 ≤ t'.val ∨ t'.val + 1 ≤ t.val; omega
  show (((c : Thread nD τ).loc cc0_scratch7) ↦[Finset.univ]{fullShare} f : sProp 𝕄) = _
  rw [hc, pointsTo_biUnion Finset.univ _ hd]; rfl

/-- Every element of the maxima and denominators' table lies in its device's row. -/
theorem mlRow_cover (i : S8x8x2x8x1.Idx) : i ∈ (mlRow (⟨(i 0).val, (i 0).isLt⟩ : Dev nD)).view.set := by
  rw [mlRow_set]
  refine Rect.mem_set_unit.mpr fun a => ?_
  fin_cases a
  · exact ⟨le_refl _, Nat.lt_succ_self _⟩
  all_goals exact ⟨Nat.zero_le _, lt_of_lt_of_eq (Fin.isLt _) (Nat.zero_add _).symm⟩

/-- The maxima and denominators' table is its rows. -/
theorem rows_m (f : cc0_scratch8.ty.Contents (Elt F)) : (scr c cc0_scratch8 f : sProp 𝕄) = bigSep Finset.univ fun s => mlPts c s fullShare f := by
  have hc : (Finset.univ : Finset (Idx ((c : Thread nD τ).loc cc0_scratch8))) = Finset.univ.biUnion fun s : Dev nD => (mlRow s).view.set := by
    refine (Finset.eq_univ_iff_forall.mpr fun i => ?_).symm
    refine Finset.mem_biUnion.mpr ⟨(⟨((i : S8x8x2x8x1.Idx) 0).val, ((i : S8x8x2x8x1.Idx) 0).isLt⟩ : Dev nD), Finset.mem_univ _, ?_⟩
    exact mlRow_cover i
  have hd : ∀ t ∈ (Finset.univ : Finset (Dev nD)), ∀ t' ∈ (Finset.univ : Finset (Dev nD)), t ≠ t' → Disjoint (mlRow t).view.set (mlRow t').view.set := by
    intro t _ t' _ hne
    rw [mlRow_set, mlRow_set]
    refine Rect.unit_disjoint 0 ?_
    have : t.val ≠ t'.val := fun e => hne (Fin.ext e)
    show t.val + 1 ≤ t'.val ∨ t'.val + 1 ≤ t.val; omega
  show (((c : Thread nD τ).loc cc0_scratch8) ↦[Finset.univ]{fullShare} f : sProp 𝕄) = _
  rw [hc, pointsTo_biUnion Finset.univ _ hd]; rfl

omit [FloatOps F] in
/-- A part for the device itself and a part for every other one. -/
theorem with_others (P : Dev nD → sProp 𝕄) : iprop(P c ∗ sepL devs fun t => other c t (P t)) ⊢ sepL devs P := by
  rw [← bigSep_devs, ← bigSep_devs, bigSep_erase (Finset.mem_univ c), bigSep_erase (Φ := P) (Finset.mem_univ c), other, if_pos rfl,
    bigSep_congr fun d hd => show other c d (P d) = P d from if_neg (Finset.ne_of_mem_erase hd).symm]
  exact BI.sep_mono (BI.Entails.refl _) (BIClass.emp_sep (PROP := sProp 𝕄)).1

/-- Every cell of the protocol back at zero. -/
def Sems0 : sProp 𝕄 :=
  iprop(semVal (barCell c) 0 ∗ (sepL devs fun t => iprop(semVal (cell c 0 t) 0 ∗ semVal (cell c 2 t) 0))
    ∗ sepL devs fun t => iprop(semVal (cell c 1 t) 0 ∗ semVal (cell c 3 t) 0))

/-- A test that holds, with its branch using the proof. -/
theorem if_pos_wp {p : Prop} [Decidable p] (hp : p) {α : Type} {A : p → Prog (TpuEff nD τ sig (Elt F) Λ₀ .tc) α} {B : ¬p → Prog (TpuEff nD τ sig (Elt F) Λ₀ .tc) α} {Q : α → sProp 𝕄} :
    wp frame (wpE (defs₀ (F := F)) 𝒱₀ (c : Thread nD τ) none) Set.univ (A hp) Q ⊢ wp frame (wpE (defs₀ (F := F)) 𝒱₀ (c : Thread nD τ) none) Set.univ (if h : p then A h else B h) Q := by rw [dif_pos hp]
/-- A test that fails, with its branch using the proof. -/
theorem if_neg_wp {p : Prop} [Decidable p] (hp : ¬p) {α : Type} {A : p → Prog (TpuEff nD τ sig (Elt F) Λ₀ .tc) α} {B : ¬p → Prog (TpuEff nD τ sig (Elt F) Λ₀ .tc) α} {Q : α → sProp 𝕄} :
    wp frame (wpE (defs₀ (F := F)) 𝒱₀ (c : Thread nD τ) none) Set.univ (B hp) Q ⊢ wp frame (wpE (defs₀ (F := F)) 𝒱₀ (c : Thread nD τ) none) Set.univ (if h : p then A h else B h) Q := by rw [dif_neg hp]

end

section
variable (GA : cc0_scratch7.ty.Contents (Elt F)) (GM : cc0_scratch8.ty.Contents (Elt F)) (K : Dev nD × CK → ℕ) (c : Dev nD)

/-- All eight rows on hand: the whole tables. -/
theorem join_rows :
    iprop(Rest GA GM c ∗ sepL back (sentDone GA GM c) ∗ sepL back (recvDone GA GM c) ∗ semVal (barCell c) 0)
      ⊢ iprop(scr c cc0_scratch7 GA ∗ scr c cc0_scratch8 GM ∗ Sems0 (F := F) c) := by
  rw [sepL_back, sepL_back, rows_a, rows_m, bigSep_devs, bigSep_devs]
  unfold Rest Sems0
  iintro ⟨⟨HAr, HMr⟩, HS, HR, Hb⟩
  ihave HS := (sepL_mono (Q := fun t => iprop((semVal (cell c 0 t) 0 ∗ semVal (cell c 2 t) 0) ∗ accPts c c (lent t) GA ∗ mlPts c c (lent t) GM)) (fun t => by
    unfold sentDone
    iintro ⟨H1, H2, H3, H4⟩
    isplitl [H1 H2]
    · isplitl [H1] <;> iassumption
    isplitl [H3] <;> iassumption) devs) $$ HS
  ihave ⟨HS0, HS⟩ := (sepL_unsep _ _ devs) $$ HS
  ihave ⟨HA, HM⟩ := (sepL_unsep _ _ devs) $$ HS
  ihave HA := (back_a GA c) $$ [HAr HA]
  · isplitl [HAr] <;> iassumption
  ihave HM := (back_m GM c) $$ [HMr HM]
  · isplitl [HMr] <;> iassumption
  ihave HR := (sepL_mono (Q := fun t => iprop((semVal (cell c 1 t) 0 ∗ semVal (cell c 3 t) 0) ∗ other c t (accPts c t fullShare GA) ∗ other c t (mlPts c t fullShare GM))) (fun t => by
    unfold recvDone other
    by_cases h : c = t
    · rw [if_pos h, if_pos h, if_pos h]
      iintro ⟨H1, H2, H3⟩
      isplitl [H1 H2]
      · isplitl [H1] <;> iassumption
      isplitl [H3]; · iexact H3
      iempintro
    · rw [if_neg h, if_neg h, if_neg h]
      iintro ⟨H1, H2, H3⟩
      isplitl [H1 H2]
      · isplitl [H1] <;> iassumption
      iexact H3) devs) $$ HR
  ihave ⟨HR0, HR⟩ := (sepL_unsep _ _ devs) $$ HR
  ihave ⟨HAo, HMo⟩ := (sepL_unsep _ _ devs) $$ HR
  ihave HA := (with_others c (fun t => accPts c t fullShare GA)) $$ [HA HAo]
  · isplitl [HA] <;> iassumption
  ihave HM := (with_others c (fun t => mlPts c t fullShare GM)) $$ [HM HMo]
  · isplitl [HM] <;> iassumption
  isplitl [HA]; · iexact HA
  isplitl [HM]; · iexact HM
  isplitl [Hb]; · iexact Hb
  isplitl [HS0] <;> iassumption

variable (t : ℕ) (ht : t < 8) (hk : Buf (Elt F) (kH.view.loc (c : Thread nD τ))) (hv : Buf (Elt F) (vH.view.loc (c : Thread nD τ)))
  (xq : Vec F S8x1x8x128 .f32) (xb : Vec F S8x512 .i32) (xl : Vec F S8 .i32)

set_option maxHeartbeats 3200000 in
/-- The body at a point other than the last: one more chunk. -/
theorem body_mid (hlt : t ≠ 7) {Q : PUnit → sProp 𝕄} :
    iprop(records GA GM K ∗ PreSt c hk hv xq xb xl t)
      ⊢ iprop((MidSt c hk hv xq xb xl (t + 1) -∗ Q ⟨⟩) -∗ wp frame (wpE (defs₀ (F := F)) 𝒱₀ (c : Thread nD τ) none) Set.univ (cc0_body (F := F) (pt t ht) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) Q) := by
  rw [cc0_body_eq_skeleton]; unfold cc0_body_skel
  rw [wp_bind]
  iintro ⟨#HR, HP⟩ Hk
  iapply (part11_wp GA GM K c t ht hk hv xq xb xl) $$ [HP]
  · isplitr; · iexact HR
    iexact HP
  iintro HP
  ihave ⟨HI, HB, HKr, HVr, HS⟩ := (Entails.of_eq (St11.eq_1 c hk hv xq xb xl t)) $$ HP
  ihave ⟨H0, H1, H2, H3, H4⟩ := (Entails.of_eq (Bufs.eq_1 c (wV c xb xl) (qwV xq) (st (argsOf c hk hv xq xb xl) t))) $$ HB
  rw [wp_bind]
  iapply (part12_wp GA GM K c t ht hv (st (argsOf c hk hv xq xb xl) t).m _ _ _ _) $$ [H2 HVr HS]
  · isplitr; · iexact HR
    isplitl [H2]; · iexact H2
    isplitl [HVr] <;> iassumption
  iintro ⟨H2, HVr, HS⟩
  iapply (load_l c _ (st (argsOf c hk hv xq xb xl) t).l) $$ H3; iintro H3
  iapply (load_l c _ (st (argsOf c hk hv xq xb xl) t).l) $$ H3; iintro H3
  iapply (store_l c _ (st (argsOf c hk hv xq xb xl) t).l) $$ H3; iintro H3
  iapply (load_a c _ (st (argsOf c hk hv xq xb xl) t).a) $$ H4; iintro H4
  iapply (load_a c _ (st (argsOf c hk hv xq xb xl) t).a) $$ H4; iintro H4
  iapply (store_a c _ (st (argsOf c hk hv xq xb xl) t).a) $$ H4; iintro H4
  iapply (load_m c _ (st (argsOf c hk hv xq xb xl) t).m) $$ H2; iintro H2
  iapply (store_m c _ (st (argsOf c hk hv xq xb xl) t).m) $$ H2; iintro H2
  iapply (if_neg_wp c (fun h => hlt ((cond11_iff t ht).mp h)))
  iapply (wp_done c (⟨⟩ : PUnit) Q)
  iapply Hk
  unfold MidSt Bufs
  rw [st_succ (argsOf c hk hv xq xb xl) t ht]
  isplitl [HI]; · iexact HI
  isplitl [H0 H1 H2 H3 H4]
  · isplitl [H0]; · iexact H0
    isplitl [H1]; · iexact H1
    isplitl [H2]; · iexact H2
    isplitl [H3]; · iexact H3
    iexact H4
  isplitl [HKr]; · iexact HKr
  isplitl [HVr]; · iexact HVr
  iexact HS

/-- After the last point. -/
def EndSt : sProp 𝕄 :=
  iprop(Ins c xq xb xl ∗ Bufs c (wV c xb xl) (qwV xq) (st (argsOf c hk hv xq xb xl) 8) ∗ RingK c hk 8 ∗ RingV c hv 8
    ∗ (∃ W, owes (c : Thread nD τ) 0 W) ∗ Sems0 (F := F) c ∗ scr c cc0_scratch7 GA ∗ scr c cc0_scratch8 GM ∗ scr c cc0_stg3_0 (k0_pay4 (F := F) GA GM))

set_option maxHeartbeats 6400000 in
/-- The body at the last point: the last chunk, the exchange, and the combination. -/
theorem body_last (hl : t = 7)
    (hA : ∀ (d0 : Fin 1) (d1 d2 : Fin 8) (d3 : Fin 128), k0_pay23 (st (argsOf c hk hv xq xb xl) 8).a (ValueIdx.ix4 d0 d1 d2 d3) = GA (ValueIdx.ix4 c d1 d2 d3))
    (hM : ∀ (d0 : Fin 1) (d1 : Fin 8) (d2 : Fin 1) (d3 : Fin 8) (d4 : Fin 1), k0_pay24 (st (argsOf c hk hv xq xb xl) 8).m (ValueIdx.ix5 d0 d1 d2 d3 d4) = GM (ValueIdx.ix5 c d1 (0 : Fin 2) d3 d4))
    (hL : ∀ (d0 : Fin 1) (d1 : Fin 8) (d2 : Fin 1) (d3 : Fin 8) (d4 : Fin 1), k0_pay25 (st (argsOf c hk hv xq xb xl) 8).l (ValueIdx.ix5 d0 d1 d2 d3 d4) = GM (ValueIdx.ix5 c d1 (1 : Fin 2) d3 d4))
    {Q : PUnit → sProp 𝕄} :
    iprop(records GA GM K ∗ PreSt c hk hv xq xb xl t ∗ Hold (F := F) c ∗ (∃ f, scr c cc0_stg3_0 f))
      ⊢ iprop((EndSt GA GM c hk hv xq xb xl -∗ Q ⟨⟩) -∗ wp frame (wpE (defs₀ (F := F)) 𝒱₀ (c : Thread nD τ) none) Set.univ (cc0_body (F := F) (pt t ht) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) Q) := by
  have hstep : st (argsOf c hk hv xq xb xl) 8 = step (wLd (pt t ht) (wV c xb xl)) (qwV xq) (chunk kH c hk t ht) (chunk vH c hv t ht) (st (argsOf c hk hv xq xb xl) t) := by
    subst hl; exact st_succ (argsOf c hk hv xq xb xl) 7 ht
  rw [cc0_body_eq_skeleton]; unfold cc0_body_skel
  rw [wp_bind]
  iintro ⟨#HR, HP, HH, ⟨%fo, Ho⟩⟩ Hk
  iapply (part11_wp GA GM K c t ht hk hv xq xb xl) $$ [HP]
  · isplitr; · iexact HR
    iexact HP
  iintro HP
  ihave ⟨HI, HB, HKr, HVr, HS⟩ := (Entails.of_eq (St11.eq_1 c hk hv xq xb xl t)) $$ HP
  ihave ⟨H0, H1, H2, H3, H4⟩ := (Entails.of_eq (Bufs.eq_1 c (wV c xb xl) (qwV xq) (st (argsOf c hk hv xq xb xl) t))) $$ HB
  rw [wp_bind]
  iapply (part12_wp GA GM K c t ht hv (st (argsOf c hk hv xq xb xl) t).m _ _ _ _) $$ [H2 HVr HS]
  · isplitr; · iexact HR
    isplitl [H2]; · iexact H2
    isplitl [HVr] <;> iassumption
  iintro ⟨H2, HVr, HS⟩
  iapply (load_l c _ (st (argsOf c hk hv xq xb xl) t).l) $$ H3; iintro H3
  iapply (load_l c _ (st (argsOf c hk hv xq xb xl) t).l) $$ H3; iintro H3
  iapply (store_l c _ (st (argsOf c hk hv xq xb xl) t).l) $$ H3; iintro H3
  iapply (load_a c _ (st (argsOf c hk hv xq xb xl) t).a) $$ H4; iintro H4
  iapply (load_a c _ (st (argsOf c hk hv xq xb xl) t).a) $$ H4; iintro H4
  iapply (store_a c _ (st (argsOf c hk hv xq xb xl) t).a) $$ H4; iintro H4
  iapply (load_m c _ (st (argsOf c hk hv xq xb xl) t).m) $$ H2; iintro H2
  iapply (store_m c _ (st (argsOf c hk hv xq xb xl) t).m) $$ H2; iintro H2
  iapply (if_pos_wp c ((cond11_iff t ht).mpr hl))
  ihave HB : iprop(scr c cc0_scratch2 (st (argsOf c hk hv xq xb xl) 8).m ∗ scr c cc0_scratch3 (st (argsOf c hk hv xq xb xl) 8).l ∗ scr c cc0_scratch4 (st (argsOf c hk hv xq xb xl) 8).a) $$ [H2 H3 H4]
  · rw [hstep]
    isplitl [H2]; · iexact H2
    isplitl [H3]; · iexact H3
    iexact H4
  rw [wp_bind]
  iapply (part8_wp GA GM K c _ _ _ _ _ _ hA hM hL) $$ [HB HS HH]
  · isplitr; · iexact HR
    isplitl [HB]; · iexact HB
    isplitl [HS] <;> iassumption
  iintro ⟨HB, Hrest, Hb, HS, HRv, HSp⟩
  rw [wp_bind]
  iapply (part9_wp GA GM K c _ _ _) $$ [HS HRv]
  · isplitr; · iexact HR
    isplitl [HS] <;> iassumption
  iintro ⟨HS, HD⟩
  rw [wp_bind]
  iapply (part10_wp GA GM K c _ _) $$ [HS HD HSp]
  · isplitr; · iexact HR
    isplitl [HS]; · iexact HS
    isplitl [HD] <;> iassumption
  iintro ⟨HS, HV⟩
  iapply (sent_jp GA GM K c 7 _ _ (cond35_iff c) (fun _ => rfl) (fun _ => rfl) (fun _ => credit_a _) (fun _ => credit_m _)) $$ [HS]
  · isplitr; · iexact HR
    iexact HS
  iintro HS
  ihave ⟨HO, _, HD⟩ : iprop((∃ W, owes (c : Thread nD τ) 0 W) ∗ sepL [] (sentTodo GA GM c) ∗ sepL back (sentDone GA GM c)) $$ [HS]
  · unfold SentSt; iexact HS
  ihave ⟨HGA, HGM, Hsems⟩ := (join_rows GA GM c) $$ [Hrest HD HV Hb]
  · isplitl [Hrest]; · iexact Hrest
    isplitl [HD]; · iexact HD
    isplitl [HV] <;> iassumption
  iapply (load_ca c _ GA) $$ HGA; iintro HGA
  iapply (load_cm c _ GM) $$ HGM; iintro HGM
  iapply (load_o c _ fo) $$ Ho; iintro Ho
  iapply (store_o c _ fo) $$ Ho; iintro Ho
  iapply (wp_done c (⟨⟩ : PUnit) Q)
  iapply Hk
  unfold EndSt Bufs
  isplitl [HI]; · iexact HI
  isplitl [H0 H1 HB]
  · isplitl [H0]; · iexact H0
    isplitl [H1]; · iexact H1
    iexact HB
  subst hl
  isplitl [HKr]; · iexact HKr
  isplitl [HVr]; · iexact HVr
  isplitl [HO]; · iexact HO
  isplitl [Hsems]; · iexact Hsems
  isplitl [HGA]; · iexact HGA
  isplitl [HGM]; · iexact HGM
  iexact Ho

end

end Cert.Pa

end
-- ==== Proof.Pa.Deal.lean ====
/- The launch's ghost state: the protocol's cells and tokens are minted, the cells closed over the semaphores' zeros,
   and every device is dealt the tokens of the duties it pays, its positions and its credit. -/
module

public import proofs.«01_k».proof.Proof.Pa.BodyG

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- Facts over the cells of a device: the barrier's and those of the four families. -/
theorem bigSep_option (Φ : Option (Fin 4 × Dev nD) → sProp 𝕄) :
    bigSep Finset.univ Φ = iprop(Φ none ∗ bigSep Finset.univ fun x : Fin 4 × Dev nD => Φ (some x)) := by
  rw [bigSep_erase (Finset.mem_univ (none : Option (Fin 4 × Dev nD))),
    show (Finset.univ : Finset (Option (Fin 4 × Dev nD))).erase none = Finset.univ.map ⟨some, Option.some_injective _⟩ from by
      ext x; cases x <;> simp, bigSep_map]
  rfl
omit [FloatOps F] in
/-- Facts over the barrier and four families, written out. -/
theorem bigSep_opt4 (Φ : Option (Fin 4) → sProp 𝕄) :
    bigSep Finset.univ Φ = iprop(Φ none ∗ Φ (some 0) ∗ Φ (some 1) ∗ Φ (some 2) ∗ Φ (some 3)) :=
  bigSep_univ_eq_bigSepL [none, some 0, some 1, some 2, some 3] (by decide) (by decide) Φ
omit [FloatOps F] in
/-- Facts over four, written out. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## Cells and tokens -/

/-- The cells of all devices are different. -/
theorem kc_injective : Function.Injective (fun x : Dev nD × CK => kcell x.1 x.2) := by
  rintro ⟨c, k⟩ ⟨c', k'⟩ h
  have h1 : c = c' := congrArg (fun g : GSem nD τ sig => g.1.1) h
  subst h1
  have h2 : k = k' := csem_injective (congrArg Prod.snd h)
  rw [h2]
/-- The cells of the protocol. -/
def paCells : Finset (GSem nD τ sig) := Finset.univ.map ⟨_, kc_injective⟩

/-- A duty token: device `c`'s cell of kind `j` for device `d`, paid by or for `d`. -/
def tokOf (x : Dev nD × Dev nD × Option (Fin 4)) : GSem nD τ sig × ℕ × Dev nD := (kcell x.1 (x.2.2.map fun j => (j, x.2.1)), 0, x.2.1)
/-- The tokens of the duties are different. -/
theorem tokOf_injective : Function.Injective tokOf := by
  rintro ⟨c, d, j⟩ ⟨c', d', j'⟩ h
  have h1 : c = c' := congrArg (fun x : GSem nD τ sig × ℕ × Dev nD => x.1.1.1) h
  have h2 : d = d' := congrArg (fun x : GSem nD τ sig × ℕ × Dev nD => x.2.2) h
  subst h1 h2
  have h3 : (j.map fun j => (j, d)) = (j'.map fun j => (j, d)) := csem_injective (congrArg (fun x : GSem nD τ sig × ℕ × Dev nD => x.1.2) h)
  have h4 : j = j' := by
    cases j <;> cases j' <;> simp_all
  rw [h4]
/-- The tokens of the duties. -/
def paToks : Finset (GSem nD τ sig × ℕ × Dev nD) := Finset.univ.map ⟨tokOf, tokOf_injective⟩

/-- The tokens of device `c`'s own cells, for one other party. -/
def toks1 (c d : Dev nD) : sProp 𝕄 :=
  iprop(dutyTok ER (barCell c) 0 d ∗ dutyTok ER (cell c 0 d) 0 d ∗ dutyTok ER (cell c 1 d) 0 d ∗ dutyTok ER (cell c 2 d) 0 d ∗ dutyTok ER (cell c 3 d) 0 d)
/-- The tokens device `c` pays with, for one other party. -/
def pays1 (c d : Dev nD) : sProp 𝕄 :=
  iprop(dutyTok ER (barCell d) 0 c ∗ dutyTok ER (cell c 0 d) 0 d ∗ dutyTok ER (cell d 1 c) 0 c ∗ dutyTok ER (cell c 2 d) 0 d ∗ dutyTok ER (cell d 3 c) 0 c)

/-- The semaphores of the kernel's own: the two rings' three each, the four families' eight each. -/
abbrev OwnK : Type := (Fin 2 × Fin 3) ⊕ (Fin 4 × Dev nD)
/-- The semaphores that the kernel allocates: the slots' and the four families'. -/
def osem : OwnK → SemLoc sig
  | .inl (0, s) => .dma (semR cc0_scratch9 s.val s.isLt)
  | .inl (1, s) => .dma (semR cc0_scratch10 s.val s.isLt)
  | .inr (j, k) => .dma (semAt (fam j) k)

/-- The kernel allocates these semaphores and no other. -/
theorem ownSemFacts : Pipeline.OwnSemFacts cfg0.spec osem := by decide +kernel

/-- The two rings' semaphores at zero. -/
def ringSems (c : Dev nD) : sProp 𝕄 :=
  bigSep Finset.univ fun x : Fin 2 × Fin 3 => semVal ((c : Thread nD τ), osem (.inl x)) 0

omit [FloatOps F] in
/-- The only semaphore from outside the kernel is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- The allocated semaphores at zero are the rings' and the families'. -/
theorem ownSems0_eq (c : Dev nD) : (Pipeline.ownSems0 (Ix := Unit) (Name := ℕ) (U := UU) (Lvl := ℕ) (Val := Elt F) (τ := τ) osem c : sProp 𝕄)
    = iprop(ringSems c ∗ bigSep Finset.univ fun x : Fin 4 × Dev nD => semVal (cell c x.1 x.2) 0) := by
  unfold Pipeline.ownSems0 ringSems; rw [bigSep_univ_sum]; rfl
omit [FloatOps F] in
/-- All semaphores at zero are the rings' and the cells'. -/
theorem sems0_eq (c : Dev nD) :
    iprop(Pipeline.ownSems0 (Ix := Unit) (Name := ℕ) (U := UU) (Lvl := ℕ) (Val := Elt F) (τ := τ) osem c ∗ unscopedSems0 c)
      ⊢ iprop(ringSems c ∗ (bigSep Finset.univ fun k : CK => semVal (kcell c k) 0) : sProp 𝕄) := by
  rw [ownSems0_eq, unscopedSems0_eq, bigSep_option]
  iintro ⟨⟨HR, HS⟩, HB⟩
  isplitl [HR]; · iexact HR
  isplitl [HB] <;> iassumption
omit [FloatOps F] in
/-- The end's zeros, as the launch asks them back. -/
theorem sems0_back (c : Dev nD) :
    iprop(ringSems c ∗ Sems0 (F := F) c) ⊢ iprop(unscopedSems0 c
      ∗ Pipeline.ownSems0 (Ix := Unit) (Name := ℕ) (U := UU) (Lvl := ℕ) (Val := Elt F) (τ := τ) osem c : sProp 𝕄) := by
  rw [ownSems0_eq, unscopedSems0_eq, bigSep_univ_prod, bigSep_four]
  unfold Sems0
  rw [bigSep_devs, bigSep_devs, bigSep_devs, bigSep_devs]
  iintro ⟨HR, HB, HS, HV⟩
  ihave ⟨H0, H2⟩ := (sepL_unsep _ _ devs) $$ HS
  ihave ⟨H1, H3⟩ := (sepL_unsep _ _ devs) $$ HV
  isplitl [HB]; · iexact HB
  isplitl [HR]; · iexact HR
  isplitl [H0]; · iexact H0
  isplitl [H1]; · iexact H1
  isplitl [H2]; · iexact H2
  iexact H3

section
variable (GA : cc0_scratch7.ty.Contents (Elt F)) (GM : cc0_scratch8.ty.Contents (Elt F))

/-- What the launch element deals device `c`. -/
def G (c : Dev nD) : sProp 𝕄 :=
  iprop((bigSep Finset.univ fun k : CK => roundState ER (paRd GA GM) (kcell c k) 0)
    ∗ (bigSep Finset.univ fun k : CK => iprop(atPos ER (kcell c k) 0 ∅ 0 ∗ reached ER (kcell c k) 0))
    ∗ bigSep Finset.univ fun d : Dev nD => toks1 c d)

omit [FloatOps F] in
/-- The ghost state of the launch buys every cell and every token. -/
theorem fund_cells : BI.own (ER (initOf paCells paToks)) ⊢ (|==> bigSep Finset.univ (G GA GM) : sProp 𝕄) := by
  have hX (Φ : GSem nD τ sig → sProp 𝕄) : bigSep paCells Φ = bigSep Finset.univ fun c : Dev nD => bigSep Finset.univ fun k : CK => Φ (kcell c k) := by
    unfold paCells; rw [bigSep_map, bigSep_univ_prod]; rfl
  have hT : bigSep paToks (fun x => (dutyTok ER x.1 x.2.1 x.2.2 : sProp 𝕄)) = bigSep Finset.univ fun c : Dev nD => bigSep Finset.univ fun d : Dev nD => toks1 c d := by
    unfold paToks; rw [bigSep_map, bigSep_univ_prod]
    refine bigSep_congr fun c _ => ?_
    rw [bigSep_univ_prod]
    exact bigSep_congr fun d _ => by rw [bigSep_opt4]; rfl
  iintro HX
  imod (Rounds.fund ER (paRd GA GM) paCells paToks) $$ HX with ⟨Hst, Hr, Hat, Htok⟩
  imodintro
  ihave Hst' := (Entails.of_eq (hX fun g => roundState ER (paRd GA GM) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- One device's cells closed over its zeros. -/
theorem core_alloc (c : Dev nD) :
    iprop(Pipeline.ownSems0 (Ix := Unit) (Name := ℕ) (U := UU) (Lvl := ℕ) (Val := Elt F) (τ := τ) osem c ∗ unscopedSems0 c ∗ G GA GM c)
      ⊢ |={Set.univ}=> iprop((bigSep Finset.univ fun k => iprop(∃ κ : ℕ, cellInv ER (paRd GA GM) κ (kcell c k)))
          ∗ (bigSep Finset.univ fun k => reached ER (kcell c k) 0)
          ∗ (ringSems c ∗ bigSep Finset.univ fun k => atPos ER (kcell c k) 0 ∅ 0)
          ∗ bigSep Finset.univ fun d : Dev nD => toks1 c d) := by
  unfold G
  rw [bigSep_sep']
  iintro ⟨Hos, Hus, Hst, ⟨Hat, Hr⟩, Htok⟩
  ihave ⟨HR, Hv⟩ := (sems0_eq (F := F) c) $$ [Hos Hus]
  · isplitl [Hos] <;> iassumption
  imod (show iprop((bigSep Finset.univ fun k : CK => semVal (kcell c k) 0) ∗ bigSep Finset.univ fun k : CK => roundState ER (paRd GA GM) (kcell c k) 0)
      ⊢ (|={Set.univ}=> bigSep Finset.univ fun k => iprop(∃ κ : ℕ, cellInv ER (paRd GA GM) κ (kcell c k)) : sProp 𝕄) from by
        rw [← bigSep_sep']
        exact (bigSep_mono fun k _ => (Rounds.body_intro ER (paRd GA GM) (kcell c k)).trans inv_alloc).trans (bigSep_fupd _ _)) $$ [Hv Hst] with Hinv
  · isplitl [Hv] <;> iassumption
  imodintro
  isplitl [Hinv]; · iexact Hinv
  isplitl [Hr]; · iexact Hr
  isplitl [HR Hat]
  · isplitl [HR] <;> iassumption
  iexact Htok

/-- The shared records, the levels aside. -/
def known (K : Dev nD × CK → ℕ) : sProp 𝕄 :=
  iprop((bigSep Finset.univ fun x : Dev nD × CK => cellInv ER (paRd GA GM) (K x) (kcell x.1 x.2))
    ∗ bigSep Finset.univ fun x : Dev nD × CK => reached ER (kcell x.1 x.2) 0)
omit [FloatOps F] in
/-- What every device knows stays known. -/
instance known_persistent (K : Dev nD × CK → ℕ) : BI.Persistent (known GA GM K) := by unfold known; infer_instance

/-- A device's own share of the ghost state. -/
def linear (c : Dev nD) : sProp 𝕄 :=
  iprop((ringSems c ∗ bigSep Finset.univ fun k => atPos ER (kcell c k) 0 ∅ 0) ∗ bigSep Finset.univ fun d : Dev nD => pays1 c d)

/-- What one device takes from the launch. -/
def G' (c : Dev nD) : sProp 𝕄 := iprop(∃ K, known GA GM K ∗ linear c)

omit [FloatOps F] in
/-- Every token goes to the device that pays with it. -/
theorem toks_around : (bigSep Finset.univ fun c : Dev nD => (bigSep Finset.univ fun d : Dev nD => toks1 c d : sProp 𝕄))
    ⊢ bigSep Finset.univ fun c : Dev nD => bigSep Finset.univ fun d : Dev nD => pays1 c d := by
  unfold toks1 pays1
  simp only [bigSep_sep']
  iintro ⟨H1, H2, H3, H4, H5⟩
  isplitl [H1]; · iapply (Entails.of_eq (bigSep_univ_comm (fun c d : Dev nD => (dutyTok ER (barCell c) 0 d : sProp 𝕄)))); iexact H1
  isplitl [H2]; · iexact H2
  isplitl [H3]; · iapply (Entails.of_eq (bigSep_univ_comm (fun c d : Dev nD => (dutyTok ER (cell c 1 d) 0 d : sProp 𝕄)))); iexact H3
  isplitl [H4]; · iexact H4
  iapply (Entails.of_eq (bigSep_univ_comm (fun c d : Dev nD => (dutyTok ER (cell c 3 d) 0 d : sProp 𝕄)))); iexact H5

omit [FloatOps F] in
/-- A device's semaphores, positions and tokens, collected. -/
theorem linear_intro : iprop((bigSep Finset.univ fun c : Dev nD => iprop(ringSems c ∗ bigSep Finset.univ fun k => atPos ER (kcell c k) 0 ∅ 0))
    ∗ bigSep Finset.univ fun c : Dev nD => bigSep Finset.univ fun d : Dev nD => pays1 c d)
    ⊢ (bigSep Finset.univ linear : sProp 𝕄) := by
  refine Entails.of_eq ?_
  unfold linear
  exact (bigSep_sep' _ _ _).symm

omit [FloatOps F] in
/-- What the launch gives by kinds, given by devices. -/
theorem regroup :
    (bigSep Finset.univ fun c : Dev nD => iprop((bigSep Finset.univ fun k => iprop(∃ κ : ℕ, cellInv ER (paRd GA GM) κ (kcell c k)))
          ∗ (bigSep Finset.univ fun k => reached ER (kcell c k) 0)
          ∗ (ringSems c ∗ bigSep Finset.univ fun k => atPos ER (kcell c k) 0 ∅ 0)
          ∗ bigSep Finset.univ fun d : Dev nD => toks1 c d) : sProp 𝕄)
      ⊢ bigSep Finset.univ (G' GA GM) := by
  rw [bigSep_sep', bigSep_sep', bigSep_sep' Finset.univ (fun c : Dev nD => iprop(ringSems c ∗ bigSep Finset.univ fun k => atPos ER (kcell c k) 0 ∅ 0)),
    ← bigSep_univ_prod (fun x : Dev nD × CK => iprop(∃ κ : ℕ, cellInv ER (paRd GA GM) κ (kcell x.1 x.2))),
    ← bigSep_univ_prod (fun x : Dev nD × CK => (reached ER (kcell x.1 x.2) 0 : sProp 𝕄))]
  iintro ⟨HI, #HR, Hat, Htok⟩
  ihave HK := (BI.bigSep_exists_pi Finset.univ (fun (x : Dev nD × CK) (κ : ℕ) => (cellInv ER (paRd GA GM) κ (kcell x.1 x.2) : sProp 𝕄))) $$ HI
  icases HK with ⟨%K, #HI⟩
  ihave Htk := (toks_around (F := F)) $$ Htok
  iapply (bigSep_with_persistent (R := known GA GM K) (Φ := linear) fun c _ => by
    unfold G'; iintro ⟨H1, H2⟩; iexists K; isplitl [H1] <;> iassumption)
  isplitr
  · unfold known; isplitl; · iexact HI
    iexact HR
  · iapply (linear_intro (F := F))
    isplitl [Hat]; · iexact Hat
    iexact Htk

omit [FloatOps F] in
/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G GA GM c) : sProp 𝕄)
    ⊢ |={Set.univ}=> bigSep Finset.univ (G' GA GM) :=
  ((bigSep_mono fun c _ => core_alloc GA GM c).trans (bigSep_fupd _ _)).trans (BI.fupd_mono (regroup GA GM))

end

/-! ## The launch credit -/

/-- The signals a device owes, summed over the devices. -/
theorem sigs_devs (c : Dev nD) : sigs c devs = ∑ t, sigDue c t := by
  unfold sigs devs; rw [Fin.sum_univ_eight]; simp only [List.map_cons, List.map_nil, List.sum_cons, List.sum_nil, add_zero, add_assoc]
/-- The copies a device owes, summed over the devices. -/
theorem sends_devs (c : Dev nD) : sends c devs = ∑ t, sendDue c t := by
  unfold sends devs; rw [Fin.sum_univ_eight]; simp only [List.map_cons, List.map_nil, List.sum_cons, List.sum_nil, add_zero, add_assoc]

/-- Two cells are one only for one device and one kind. -/
theorem kcell_eq_iff {c c' : Dev nD} {k k' : CK} : Iff (kcell c k = kcell c' k') (c = c' ∧ k = k') :=
  ⟨fun h => by have := @kc_injective (c, k) (c', k') h; exact ⟨congrArg Prod.fst this, congrArg Prod.snd this⟩, fun ⟨h, h'⟩ => by rw [h, h']⟩

/-- What a device owes a cell. -/
theorem owed_at (d c : Dev nD) (k : CK) : O₀ d (kcell c k) () =
    (∑ t, sendDue d t (kcell c k) ()) + ∑ t, sigDue d t (kcell c k) () := by
  unfold O₀
  rw [sends_devs, sigs_devs, Pi.add_apply, Finsupp.add_apply, Finset.sum_apply, Finset.sum_apply, Finsupp.finset_sum_apply, Finsupp.finset_sum_apply]

/-- The signal a device owes goes to another device's barrier. -/
theorem sigDue_at (d t c : Dev nD) (k : CK) : sigDue d t (kcell c k) () = if k = none ∧ t = c ∧ d ≠ c then 1 else 0 := by
  unfold sigDue
  split
  · rename_i h; subst h; rw [if_neg (fun h => h.2.2 h.2.1)]; rfl
  · rename_i h
    rw [tallyAt_apply]
    refine if_congr ?_ rfl rfl
    rw [kcell_eq_iff]
    constructor
    · rintro ⟨⟨rfl, rfl⟩, -⟩; exact ⟨rfl, rfl, h⟩
    · rintro ⟨rfl, rfl, -⟩; exact ⟨⟨rfl, rfl⟩, rfl⟩

/-- The copy a device owes goes to its own place on another device. -/
theorem sendDue_at (d t c : Dev nD) (k : CK) : sendDue d t (kcell c k) () =
    (if k = some (3, d) ∧ t = c ∧ d ≠ c then NM else 0) + if k = some (1, d) ∧ t = c ∧ d ≠ c then NA else 0 := by
  unfold sendDue
  split
  · rename_i h; subst h; rw [if_neg (fun h => h.2.2 h.2.1), if_neg (fun h => h.2.2 h.2.1)]; rfl
  · rename_i h
    rw [Pi.add_apply, Finsupp.add_apply, tallyAt_apply, tallyAt_apply]
    congr 1 <;>
    · refine if_congr ?_ rfl rfl
      rw [kcell_eq_iff]
      constructor
      · rintro ⟨⟨rfl, rfl⟩, -⟩; exact ⟨rfl, rfl, h⟩
      · rintro ⟨rfl, rfl, -⟩; exact ⟨⟨rfl, rfl⟩, rfl⟩

/-- A cell that no copy of the device signals is owed nothing. -/
theorem sendDue_none (d t c : Dev nD) (k : CK) (h3 : ¬(k = some (3, d) ∧ t = c ∧ d ≠ c)) (h1 : ¬(k = some (1, d) ∧ t = c ∧ d ≠ c)) :
    sendDue d t (kcell c k) () = 0 := by rw [sendDue_at, if_neg h3, if_neg h1]

/-- All the devices' dues at the barrier. -/
theorem due_bar (c : Dev nD) : ∑ d, O₀ d (barCell c) () = 7 := by
  have h : ∀ d, O₀ d (barCell c) () = if d ≠ c then 1 else 0 := fun d => by
    rw [owed_at, Finset.sum_eq_zero fun t _ => by exact sendDue_none _ _ _ _ (fun h => by cases h.1) (fun h => by cases h.1), zero_add,
      Finset.sum_congr rfl fun t _ => sigDue_at d t c none]
    by_cases hd : d = c
    · rw [if_neg (fun h => h hd)]; exact Finset.sum_eq_zero fun t _ => if_neg fun h => h.2.2 hd
    · rw [if_pos hd, Finset.sum_eq_single c (fun t _ ht => if_neg fun h => ht h.2.1) (fun h => absurd (Finset.mem_univ _) h), if_pos ⟨rfl, rfl, hd⟩]
  rw [Finset.sum_congr rfl fun d _ => h d]
  clear h; revert c; decide

/-- A receive cell is owed one copy in all. -/
theorem due_cell (c s : Dev nD) (h : c ≠ s) (j : Fin 4) (hj : j = 1 ∨ j = 3) : ∑ d, O₀ d (cell c j s) () = NJ j := by
  rw [Finset.sum_eq_single s (fun d _ hd => by
    rw [owed_at, Finset.sum_eq_zero fun t _ => by
        exact sendDue_none _ _ _ _ (fun h => hd (by have := h.1; simp at this; exact this.2.symm)) (fun h => hd (by have := h.1; simp at this; exact this.2.symm)),
      Finset.sum_eq_zero fun t _ => by rw [sigDue_at, if_neg (fun h => by cases h.1)], add_zero]) (fun h => absurd (Finset.mem_univ _) h),
    owed_at, Finset.sum_eq_zero (f := fun t => sigDue s t (cell c j s) ()) fun t _ => by rw [sigDue_at, if_neg (fun h => by cases h.1)], add_zero,
    Finset.sum_eq_single c (fun t _ ht => by exact sendDue_none _ _ _ _ (fun h => ht h.2.1) (fun h => ht h.2.1)) (fun h => absurd (Finset.mem_univ _) h),
    sendDue_at]
  rcases hj with rfl | rfl
  · rw [if_neg (fun h => by have := h.1; simp at this), if_pos ⟨rfl, rfl, h.symm⟩, zero_add]; rfl
  · rw [if_pos ⟨rfl, rfl, h.symm⟩, if_neg (fun h => by have := h.1; simp at this), add_zero]; rfl

/-- The launch's credit of a cell. -/
theorem launch_at (c : Dev nD) (k : CK) (n : ℕ) (h : ∑ d, O₀ d (kcell c k) () = n) :
    tallyOn (kcell c k) (launchCredit (Pipeline.owing O₀) 0 (kcell c k)) = (tallyAt (kcell c k) () n : CellTallies nD τ sig Unit) := by
  unfold tallyAt; refine congrArg _ (Finsupp.ext fun u => ?_); cases u
  rw [Pipeline.launchCredit_owing, Finsupp.single_eq_same, h]

/-- The launch credit of one cell. -/
def credAt (c : Dev nD) (sm : SemLoc sig) : sProp 𝕄 := cred (tallyOn ((c : Thread nD τ), sm) (launchCredit (Pipeline.owing O₀) 0 ((c : Thread nD τ), sm)))

omit [FloatOps F] in
/-- The credit of a cell, as an amount. -/
theorem credAt_eq (c : Dev nD) (k : CK) (n : ℕ) (h : ∑ d, O₀ d (kcell c k) () = n) :
    (credAt c (csem k) : sProp 𝕄) = cred (tallyAt (kcell c k) () n) := congrArg (fun x => (cred x : sProp 𝕄)) (launch_at c k n h)

omit [FloatOps F] in
/-- The credits of a device, cell by cell. -/
theorem creds_at (c : Dev nD) : (bigSep Finset.univ (credAt (F := F) c)) ⊢ iprop(credAt c (csem none) ∗ (sepL devs fun s => credAt c (csem (some (0, s))))
    ∗ (sepL devs fun s => credAt c (csem (some (1, s)))) ∗ (sepL devs fun s => credAt c (csem (some (2, s)))) ∗ sepL devs fun s => credAt (F := F) c (csem (some (3, s)))) := by
  have h := bigSep_subset (Φ := credAt (F := F) c) (Finset.subset_univ (Finset.univ.map ⟨csem, csem_injective⟩))
  rw [bigSep_map, bigSep_option, bigSep_univ_prod, bigSep_four, bigSep_devs, bigSep_devs, bigSep_devs, bigSep_devs] at h
  exact h

omit [FloatOps F] in
/-- The credits of a device: seven for its barrier and one copy for each receive cell. -/
theorem creds (c : Dev nD) :
    (Pipeline.launchCred O₀ c : sProp 𝕄) ⊢ iprop(cred (tallyAt (barCell c) () 7)
      ∗ sepL devs fun s => other c s iprop(cred (tallyAt (cell c 1 s) () NA) ∗ cred (tallyAt (cell c 3 s) () NM))) := by
  show bigSep Finset.univ (credAt (F := F) c) ⊢ _
  iintro H
  ihave H := (creds_at (F := F) c) $$ H
  icases H with ⟨HB, -, H1, -, H3⟩
  isplitl [HB]
  · iapply (Entails.of_eq (credAt_eq (F := F) c none 7 (due_bar c))); iexact HB
  ihave H := (sepL_sep _ _ devs) $$ [H1 H3]
  · isplitl [H1] <;> iassumption
  iapply (sepL_mono (P := fun s => iprop(credAt c (csem (some (1, s))) ∗ credAt (F := F) c (csem (some (3, s)))))
    (Q := fun s => other c s iprop(cred (tallyAt (cell c 1 s) () NA) ∗ cred (tallyAt (cell c 3 s) () NM))) (fun s => by
    unfold other
    by_cases h : c = s
    · rw [if_pos h]; iintro -; iempintro
    · rw [if_neg h]
      iintro ⟨H1, H3⟩
      isplitl [H1]
      · iapply (Entails.of_eq (credAt_eq (F := F) c (some (1, s)) NA (due_cell c s h 1 (.inl rfl)))); iexact H1
      · iapply (Entails.of_eq (credAt_eq (F := F) c (some (3, s)) NM (due_cell c s h 3 (.inr rfl)))); iexact H3) devs)
  iexact H

end Cert.Pa

end
-- ==== Proof.Pa.Split.lean ====
/- The scratch buffers and arrays dealt to the two rings, and taken back: three slots of a ring's buffer, three
   shares of its array, three semaphores. -/
module

public import proofs.«01_k».proof.Proof.Pa.Deal

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- Facts over three, written out. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- A slot's number is below three. -/
theorem three_lt (s : Fin 3) : s.val < 3 := s.isLt

/-- The rings' semaphores, written out. -/
theorem ringSems_eq (c : Dev nD) : (ringSems c : sProp 𝕄) =
    iprop((semVal ((c : Thread nD τ), .dma (semR cc0_scratch9 0 (by decide))) 0 ∗ semVal ((c : Thread nD τ), .dma (semR cc0_scratch9 1 (by decide))) 0
        ∗ semVal ((c : Thread nD τ), .dma (semR cc0_scratch9 2 (by decide))) 0)
      ∗ (semVal ((c : Thread nD τ), .dma (semR cc0_scratch10 0 (by decide))) 0 ∗ semVal ((c : Thread nD τ), .dma (semR cc0_scratch10 1 (by decide))) 0
        ∗ semVal ((c : Thread nD τ), .dma (semR cc0_scratch10 2 (by decide))) 0)) := by
  unfold ringSems
  rw [bigSep_univ_prod, bigSep_fin_two, bigSep_three, bigSep_three]; rfl

section
variable (c : Dev nD)

/-! ## The ring of keys -/

/-- The elements of a key slot. -/
theorem slotset_k (s : ℕ) (h : s < 3) : (slotR kM s h).view.set = (Rect.unit (s := S3x64x16x8x128) ![s, 0, 0, 0, 0] S1x64x16x8x128.size (slot_inb s h)).set :=
  (View.set_reshape _ _).trans (View.set_slice_whole _ _)

/-- Every element of the key ring lies in its slot. -/
theorem slot_cover_k (i : S3x64x16x8x128.Idx) : i ∈ (slotR kM (i 0).val (i 0).isLt).view.set := by
  rw [slotset_k]
  refine Rect.mem_set_unit.mpr fun a => ?_
  fin_cases a
  · exact ⟨le_refl _, Nat.lt_succ_self _⟩
  all_goals exact ⟨Nat.zero_le _, lt_of_lt_of_eq (Fin.isLt _) (Nat.zero_add _).symm⟩

/-- The key ring is its three slots. -/
theorem slot_union_k : (Finset.univ : Finset (Idx ((c : Thread nD τ).loc cc0_scratch5))) = Finset.univ.biUnion fun s : Fin 3 => (slotR kM s.val s.isLt).view.set := by
  refine (Finset.eq_univ_iff_forall.mpr fun i => ?_).symm
  refine Finset.mem_biUnion.mpr ⟨(⟨((i : S3x64x16x8x128.Idx) 0).val, ((i : S3x64x16x8x128.Idx) 0).isLt⟩ : Fin 3), Finset.mem_univ _, ?_⟩
  exact slot_cover_k i
/-- The key slots are apart. -/
theorem slot_disj_k : ∀ t ∈ (Finset.univ : Finset (Fin 3)), ∀ t' ∈ (Finset.univ : Finset (Fin 3)), t ≠ t' →
    Disjoint (slotR kM t.val t.isLt).view.set (slotR kM t'.val t'.isLt).view.set := by
  intro t _ t' _ hne
  rw [slotset_k, slotset_k]
  refine Rect.unit_disjoint 0 ?_
  have : t.val ≠ t'.val := fun e => hne (Fin.ext e)
  show t.val + 1 ≤ t'.val ∨ t'.val + 1 ≤ t.val; omega

/-- Slot `s`'s elements. -/
def slotPts_k (s : Fin 3) (f : Buf (Elt F) ((c : Thread nD τ).loc cc0_scratch5)) : sProp 𝕄 :=
  ((slotR kM s.val s.isLt).view.loc (c : Thread nD τ) ↦[(slotR kM s.val s.isLt).view.set]{fullShare} f)

/-- The key ring parted into slots. -/
theorem slots_k (f : Buf (Elt F) ((c : Thread nD τ).loc cc0_scratch5)) : (scr c cc0_scratch5 f : sProp 𝕄) = iprop(slotPts_k c 0 f ∗ slotPts_k c 1 f ∗ slotPts_k c 2 f) := by
  show (((c : Thread nD τ).loc cc0_scratch5) ↦[Finset.univ]{fullShare} f : sProp 𝕄) = _
  rw [slot_union_k c, pointsTo_biUnion Finset.univ _ slot_disj_k, bigSep_three]; rfl

/-- The key slots put together. -/
theorem slots_join_k (f : Fin 3 → Buf (Elt F) ((c : Thread nD τ).loc cc0_scratch5)) :
    iprop(slotPts_k c 0 (f 0) ∗ slotPts_k c 1 (f 1) ∗ slotPts_k c 2 (f 2)) ⊢ (iprop(∃ g, scr c cc0_scratch5 g) : sProp 𝕄) := by
  rw [← bigSep_three (fun s => slotPts_k c s (f s))]
  have h := pointsTo_biUnion_join (q := fullShare) (Finset.univ : Finset (Fin 3)) (fun s => (slotR kM s.val s.isLt).view.set) f (f 0) (slot_disj_k)
    (Ix := Unit) (Name := ℕ) (U := UU) (Lvl := ℕ) (ℓ := (c : Thread nD τ).loc cc0_scratch5)
  rw [← slot_union_k c] at h
  change bigSep Finset.univ (fun s => slotPts_k c s (f s)) ⊢ _ at h
  iintro H
  ihave H := h $$ H
  icases H with ⟨%g, -, H⟩
  iexists g; iexact H

/-- A key slot holds something. -/
theorem slot_has_k (s : Fin 3) (f : Buf (Elt F) ((c : Thread nD τ).loc cc0_scratch5)) : slotPts_k c s f ⊢ (iprop(∃ X, slotHas kM c s.val s.isLt X) : sProp 𝕄) := by
  unfold slotHas slotPts_k
  iintro H
  iexists _; iexists f
  isplitr; · ipureintro; rfl
  iexact H
/-- A key slot that holds something is its elements. -/
theorem slot_hasE_k (s : Fin 3) : iprop(∃ X, slotHas kM c s.val s.isLt X) ⊢ (iprop(∃ f, slotPts_k c s f) : sProp 𝕄) := by
  unfold slotHas slotPts_k
  iintro ⟨%X, %g, -, H⟩
  iexists g; iexact H

/-- What the ring leaves of the array's share. -/
def drop_k (h : Buf (Elt F) (kH.view.loc (c : Thread nD τ))) : sProp 𝕄 := (((c : Thread nD τ).loc main_arg1) ↦{Transfers.shareDrop fullShare 3} h)

/-- The key pages, parted into a share for each slot and a rest. -/
theorem array_k (h : Buf (Elt F) (kH.view.loc (c : Thread nD τ))) :
    (scr c main_arg1 h : sProp 𝕄) ⊢ iprop(drop_k c h ∗ hTok kH c h 0 (by decide) ∗ hTok kH c h 1 (by decide) ∗ hTok kH c h 2 (by decide)) := by
  have e := Transfers.pointsTo_toks_split (ℓ := (c : Thread nD τ).loc main_arg1) (S := Finset.univ) (f := h) (Ix := Unit) (Name := ℕ) (U := UU) (Lvl := ℕ) (Val := Elt F) fullShare 3
  rw [bigSep_three] at e
  exact e
/-- The shares of the key pages put together. -/
theorem array_back_k (h : Buf (Elt F) (kH.view.loc (c : Thread nD τ))) :
    iprop(drop_k c h ∗ hTok kH c h 0 (by decide) ∗ hTok kH c h 1 (by decide) ∗ hTok kH c h 2 (by decide)) ⊢ (scr c main_arg1 h : sProp 𝕄) := by
  have e := Transfers.pointsTo_toks_join (ℓ := (c : Thread nD τ).loc main_arg1) (S := Finset.univ) (f := h) (Ix := Unit) (Name := ℕ) (U := UU) (Lvl := ℕ) (Val := Elt F) fullShare 3
  rw [bigSep_three] at e
  exact e

/-- The ring's three semaphores at zero. -/
abbrev zeros_k : sProp 𝕄 := iprop(semVal ((c : Thread nD τ), .dma (semR cc0_scratch9 0 (by decide))) 0 ∗ semVal ((c : Thread nD τ), .dma (semR cc0_scratch9 1 (by decide))) 0
        ∗ semVal ((c : Thread nD τ), .dma (semR cc0_scratch9 2 (by decide))) 0)

/-- The key ring at the start: three free slots. -/
theorem free_k (h : Buf (Elt F) (kH.view.loc (c : Thread nD τ))) :
    iprop((∃ f, scr c cc0_scratch5 f) ∗ scr c main_arg1 h ∗ zeros_k (F := F) c)
      ⊢ (iprop(drop_k c h ∗ FreeK c h 0 (by decide) ∗ FreeK c h 1 (by decide) ∗ FreeK c h 2 (by decide)) : sProp 𝕄) := by
  unfold FreeK FreeS
  iintro ⟨⟨%f, Hf⟩, Ha, H0, H1, H2⟩
  ihave ⟨F0, F1, F2⟩ := (Entails.of_eq (slots_k c f)) $$ Hf
  ihave ⟨Hd, A0, A1, A2⟩ := (array_k c h) $$ Ha
  isplitl [Hd]; · iexact Hd
  isplitl [H0 F0 A0]
  · isplitl [H0]; · iexact H0
    isplitl [F0]; · iapply (slot_has_k c 0 f); iexact F0
    iexact A0
  isplitl [H1 F1 A1]
  · isplitl [H1]; · iexact H1
    isplitl [F1]; · iapply (slot_has_k c 1 f); iexact F1
    iexact A1
  isplitl [H2]; · iexact H2
  isplitl [F2]; · iapply (slot_has_k c 2 f); iexact F2
  iexact A2

/-- The key ring at the end, given back. -/
theorem unfree_k (h : Buf (Elt F) (kH.view.loc (c : Thread nD τ))) :
    iprop(drop_k c h ∗ RingK c h 8) ⊢ (iprop((∃ f, scr c cc0_scratch5 f) ∗ scr c main_arg1 h ∗ zeros_k (F := F) c) : sProp 𝕄) := by
  unfold RingK RingSt blkSt
  rw [dif_neg (by decide), dif_neg (by decide)]
  show iprop(drop_k c h ∗ FreeK c h 2 (by decide) ∗ FreeK c h 0 (by decide) ∗ FreeK c h 1 (by decide)) ⊢ _
  unfold FreeK FreeS
  iintro ⟨Hd, ⟨H2, F2, A2⟩, ⟨H0, F0, A0⟩, ⟨H1, F1, A1⟩⟩
  ihave F0 := (show iprop(∃ X, slotHas kM c 0 _ X) ⊢ _ from slot_hasE_k c 0) $$ F0
  ihave F1 := (show iprop(∃ X, slotHas kM c 1 _ X) ⊢ _ from slot_hasE_k c 1) $$ F1
  ihave F2 := (show iprop(∃ X, slotHas kM c 2 _ X) ⊢ _ from slot_hasE_k c 2) $$ F2
  icases F0 with ⟨%f0, F0⟩
  icases F1 with ⟨%f1, F1⟩
  icases F2 with ⟨%f2, F2⟩
  isplitl [F0 F1 F2]
  · iapply (slots_join_k c (fun | 0 => f0 | 1 => f1 | 2 => f2))
    isplitl [F0]; · iexact F0
    isplitl [F1]; · iexact F1
    iexact F2
  isplitl [Hd A0 A1 A2]
  · iapply (array_back_k c h)
    isplitl [Hd]; · iexact Hd
    isplitl [A0]; · iexact A0
    isplitl [A1]; · iexact A1
    iexact A2
  isplitl [H0]; · iexact H0
  isplitl [H1]; · iexact H1
  iexact H2

/-! ## The ring of values -/

/-- The elements of a value slot. -/
theorem slotset_v (s : ℕ) (h : s < 3) : (slotR vM s h).view.set = (Rect.unit (s := S3x64x16x8x128) ![s, 0, 0, 0, 0] S1x64x16x8x128.size (slot_inb s h)).set :=
  (View.set_reshape _ _).trans (View.set_slice_whole _ _)

/-- Every element of the value ring lies in its slot. -/
theorem slot_cover_v (i : S3x64x16x8x128.Idx) : i ∈ (slotR vM (i 0).val (i 0).isLt).view.set := by
  rw [slotset_v]
  refine Rect.mem_set_unit.mpr fun a => ?_
  fin_cases a
  · exact ⟨le_refl _, Nat.lt_succ_self _⟩
  all_goals exact ⟨Nat.zero_le _, lt_of_lt_of_eq (Fin.isLt _) (Nat.zero_add _).symm⟩

/-- The value ring is its three slots. -/
theorem slot_union_v : (Finset.univ : Finset (Idx ((c : Thread nD τ).loc cc0_scratch6))) = Finset.univ.biUnion fun s : Fin 3 => (slotR vM s.val s.isLt).view.set := by
  refine (Finset.eq_univ_iff_forall.mpr fun i => ?_).symm
  refine Finset.mem_biUnion.mpr ⟨(⟨((i : S3x64x16x8x128.Idx) 0).val, ((i : S3x64x16x8x128.Idx) 0).isLt⟩ : Fin 3), Finset.mem_univ _, ?_⟩
  exact slot_cover_v i
/-- The value slots are apart. -/
theorem slot_disj_v : ∀ t ∈ (Finset.univ : Finset (Fin 3)), ∀ t' ∈ (Finset.univ : Finset (Fin 3)), t ≠ t' →
    Disjoint (slotR vM t.val t.isLt).view.set (slotR vM t'.val t'.isLt).view.set := by
  intro t _ t' _ hne
  rw [slotset_v, slotset_v]
  refine Rect.unit_disjoint 0 ?_
  have : t.val ≠ t'.val := fun e => hne (Fin.ext e)
  show t.val + 1 ≤ t'.val ∨ t'.val + 1 ≤ t.val; omega

/-- Slot `s`'s elements. -/
def slotPts_v (s : Fin 3) (f : Buf (Elt F) ((c : Thread nD τ).loc cc0_scratch6)) : sProp 𝕄 :=
  ((slotR vM s.val s.isLt).view.loc (c : Thread nD τ) ↦[(slotR vM s.val s.isLt).view.set]{fullShare} f)

/-- The value ring parted into slots. -/
theorem slots_v (f : Buf (Elt F) ((c : Thread nD τ).loc cc0_scratch6)) : (scr c cc0_scratch6 f : sProp 𝕄) = iprop(slotPts_v c 0 f ∗ slotPts_v c 1 f ∗ slotPts_v c 2 f) := by
  show (((c : Thread nD τ).loc cc0_scratch6) ↦[Finset.univ]{fullShare} f : sProp 𝕄) = _
  rw [slot_union_v c, pointsTo_biUnion Finset.univ _ slot_disj_v, bigSep_three]; rfl

/-- The value slots put together. -/
theorem slots_join_v (f : Fin 3 → Buf (Elt F) ((c : Thread nD τ).loc cc0_scratch6)) :
    iprop(slotPts_v c 0 (f 0) ∗ slotPts_v c 1 (f 1) ∗ slotPts_v c 2 (f 2)) ⊢ (iprop(∃ g, scr c cc0_scratch6 g) : sProp 𝕄) := by
  rw [← bigSep_three (fun s => slotPts_v c s (f s))]
  have h := pointsTo_biUnion_join (q := fullShare) (Finset.univ : Finset (Fin 3)) (fun s => (slotR vM s.val s.isLt).view.set) f (f 0) (slot_disj_v)
    (Ix := Unit) (Name := ℕ) (U := UU) (Lvl := ℕ) (ℓ := (c : Thread nD τ).loc cc0_scratch6)
  rw [← slot_union_v c] at h
  change bigSep Finset.univ (fun s => slotPts_v c s (f s)) ⊢ _ at h
  iintro H
  ihave H := h $$ H
  icases H with ⟨%g, -, H⟩
  iexists g; iexact H

/-- A value slot holds something. -/
theorem slot_has_v (s : Fin 3) (f : Buf (Elt F) ((c : Thread nD τ).loc cc0_scratch6)) : slotPts_v c s f ⊢ (iprop(∃ X, slotHas vM c s.val s.isLt X) : sProp 𝕄) := by
  unfold slotHas slotPts_v
  iintro H
  iexists _; iexists f
  isplitr; · ipureintro; rfl
  iexact H
/-- A value slot that holds something is its elements. -/
theorem slot_hasE_v (s : Fin 3) : iprop(∃ X, slotHas vM c s.val s.isLt X) ⊢ (iprop(∃ f, slotPts_v c s f) : sProp 𝕄) := by
  unfold slotHas slotPts_v
  iintro ⟨%X, %g, -, H⟩
  iexists g; iexact H

/-- What the ring leaves of the array's share. -/
def drop_v (h : Buf (Elt F) (vH.view.loc (c : Thread nD τ))) : sProp 𝕄 := (((c : Thread nD τ).loc main_arg2) ↦{Transfers.shareDrop fullShare 3} h)

/-- The value pages, parted into a share for each slot and a rest. -/
theorem array_v (h : Buf (Elt F) (vH.view.loc (c : Thread nD τ))) :
    (scr c main_arg2 h : sProp 𝕄) ⊢ iprop(drop_v c h ∗ hTok vH c h 0 (by decide) ∗ hTok vH c h 1 (by decide) ∗ hTok vH c h 2 (by decide)) := by
  have e := Transfers.pointsTo_toks_split (ℓ := (c : Thread nD τ).loc main_arg2) (S := Finset.univ) (f := h) (Ix := Unit) (Name := ℕ) (U := UU) (Lvl := ℕ) (Val := Elt F) fullShare 3
  rw [bigSep_three] at e
  exact e
/-- The shares of the value pages put together. -/
theorem array_back_v (h : Buf (Elt F) (vH.view.loc (c : Thread nD τ))) :
    iprop(drop_v c h ∗ hTok vH c h 0 (by decide) ∗ hTok vH c h 1 (by decide) ∗ hTok vH c h 2 (by decide)) ⊢ (scr c main_arg2 h : sProp 𝕄) := by
  have e := Transfers.pointsTo_toks_join (ℓ := (c : Thread nD τ).loc main_arg2) (S := Finset.univ) (f := h) (Ix := Unit) (Name := ℕ) (U := UU) (Lvl := ℕ) (Val := Elt F) fullShare 3
  rw [bigSep_three] at e
  exact e

/-- The ring's three semaphores at zero. -/
abbrev zeros_v : sProp 𝕄 := iprop(semVal ((c : Thread nD τ), .dma (semR cc0_scratch10 0 (by decide))) 0 ∗ semVal ((c : Thread nD τ), .dma (semR cc0_scratch10 1 (by decide))) 0
        ∗ semVal ((c : Thread nD τ), .dma (semR cc0_scratch10 2 (by decide))) 0)

/-- The value ring at the start: three free slots. -/
theorem free_v (h : Buf (Elt F) (vH.view.loc (c : Thread nD τ))) :
    iprop((∃ f, scr c cc0_scratch6 f) ∗ scr c main_arg2 h ∗ zeros_v (F := F) c)
      ⊢ (iprop(drop_v c h ∗ FreeV c h 0 (by decide) ∗ FreeV c h 1 (by decide) ∗ FreeV c h 2 (by decide)) : sProp 𝕄) := by
  unfold FreeV FreeS
  iintro ⟨⟨%f, Hf⟩, Ha, H0, H1, H2⟩
  ihave ⟨F0, F1, F2⟩ := (Entails.of_eq (slots_v c f)) $$ Hf
  ihave ⟨Hd, A0, A1, A2⟩ := (array_v c h) $$ Ha
  isplitl [Hd]; · iexact Hd
  isplitl [H0 F0 A0]
  · isplitl [H0]; · iexact H0
    isplitl [F0]; · iapply (slot_has_v c 0 f); iexact F0
    iexact A0
  isplitl [H1 F1 A1]
  · isplitl [H1]; · iexact H1
    isplitl [F1]; · iapply (slot_has_v c 1 f); iexact F1
    iexact A1
  isplitl [H2]; · iexact H2
  isplitl [F2]; · iapply (slot_has_v c 2 f); iexact F2
  iexact A2

/-- The value ring at the end, given back. -/
theorem unfree_v (h : Buf (Elt F) (vH.view.loc (c : Thread nD τ))) :
    iprop(drop_v c h ∗ RingV c h 8) ⊢ (iprop((∃ f, scr c cc0_scratch6 f) ∗ scr c main_arg2 h ∗ zeros_v (F := F) c) : sProp 𝕄) := by
  unfold RingV RingSt blkSt
  rw [dif_neg (by decide), dif_neg (by decide)]
  show iprop(drop_v c h ∗ FreeV c h 2 (by decide) ∗ FreeV c h 0 (by decide) ∗ FreeV c h 1 (by decide)) ⊢ _
  unfold FreeV FreeS
  iintro ⟨Hd, ⟨H2, F2, A2⟩, ⟨H0, F0, A0⟩, ⟨H1, F1, A1⟩⟩
  ihave F0 := (show iprop(∃ X, slotHas vM c 0 _ X) ⊢ _ from slot_hasE_v c 0) $$ F0
  ihave F1 := (show iprop(∃ X, slotHas vM c 1 _ X) ⊢ _ from slot_hasE_v c 1) $$ F1
  ihave F2 := (show iprop(∃ X, slotHas vM c 2 _ X) ⊢ _ from slot_hasE_v c 2) $$ F2
  icases F0 with ⟨%f0, F0⟩
  icases F1 with ⟨%f1, F1⟩
  icases F2 with ⟨%f2, F2⟩
  isplitl [F0 F1 F2]
  · iapply (slots_join_v c (fun | 0 => f0 | 1 => f1 | 2 => f2))
    isplitl [F0]; · iexact F0
    isplitl [F1]; · iexact F1
    iexact F2
  isplitl [Hd A0 A1 A2]
  · iapply (array_back_v c h)
    isplitl [Hd]; · iexact Hd
    isplitl [A0]; · iexact A0
    isplitl [A1]; · iexact A1
    iexact A2
  isplitl [H0]; · iexact H0
  isplitl [H1]; · iexact H1
  iexact H2

end

end Cert.Pa

end
-- ==== Proof.Pa.Enter.lean ====
/- What a device holds when it enters the kernel, arranged as the first point's body takes it; what the last point's
   body leaves, arranged as the launch takes it back. -/
module

public import proofs.«01_k».proof.Proof.Pa.Split

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (c : Dev nD)

omit [FloatOps F] in
/-- One device's part, and the others'. -/
theorem split_others (P : Dev nD → sProp 𝕄) : sepL devs P ⊢ iprop(P c ∗ sepL devs fun t => other c t (P t)) := by
  rw [← bigSep_devs, ← bigSep_devs, bigSep_erase (Finset.mem_univ c), bigSep_erase (Φ := fun t => other c t (P t)) (Finset.mem_univ c), other, if_pos rfl,
    bigSep_congr fun d hd => show other c d (P d) = P d from if_neg (Finset.ne_of_mem_erase hd).symm]
  exact BI.sep_mono (BI.Entails.refl _) (BIClass.emp_sep (PROP := sProp 𝕄)).2

/-- The positions of a device, dealt to the barrier and to the peers. -/
theorem at_deal : (bigSep Finset.univ fun k : CK => atPos ER (kcell c k) 0 ∅ 0 : sProp 𝕄)
    ⊢ iprop(atPos ER (barCell c) 0 ∅ 0 ∗ (sepL devs fun s => iprop(atPos ER (cell c 1 s) 0 ∅ 0 ∗ atPos ER (cell c 3 s) 0 ∅ 0)) ∗ sepL devs (sentPos (F := F) c)) := by
  rw [bigSep_option, bigSep_univ_prod, bigSep_four, bigSep_devs, bigSep_devs, bigSep_devs, bigSep_devs]
  iintro ⟨HB, H0, H1, H2, H3⟩
  isplitl [HB]; · iexact HB
  isplitl [H1 H3]
  · iapply (sepL_sep _ _ devs); isplitl [H1] <;> iassumption
  iapply (sepL_mono (P := fun t => iprop(atPos ER (cell c 0 t) 0 ∅ 0 ∗ atPos ER (cell c 2 t) 0 ∅ 0)) (Q := sentPos (F := F) c) (fun t => by
    unfold sentPos; iintro H; iexact H) devs)
  iapply (sepL_sep _ _ devs); isplitl [H0] <;> iassumption

/-- The tokens of a device, dealt to the peers. -/
theorem pay_deal : (bigSep Finset.univ fun d : Dev nD => pays1 c d : sProp 𝕄)
    ⊢ iprop((sepL devs fun t => other c t (dutyTok ER (barCell t) 0 c)) ∗ sepL devs (toksTo (F := F) c)) := by
  rw [bigSep_devs]
  iintro H
  iapply (sepL_unsep _ _ devs)
  iapply (sepL_mono (P := fun t => pays1 (F := F) c t) (fun t => by
    unfold pays1 toksTo other
    by_cases h : c = t
    · rw [if_pos h, if_pos h]; iintro -; isplitl <;> iempintro
    · rw [if_neg h, if_neg h]
      iintro ⟨H1, H2, H3, H4, H5⟩
      isplitl [H1]; · iexact H1
      isplitl [H2]; · iexact H2
      isplitl [H4]; · iexact H4
      isplitl [H3]; · iexact H3
      iexact H5) devs)
  iexact H

/-- The two tables: the own rows kept, the other rows lent to their writers. -/
theorem row_deal : iprop((∃ f, scr c cc0_scratch7 f) ∗ ∃ f, scr c cc0_scratch8 f)
    ⊢ (iprop((∃ f, accPts c c fullShare f) ∗ (∃ f, mlPts c c fullShare f) ∗ sepL devs fun t => other c t (barPay (F := F) t c)) : sProp 𝕄) := by
  iintro ⟨⟨%f, Hf⟩, ⟨%g, Hg⟩⟩
  ihave Hf := (Entails.of_eq ((rows_a c f).trans (bigSep_devs _))) $$ Hf
  ihave Hg := (Entails.of_eq ((rows_m c g).trans (bigSep_devs _))) $$ Hg
  ihave ⟨Hf, Ho⟩ := (split_others c (fun s => accPts c s fullShare f)) $$ Hf
  ihave ⟨Hg, Hp⟩ := (split_others c (fun s => mlPts c s fullShare g)) $$ Hg
  isplitl [Hf]; · iexists f; iexact Hf
  isplitl [Hg]; · iexists g; iexact Hg
  iapply (sepL_mono (P := fun t => iprop(other c t (accPts c t fullShare f) ∗ other c t (mlPts c t fullShare g)))
    (Q := fun t => other c t (barPay (F := F) t c)) (fun t => by
    unfold other barPay
    by_cases h : c = t
    · rw [if_pos h, if_pos h, if_pos h]; iintro -; iempintro
    · rw [if_neg h, if_neg h, if_neg h]
      iintro ⟨H1, H2⟩
      isplitl [H1]; · iexists f; iexact H1
      iexists g; iexact H2) devs)
  iapply (sepL_sep _ _ devs); isplitl [Ho] <;> iassumption

end

section
variable (GA : cc0_scratch7.ty.Contents (Elt F)) (GM : cc0_scratch8.ty.Contents (Elt F)) (c : Dev nD)
variable (hk : Buf (Elt F) (kH.view.loc (c : Thread nD τ))) (hv : Buf (Elt F) (vH.view.loc (c : Thread nD τ)))
variable (xq : Buf (Elt F) ((c : Thread nD τ).loc cc0_stg0_0)) (xb : Buf (Elt F) ((c : Thread nD τ).loc cc0_stg1_0)) (xl : Buf (Elt F) ((c : Thread nD τ).loc cc0_stg2_0))

/-- What the launch hands device `c`: its ghost state, the levels, its credit, its pages. -/
def start : sProp 𝕄 :=
  iprop(G' GA GM c ∗ levAts L lv ∗ (cred (tallyAt (barCell c) () 7)
      ∗ sepL devs fun s => other c s iprop(cred (tallyAt (cell c 1 s) () NA) ∗ cred (tallyAt (cell c 3 s) () NM)))
    ∗ scr c main_arg1 hk ∗ scr c main_arg2 hv)

/-- What of a device's holdings the points' bodies do not touch before the last. -/
def held : sProp 𝕄 := iprop(Hold (F := F) c ∗ drop_k c hk ∗ drop_v c hv)

/-- The start of the kernel is the state before the first point. -/
theorem enter0 :
    iprop((start GA GM c hk hv ∗ Pipeline.scopedRest cfg0.spec c) ∗ (∃ W, owes (c : Thread nD τ) (O₀ c) W) ∗ Ins c xq xb xl)
      ⊢ (iprop(∃ K, records GA GM K ∗ PreSt c hk hv xq xb xl 0 ∗ held c hk hv) : sProp 𝕄) := by
  rw [scopedRest0_eq]
  unfold start G' linear
  iintro ⟨⟨⟨⟨%K, #HK, ⟨HRS, HAt⟩, HP⟩, #Hlev, ⟨Hcb, Hcr⟩, HAK, HAV⟩, H0, H1, H2, H3, H4, H5, H6, H7, H8⟩, HO, HI⟩
  ihave ⟨Hab, Har, Has⟩ := (at_deal (F := F) c) $$ HAt
  ihave ⟨Hpb, Hps⟩ := (pay_deal (F := F) c) $$ HP
  ihave ⟨Hra, Hrm, Hro⟩ := (row_deal (F := F) c) $$ [H7 H8]
  · isplitl [H7] <;> iassumption
  ihave ⟨HZK, HZV⟩ := (Entails.of_eq (ringSems_eq (F := F) c)) $$ HRS
  ihave ⟨HdK, HFK⟩ := (free_k c hk) $$ [H5 HAK HZK]
  · isplitl [H5]; · iexact H5
    isplitl [HAK]; · iexact HAK
    iexact HZK
  ihave ⟨HdV, HFV⟩ := (free_v c hv) $$ [H6 HAV HZV]
  · isplitl [H6]; · iexact H6
    isplitl [HAV]; · iexact HAV
    iexact HZV
  iexists K
  isplitr
  · unfold records known
    icases HK with ⟨#HI, #HR⟩
    isplitr; · iexact HI
    isplitr; · iexact HR
    iexact Hlev
  isplitl [HI H0 H1 H2 H3 H4 HFK HFV HO Hpb Hro]
  · iapply (Entails.of_eq (show Start0 c hk hv xq xb xl = PreSt c hk hv xq xb xl 0 from (if_pos rfl).symm))
    unfold Start0
    isplitl [HI]; · iexact HI
    isplitl [H0 H1 H2 H3 H4]
    · unfold Any5
      isplitl [H0]; · iexact H0
      isplitl [H1]; · iexact H1
      isplitl [H2]; · iexact H2
      isplitl [H3]; · iexact H3
      iexact H4
    isplitl [HFK]; · iexact HFK
    isplitl [HFV]; · iexact HFV
    unfold SigSt
    isplitl [HO]; · iexact HO
    iapply (sepL_mono (P := fun t => iprop(other c t (dutyTok ER (barCell t) 0 c) ∗ other c t (barPay (F := F) t c)))
      (Q := fun t => other c t iprop(dutyTok ER (barCell t) 0 c ∗ barPay (F := F) t c)) (fun t => by
      unfold other
      by_cases h : c = t
      · rw [if_pos h, if_pos h, if_pos h]; iintro -; iempintro
      · rw [if_neg h, if_neg h, if_neg h]) devs)
    iapply (sepL_sep _ _ devs); isplitl [Hpb] <;> iassumption
  unfold held
  isplitr [HdK HdV]
  · unfold Hold
    isplitl [Hra]; · iexact Hra
    isplitl [Hrm]; · iexact Hrm
    isplitl [Hab]; · iexact Hab
    isplitl [Hcb]; · iexact Hcb
    isplitl [Hps]; · iexact Hps
    isplitl [Har Hcr]
    · iapply (sepL_mono (P := fun s => iprop((atPos ER (cell c 1 s) 0 ∅ 0 ∗ atPos ER (cell c 3 s) 0 ∅ 0)
          ∗ other c s iprop(cred (tallyAt (cell c 1 s) () NA) ∗ cred (tallyAt (cell c 3 s) () NM)))) (Q := recvTodo (F := F) c) (fun s => by
        unfold recvTodo
        iintro ⟨⟨H1, H2⟩, H3⟩
        isplitl [H1]; · iexact H1
        isplitl [H2]; · iexact H2
        iexact H3) devs)
      iapply (sepL_sep _ _ devs); isplitl [Har] <;> iassumption
    iexact Has
  isplitl [HdK]; · iexact HdK
  iexact HdV

/-- Between two points. -/
def midPhi (t : ℕ) : sProp 𝕄 :=
  iprop(∃ K, records GA GM K ∗ (Bufs c (wV c xb xl) (qwV xq) (st (argsOf c hk hv xq xb xl) t) ∗ RingK c hk t ∗ RingV c hv t) ∗ held c hk hv)

/-- With no signal left to give only the copies are owed. -/
theorem sigSt_nil : (SigSt c [] : sProp 𝕄) = iprop((∃ W, owes (c : Thread nD τ) (sends c devs) W) ∗ emp) := by
  unfold SigSt
  rw [show sends c devs + sigs c [] = sends c devs from add_zero _]; rfl

/-- What is kept between points is the state before a later point. -/
theorem enter_mid (t : ℕ) (ht : t ≠ 0) :
    iprop(midPhi GA GM c hk hv xq xb xl t ∗ (∃ W, owes (c : Thread nD τ) (sends c devs) W) ∗ Ins c xq xb xl)
      ⊢ (iprop(∃ K, records GA GM K ∗ PreSt c hk hv xq xb xl t ∗ held c hk hv) : sProp 𝕄) := by
  unfold midPhi PreSt
  rw [if_neg ht]; unfold MidSt; rw [sigSt_nil]
  iintro ⟨⟨%K, #HR, ⟨HB, HK, HV⟩, HH⟩, HO, HI⟩
  iexists K
  isplitr; · iexact HR
  isplitr [HH]
  · isplitl [HI]; · iexact HI
    isplitl [HB]; · iexact HB
    isplitl [HK]; · iexact HK
    isplitl [HV]; · iexact HV
    isplitl [HO]; · iexact HO
    iempintro
  iexact HH

/-- The state after a point is kept until the next. -/
theorem leave_mid (K : Dev nD × CK → ℕ) (t : ℕ) :
    iprop(records GA GM K ∗ MidSt c hk hv xq xb xl t ∗ held c hk hv)
      ⊢ (iprop(midPhi GA GM c hk hv xq xb xl t ∗ (∃ W, owes (c : Thread nD τ) (sends c devs) W) ∗ Ins c xq xb xl) : sProp 𝕄) := by
  unfold midPhi MidSt; rw [sigSt_nil]
  iintro ⟨#HR, ⟨HI, HB, HK, HV, HO, -⟩, HH⟩
  isplitr [HO HI]
  · iexists K
    isplitr; · iexact HR
    isplitr [HH]
    · isplitl [HB]; · iexact HB
      isplitl [HK]; · iexact HK
      iexact HV
    iexact HH
  isplitl [HO]; · iexact HO
  iexact HI

/-- After the last point: the pages whole again, every semaphore at zero, the scratch buffers at some contents. -/
def done : sProp 𝕄 :=
  iprop((scr c main_arg1 hk ∗ scr c main_arg2 hv ∗ unscopedSems0 c)
    ∗ Pipeline.ownSems0 (Ix := Unit) (Name := ℕ) (U := UU) (Lvl := ℕ) (Val := Elt F) (τ := τ) osem c ∗ Pipeline.scopedRest cfg0.spec c)

/-- The state after the last point is what the kernel returns. -/
theorem leave_end :
    iprop(EndSt GA GM c hk hv xq xb xl ∗ drop_k c hk ∗ drop_v c hv)
      ⊢ (iprop(done c hk hv ∗ (∃ W, owes (c : Thread nD τ) 0 W) ∗ Ins c xq xb xl ∗ scr c cc0_stg3_0 (k0_pay4 GA GM)) : sProp 𝕄) := by
  unfold EndSt done Bufs
  rw [scopedRest0_eq]
  iintro ⟨⟨HI, ⟨H0, H1, H2, H3, H4⟩, HK, HV, HO, HS, H7, H8, Hout⟩, HdK, HdV⟩
  ihave ⟨H5, HAK, HZK⟩ := (unfree_k c hk) $$ [HK HdK]
  · isplitl [HdK] <;> iassumption
  ihave ⟨H6, HAV, HZV⟩ := (unfree_v c hv) $$ [HV HdV]
  · isplitl [HdV] <;> iassumption
  ihave ⟨HU, HW⟩ := (sems0_back (F := F) c) $$ [HZK HZV HS]
  · isplitr [HS]
    · iapply (Entails.of_eq (ringSems_eq (F := F) c).symm)
      isplitl [HZK]; · iexact HZK
      iexact HZV
    iexact HS
  isplitr [HO HI Hout]
  · isplitl [HAK HAV HU]
    · isplitl [HAK]; · iexact HAK
      isplitl [HAV]; · iexact HAV
      iexact HU
    isplitl [HW]; · iexact HW
    isplitl [H0]; · iexists _; iexact H0
    isplitl [H1]; · iexists _; iexact H1
    isplitl [H2]; · iexists _; iexact H2
    isplitl [H3]; · iexists _; iexact H3
    isplitl [H4]; · iexists _; iexact H4
    isplitl [H5]; · iexact H5
    isplitl [H6]; · iexact H6
    isplitl [H7]; · iexists _; iexact H7
    iexists _; iexact H8
  isplitl [HO]; · iexact HO
  isplitl [HI]; · iexact HI
  iexact Hout

end

end Cert.Pa

end
-- ==== Proof.Pa.Run.lean ====
/-
# Paged attention: the run

The pipeline's proof data, every point's body obligation, and the launch: from any memory every device's run ends with its
result array at `outV`, its arguments as they were and every semaphore at zero.
-/
module

public import proofs.«01_k».proof.Proof.Pa.Enter

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Inputs
variable (c : Dev nD)

/-- Device `c`'s pages. -/
abbrev pagesK : Buf (Elt F) (kH.view.loc (c : Thread nD τ)) := m ((c : Thread nD τ).loc main_arg1)
/-- The device's value pages. -/
abbrev pagesV : Buf (Elt F) (vH.view.loc (c : Thread nD τ)) := m ((c : Thread nD τ).loc main_arg2)
/-- What the pipeline stages: the query, the page table, the lengths. -/
def stQ : Buf (Elt F) ((c : Thread nD τ).loc cc0_stg0_0) := iblk m c 0 t0_0
/-- The staged table. -/
def stB : Buf (Elt F) ((c : Thread nD τ).loc cc0_stg1_0) := iblk m c 1 t0_0
/-- The staged lengths. -/
def stL : Buf (Elt F) ((c : Thread nD τ).loc cc0_stg2_0) := iblk m c 2 t0_0

/-- What device `c` computes from. -/
def As : Args F := argsOf c (pagesK m c) (pagesV m c) (stQ m c) (stB m c) (stL m c)
end Inputs

/-- The gathered numerators. -/
def tabA : cc0_scratch7.ty.Contents (Elt F) := gaV (As m)
/-- The gathered maxima and denominators. -/
def tabM : cc0_scratch8.ty.Contents (Elt F) := gmV (As m)

/-! ## The proof data -/

section Data
variable (c : Dev nD)

/-- What is kept before point `t`. -/
def phiN (t : ℕ) : sProp 𝕄 :=
  if t = 0 then iprop(start (tabA m) (tabM m) c (pagesK m c) (pagesV m c) ∗ Pipeline.scopedRest cfg0.spec c)
  else if t < 8 then midPhi (tabA m) (tabM m) c (pagesK m c) (pagesV m c) (stQ m c) (stB m c) (stL m c) t
  else done c (pagesK m c) (pagesV m c)
/-- What a device owes before point `t`. -/
def owedN (t : ℕ) : CellTallies nD τ sig Unit := if t = 0 then O₀ c else if t < 8 then sends c devs else 0

/-- The windows' contents and what is kept between points. -/
def dats (_ : Fin 1) (c : Dev nD) : Dat τ (Elt F) Unit ℕ UU ℕ cfg0 c where
  A w := (s₀ m ρ).mem ((cfg0.win w).arr.view.loc (c : Thread nD τ))
  after w t := match w with
    | ⟨0, _⟩ => stQ m c
    | ⟨1, _⟩ => stB m c
    | ⟨2, _⟩ => stL m c
    | ⟨3, _⟩ => outV (As m)
  Φ t := phiN m c t.val
  q _ := fullShare
  owed t := owedN c t.val

/-- The staged queries at every point. -/
theorem before_0 (t : Fin cfg0.N) (d) : (dats m ρ 0 c).before (0 : Fin 4) t d = stQ m c := by
  have h : ∀ t, (dats m ρ 0 c).after (0 : Fin 4) t = iblk m c 0 t := fun t => by
    rcases fin_N0 t with rfl | rfl | rfl | rfl | rfl | rfl | rfl | rfl <;> rfl
  refine (((dats m ρ 0 c).before_in_eq_fetched (0 : Fin 4) rfl (fun _ => rfl) (fun _ _ _ => rfl) (fun t => by rw [h]; rfl) t d).trans ?_)
  exact (h t).symm.trans rfl
/-- The staged table at every point. -/
theorem before_1 (t : Fin cfg0.N) (d) : (dats m ρ 0 c).before (1 : Fin 4) t d = stB m c := by
  have h : ∀ t, (dats m ρ 0 c).after (1 : Fin 4) t = iblk m c 1 t := fun t => by
    rcases fin_N0 t with rfl | rfl | rfl | rfl | rfl | rfl | rfl | rfl <;> rfl
  refine (((dats m ρ 0 c).before_in_eq_fetched (1 : Fin 4) rfl (fun _ => rfl) (fun _ _ _ => rfl) (fun t => by rw [h]; rfl) t d).trans ?_)
  exact (h t).symm.trans rfl
/-- The staged lengths at every point. -/
theorem before_2 (t : Fin cfg0.N) (d) : (dats m ρ 0 c).before (2 : Fin 4) t d = stL m c := by
  have h : ∀ t, (dats m ρ 0 c).after (2 : Fin 4) t = iblk m c 2 t := fun t => by
    rcases fin_N0 t with rfl | rfl | rfl | rfl | rfl | rfl | rfl | rfl <;> rfl
  refine (((dats m ρ 0 c).before_in_eq_fetched (2 : Fin 4) rfl (fun _ => rfl) (fun _ _ _ => rfl) (fun t => by rw [h]; rfl) t d).trans ?_)
  exact (h t).symm.trans rfl

omit [FloatOps F] in
/-- A whole buffer owned is its elements. -/
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged inputs of a memory. -/
abbrev InsM : sProp 𝕄 := Ins c (stQ m c) (stB m c) (stL m c)

/-- What is kept is the state before a point. -/
theorem phi_enter (t : ℕ) (ht : t < 8) :
    iprop(phiN m c t ∗ (∃ W, owes (c : Thread nD τ) (owedN c t) W) ∗ InsM m c)
      ⊢ (iprop(∃ K, records (tabA m) (tabM m) K ∗ PreSt c (pagesK m c) (pagesV m c) (stQ m c) (stB m c) (stL m c) t ∗ held c (pagesK m c) (pagesV m c)) : sProp 𝕄) := by
  unfold phiN owedN
  by_cases h : t = 0
  · subst h; rw [if_pos rfl, if_pos rfl]; exact enter0 _ _ c _ _ _ _ _
  · rw [if_neg h, if_neg h, if_pos ht, if_pos ht]; exact enter_mid _ _ c _ _ _ _ _ t h

/-- The state after a point is kept. -/
theorem phi_leave (K : Dev nD × CK → ℕ) (t : ℕ) (ht : t + 1 < 8) :
    iprop(records (tabA m) (tabM m) K ∗ MidSt c (pagesK m c) (pagesV m c) (stQ m c) (stB m c) (stL m c) (t + 1) ∗ held c (pagesK m c) (pagesV m c))
      ⊢ (iprop(phiN m c (t + 1) ∗ (∃ W, owes (c : Thread nD τ) (owedN c (t + 1)) W) ∗ InsM m c) : sProp 𝕄) := by
  unfold phiN owedN
  rw [if_neg (Nat.succ_ne_zero t), if_neg (Nat.succ_ne_zero t), if_pos ht, if_pos ht]; exact leave_mid _ _ c _ _ _ _ _ K _

/-- A point before the last. -/
theorem point_mid (t : ℕ) (ht : t < 8) (hlt : t ≠ 7) (R : sProp 𝕄) :
    iprop(phiN m c t ∗ (∃ W, owes (c : Thread nD τ) (owedN c t) W) ∗ InsM m c ∗ R)
      ⊢ wp frame (wpE (defs₀ (F := F)) 𝒱₀ (c : Thread nD τ) none) Set.univ (cc0_body (F := F) (pt t ht) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14)
        (fun _ => iprop(phiN m c (t + 1) ∗ (∃ W, owes (c : Thread nD τ) (owedN c (t + 1)) W) ∗ InsM m c ∗ R)) := by
  iintro ⟨HP, HO, HI, HR⟩
  ihave H := (phi_enter m c t ht) $$ [HP HO HI]
  · isplitl [HP]; · iexact HP
    isplitl [HO]; · iexact HO
    iexact HI
  icases H with ⟨%K, #HK, HP, HH⟩
  iapply (body_mid (tabA m) (tabM m) K c t ht (pagesK m c) (pagesV m c) (stQ m c) (stB m c) (stL m c) hlt) $$ [HP]
  · isplitr; · iexact HK
    iexact HP
  iintro HM
  ihave H := (phi_leave m c K t (by omega)) $$ [HM HH]
  · isplitr; · iexact HK
    isplitl [HM]; · iexact HM
    iexact HH
  icases H with ⟨H1, H2, H3⟩
  isplitl [H1]; · iexact H1
  isplitl [H2]; · iexact H2
  isplitl [H3]; · iexact H3
  iexact HR

/-- The last point. -/
theorem point_last :
    iprop(phiN m c 7 ∗ (∃ W, owes (c : Thread nD τ) (owedN c 7) W) ∗ InsM m c ∗ (∃ f, scr c cc0_stg3_0 f))
      ⊢ wp frame (wpE (defs₀ (F := F)) 𝒱₀ (c : Thread nD τ) none) Set.univ (cc0_body (F := F) (pt 7 (by decide)) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14)
        (fun _ => iprop(phiN m c 8 ∗ (∃ W, owes (c : Thread nD τ) (owedN c 8) W) ∗ InsM m c ∗ scr c cc0_stg3_0 (outV (As m)))) := by
  iintro ⟨HP, HO, HI, HR⟩
  ihave H := (phi_enter m c 7 (by decide)) $$ [HP HO HI]
  · isplitl [HP]; · iexact HP
    isplitl [HO]; · iexact HO
    iexact HI
  icases H with ⟨%K, #HK, HP, HH⟩
  ihave HH := (Entails.of_eq (held.eq_1 c (pagesK m c) (pagesV m c))) $$ HH
  icases HH with ⟨HH, HdK, HdV⟩
  iapply (body_last (tabA m) (tabM m) K c 7 _ (pagesK m c) (pagesV m c) (stQ m c) (stB m c) (stL m c) rfl
    (fun d0 d1 d2 d3 => by have h : d0 = 0 := Subsingleton.elim _ _; subst h; rfl)
    (fun d0 d1 d2 d3 d4 => by have h : d0 = 0 := Subsingleton.elim _ _; have h' : d2 = 0 := Subsingleton.elim _ _; subst h; subst h'; rfl)
    (fun d0 d1 d2 d3 d4 => by have h : d0 = 0 := Subsingleton.elim _ _; have h' : d2 = 0 := Subsingleton.elim _ _; subst h; subst h'; rfl)) $$ [HP HH HR]
  · isplitr; · iexact HK
    isplitl [HP]; · iexact HP
    isplitl [HH]; · iexact HH
    iexact HR
  iintro HE
  ihave H := (leave_end (tabA m) (tabM m) c (pagesK m c) (pagesV m c) (stQ m c) (stB m c) (stL m c)) $$ [HE HdK HdV]
  · isplitl [HE]; · iexact HE
    isplitl [HdK]; · iexact HdK
    iexact HdV
  iexact H

/-! ## The body obligation -/

/-- What a point owes back of the result's staging buffer: before the last point as it was, after it the result. -/
theorem owed_body (t : Fin cfg0.N) (R R' : sProp 𝕄) (P : iprop(phiN m c t.val ∗ (∃ W, owes (c : Thread nD τ) (owedN c t.val) W) ∗ InsM m c ∗ R)
      ⊢ wp frame (wpE (defs₀ (F := F)) 𝒱₀ (c : Thread nD τ) none) Set.univ (bodyAt0 (F := F) t)
        (fun _ => iprop(phiN m c (t.val + 1) ∗ (∃ W, owes (c : Thread nD τ) (owedN c (t.val + 1)) W) ∗ InsM m c ∗ R'))) :
    iprop(phiN m c t.val ∗ (dats m ρ 0 c).owesAt () t.castSucc
      ∗ (∃ d, owns (c : Thread nD τ) (Memref.whole cc0_stg0_0) fullShare ((dats m ρ 0 c).before (0 : Fin 4) t d))
      ∗ (∃ d, owns (c : Thread nD τ) (Memref.whole cc0_stg1_0) fullShare ((dats m ρ 0 c).before (1 : Fin 4) t d))
      ∗ (∃ d, owns (c : Thread nD τ) (Memref.whole cc0_stg2_0) fullShare ((dats m ρ 0 c).before (2 : Fin 4) t d)) ∗ R)
      ⊢ wp frame (wpE (defs₀ (F := F)) 𝒱₀ (c : Thread nD τ) none) Set.univ (bodyAt0 (F := F) t)
        (fun _ => iprop(phiN m c (t.val + 1) ∗ (dats m ρ 0 c).owesAt () t.succ
          ∗ owns (c : Thread nD τ) (Memref.whole cc0_stg0_0) fullShare (stQ m c)
          ∗ owns (c : Thread nD τ) (Memref.whole cc0_stg1_0) fullShare (stB m c)
          ∗ owns (c : Thread nD τ) (Memref.whole cc0_stg2_0) fullShare (stL m c) ∗ R')) := by
  simp only [before_0, before_1, before_2, owns_whole_eq]
  unfold Dat.owesAt Pipeline.owesWithin
  refine BIBase.Entails.trans ?_ (BIBase.Entails.trans P (wp_mono frame _ _ fun _ => ?_))
  · iintro ⟨HP, ⟨%W, -, HO⟩, ⟨%d0, %x0, %e0, H0⟩, ⟨%d1, %x1, %e1, H1⟩, ⟨%d2, %x2, %e2, H2⟩, HR⟩
    subst e0 e1 e2
    isplitl [HP]; · iexact HP
    isplitl [HO]; · (iexists W; iexact HO)
    isplitl [H0 H1 H2]
    · unfold InsM Ins
      isplitl [H0]; · iexact H0
      isplitl [H1]; · iexact H1
      iexact H2
    iexact HR
  · unfold InsM Ins
    iintro ⟨HP, ⟨%W, HO⟩, ⟨H0, H1, H2⟩, HR⟩
    isplitl [HP]; · iexact HP
    isplitl [HO]
    · iexists W; isplitr
      · ipureintro; exact fun _ _ => Or.inl trivial
      iexact HO
    isplitl [H0]
    · iexists _; isplitr
      · ipureintro; rfl
      iexact H0
    isplitl [H1]
    · iexists _; isplitr
      · ipureintro; rfl
      iexact H1
    isplitl [H2]
    · iexists _; isplitr
      · ipureintro; rfl
      iexact H2
    iexact HR

/-- The result's window is idle before the last point. -/
theorem idle_mid : ∀ t : Fin cfg0.N, t ≠ t0_7 → cfg0.idle 3 (cfg0.grid.coords t) = true := by decide +kernel
/-- The result's window is written at the last point. -/
theorem idle_last : cfg0.idle 3 (cfg0.grid.coords t0_7) = false := by decide +kernel
/-- The result is not copied out before the last point. -/
theorem flush_mid (t : Fin cfg0.N) (h : t ≠ t0_7) : (cfg0.win 3).flush t = false := by
  have := flush0_3 t
  have hn : ¬ (t.val % 8 = 7) := fun h' => h (Fin.ext (by have := t.isLt; have e : cfg0.N = 8 := N_0; show t.val = 7; omega))
  rcases hb : (cfg0.win 3).flush t with _ | _
  · rfl
  · exact absurd (this.mp hb) hn

/-- From what is kept before a point other than the last, its body gives what is kept after it, once the body is known to be the kernel's at that point. -/
theorem body_at (t : Fin cfg0.N) (h : t.val < 8) (hd : bodyAt0 (F := F) t = cc0_body (F := F) (pt t.val h) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14) (h7 : t ≠ t0_7) (R : sProp 𝕄) :
    iprop(phiN m c t.val ∗ (∃ W, owes (c : Thread nD τ) (owedN c t.val) W) ∗ InsM m c ∗ R)
      ⊢ wp frame (wpE (defs₀ (F := F)) 𝒱₀ (c : Thread nD τ) none) Set.univ (bodyAt0 (F := F) t)
        (fun _ => iprop(phiN m c (t.val + 1) ∗ (∃ W, owes (c : Thread nD τ) (owedN c (t.val + 1)) W) ∗ InsM m c ∗ R)) := by
  rw [hd]
  exact point_mid m c t.val h (fun e => h7 (Fin.ext e)) R

/-- The body of a point is the kernel's body at that point. -/
theorem body_pt : ∀ t : Fin cfg0.N, ∀ h : t.val < 8, bodyAt0 (F := F) t = cc0_body (F := F) (pt t.val h) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 := fun t h => by
  rcases fin_N0 t with rfl | rfl | rfl | rfl | rfl | rfl | rfl | rfl <;> rfl

set_option maxHeartbeats 3000000 in
/-- The library's body obligation on device `c`. -/
theorem body_obligation : BodyObligation (dats (F := F) m ρ 0 c) (defs₀ (F := F)) 𝒱₀ () Set.univ := fun t => by
  have ht : t.val < 8 := by have := t.isLt; have e : cfg0.N = 8 := N_0; omega
  rw [bigSep_W0, bigSep_W0]
  by_cases h7 : t = t0_7
  · subst h7
    simp only [idle_last]
    refine owed_body m ρ c t0_7 (iprop(∃ d, owns (c : Thread nD τ) (Memref.whole cc0_stg3_0) fullShare ((dats m ρ 0 c).before (3 : Fin 4) t0_7 d)))
      (owns (c : Thread nD τ) (Memref.whole cc0_stg3_0) fullShare (outV (As m))) ?_
    rw [body_pt t0_7 (by decide)]
    refine BIBase.Entails.trans ?_ (BIBase.Entails.trans (point_last m c) (wp_mono frame _ _ fun _ => ?_))
    · simp only [owns_whole_eq]
      iintro ⟨H1, H2, H3, ⟨%d, %f, -, H⟩⟩
      isplitl [H1]; · iexact H1
      isplitl [H2]; · iexact H2
      isplitl [H3]; · iexact H3
      iexists f; iexact H
    · simp only [owns_whole_eq]
      iintro ⟨H1, H2, H3, H⟩
      isplitl [H1]; · iexact H1
      isplitl [H2]; · iexact H2
      isplitl [H3]; · iexact H3
      iexists _; isplitr
      · ipureintro; rfl
      iexact H
  · simp only [idle_mid t h7, flush_mid t h7]
    have H : ∀ R, _ := fun R => owed_body m ρ c t R R (body_at m c t ht (body_pt t ht) h7 R)
    rcases fin_N0 t with rfl | rfl | rfl | rfl | rfl | rfl | rfl | rfl
    · exact H (iprop(∃ d, owns (c : Thread nD τ) (Memref.whole cc0_stg3_0) fullShare ((dats m ρ 0 c).before (3 : Fin 4) t0_0 d)))
    · exact H (iprop(∃ d, owns (c : Thread nD τ) (Memref.whole cc0_stg3_0) fullShare ((dats m ρ 0 c).before (3 : Fin 4) t0_1 d)))
    · exact H (iprop(∃ d, owns (c : Thread nD τ) (Memref.whole cc0_stg3_0) fullShare ((dats m ρ 0 c).before (3 : Fin 4) t0_2 d)))
    · exact H (iprop(∃ d, owns (c : Thread nD τ) (Memref.whole cc0_stg3_0) fullShare ((dats m ρ 0 c).before (3 : Fin 4) t0_3 d)))
    · exact H (iprop(∃ d, owns (c : Thread nD τ) (Memref.whole cc0_stg3_0) fullShare ((dats m ρ 0 c).before (3 : Fin 4) t0_4 d)))
    · exact H (iprop(∃ d, owns (c : Thread nD τ) (Memref.whole cc0_stg3_0) fullShare ((dats m ρ 0 c).before (3 : Fin 4) t0_5 d)))
    · exact H (iprop(∃ d, owns (c : Thread nD τ) (Memref.whole cc0_stg3_0) fullShare ((dats m ρ 0 c).before (3 : Fin 4) t0_6 d)))
    · exact absurd rfl h7

end Data

end Cert.Pa

end
-- ==== Proof.Pa.Launch.lean ====
/-
# Paged attention: the launch

`run_main`: at any float values, from any memory with zero counters, every fair execution of the eight devices' kernels ends;
every device's result array then holds `outV`, its arguments what they held, and every semaphore zero.
-/
module

public import proofs.«01_k».proof.Proof.Pa.Run
public import Idealize.ShloMosaic.Lib.Pipeline.CollectiveSegs
public import Idealize.ShloMosaic.Lib.Pipeline.ValueKit

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every window is held whole. -/
theorem share_eq (c : Dev nD) (w : Fin cfg0.W) : (dats m ρ 0 c).share w = fullShare := by unfold Dat.share; split <;> rfl

/-- The ghost state that the launch starts from. -/
def u₀ : UU := (initOf (Pipeline.cells cfgs cellOf_inj) (Pipeline.launchToks cfgs cellOf_inj), (initOf paCells paToks, 1))

/-- What the launch gives a device is the start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (tabA m) (tabM m) c)
      ⊢ |={Set.univ}=> iprop(start (tabA m) (tabM m) c (pagesK m c) (pagesV m c) ∗ emp) := by
  rw [Pipeline.unscopedRestP_none, show (Pipeline.unscopedRest (Ix := Unit) (Name := ℕ) (U := UU) (Lvl := ℕ) cfg0.spec c (fun b => m ((c : Thread nD τ).loc b)) : sProp 𝕄) = _
    from unscopedRest0_eq c _]
  iintro ⟨⟨HK, HV⟩, Hlev, Hcr, -, HG⟩
  ihave Hc := (creds (F := F) c) $$ Hcr
  imodintro
  unfold start
  isplitl
  · isplitl [HG]; · iexact HG
    isplitl [Hlev]; · iexact Hlev
    isplitl [Hc]; · iexact Hc
    isplitl [HK]; · iexact HK
    iexact HV
  · iempintro

/-- The start is the state before the first point. -/
theorem phi_in (c : Dev nD) :
    iprop(start (tabA m) (tabM m) c (pagesK m c) (pagesV m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start (tabA m) (tabM m) c (pagesK m c) (pagesV m c) ∗ Pipeline.scopedRest cfg0.spec c) from rfl]
  iintro ⟨Hs, -, Hr⟩
  isplitl [Hs]; · iexact Hs
  iexact Hr

/-- The state after the last point gives back the arrays and the semaphores at zero. -/
theorem phi_out (c : Dev nD) :
    (dats m ρ 0 c).Φ (Fin.last cfg0.N) ⊢ iprop((scr c main_arg1 (pagesK m c) ∗ scr c main_arg2 (pagesV m c) ∗ unscopedSems0 c)
      ∗ Pipeline.ownSems0 osem c ∗ Pipeline.scopedRest cfg0.spec c) := by
  rw [show (dats m ρ 0 c).Φ (Fin.last cfg0.N) = done c (pagesK m c) (pagesV m c) from by
    show phiN m c (Fin.last cfg0.N).val = _
    rw [show (Fin.last cfg0.N).val = 8 from N_0]; rfl]
  unfold done
  exact BI.Entails.refl _

/-- The windows' semaphores are no cells of the protocol. -/
theorem cells_apart : ∀ (w : Fin 4) (s : Fin (spec0 w).nbuf) (k : CK), csem k ≠ .dma (((spec0 w).sem s)) := by decide +kernel

/-- What is owed at a point is a list of copies and a list of signals. -/
theorem owed_shape (c : Dev nD) (t : ℕ) : ∃ l l', owedN c t = sends c l + sigs c l' := by
  unfold owedN
  split
  · exact ⟨devs, devs, rfl⟩
  · split
    · exact ⟨devs, [], (add_zero _).symm⟩
    · exact ⟨[], [], (add_zero _).symm⟩

/-- The windows' waits are below everything owed. -/
theorem waits (c : Dev nD) : (levAts L lv : sProp 𝕄) ⊢ Pipeline.cellsWaits cfgs (dats m ρ) () 0 c :=
  Pipeline.cellsWaits_intro cfgs (dats m ρ) () 0 c fun w s t => by
    obtain ⟨l, l', h⟩ := owed_shape c t.val
    show (levAts L lv : sProp 𝕄) ⊢ MayWait (c : Thread nD τ) _ () (owedN c t.val)
    rw [h]
    exact mayWait_low c _ (cells_apart w s) l l'

/-- What a finished memory holds. -/
def Fin1 (s : MemSt nD τ sig (Elt F)) : Prop :=
  ∀ c : Dev nD, (∀ w : Fin cfg0.W, s.mem ((cfg0.win w).arr.view.loc (c : Thread nD τ)) = (dats m ρ 0 c).arrAt w cfg0.N)
    ∧ s.mem ((c : Thread nD τ).loc main_arg1) = m ((c : Thread nD τ).loc main_arg1) ∧ s.mem ((c : Thread nD τ).loc main_arg2) = m ((c : Thread nD τ).loc main_arg2)

/-- The caches as they were, on one device. -/
def QYc (c : Dev nD) (s : MemSt nD τ sig (Elt F)) : Prop :=
  (s.mem ((c : Thread nD τ).loc main_arg1) = m ((c : Thread nD τ).loc main_arg1) ∧ s.mem ((c : Thread nD τ).loc main_arg2) = m ((c : Thread nD τ).loc main_arg2))
    ∧ ∀ sm : SemLoc sig, sm.isScoped .tc = false → s.sem ((c.tc : Thread nD τ), sm) = 0

/-- The memory holds the caches as they were. -/
theorem read_back (c : Dev nD) (s' : Phys nD τ sig (Elt F)) :
    iprop((scr c main_arg1 (pagesK m c) ∗ scr c main_arg2 (pagesV m c) ∗ unscopedSems0 c) ∗ emp ∗ SI s')
      ⊢ |={Set.univ}=> iprop(⌜QYc m c s'.mem⌝ ∗ (SI s' : sProp 𝕄)) := by
  iintro ⟨⟨HK, HV, Hu⟩, -, HSI⟩
  ihave %h1 := (SI_pointsTo_agree (st := s') (ℓ := (c : Thread nD τ).loc main_arg1) (f := pagesK m c)) $$ [HSI HK]
  · isplitl [HSI]; · iexact HSI
    iexact HK
  ihave %h2 := (SI_pointsTo_agree (st := s') (ℓ := (c : Thread nD τ).loc main_arg2) (f := pagesV m c)) $$ [HSI HV]
  · isplitl [HSI]; · iexact HSI
    iexact HV
  imod (Pipeline.unscopedSems0_read (X := unscopedSems0 c) (c := c) fupd_intro s') $$ [Hu HSI] with ⟨%h3, HSI⟩
  · isplitl [Hu]; · iexact Hu
    iexact HSI
  imodintro
  isplitr
  · ipureintro
    exact ⟨⟨funext fun i => h1 i (Finset.mem_univ _), funext fun i => h2 i (Finset.mem_univ _)⟩, h3⟩
  iexact HSI

set_option maxRecDepth 8000 in
/-- At any float values, from any memory with zero counters: every fair execution of the eight devices' kernels ends, every
    final state has each array at what the pipeline's data say, the pages as they were, and every semaphore zero. -/
theorem run_main : θ_run defs (onTc (τ := τ) (main (F := F))) (s₀ m ρ) (fun r => Fin1 m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun c => by
      show owedN c (Fin.last cfg0.N).val = 0
      rw [show (Fin.last cfg0.N).val = 8 from N_0]; rfl)
    (L := L) (lv := lv) (hL := L_of_ne) (hwaits := waits m ρ)
    (G := G (tabA m) (tabM m)) (G' := G' (tabA m) (tabM m)) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_cells (tabA m) (tabM m)) $$ HX with HG
      imodintro
      isplitl [HP]; · iexact HP
      iexact HG)
    (hglob := glob (tabA m) (tabM m))
    (hA := fun _ _ => rfl) (hpf := fun _ k => k.elim0)
    (X := fun c => start (tabA m) (tabM m) c (pagesK m c) (pagesV m c))
    (Y := fun c => iprop(scr c main_arg1 (pagesK m c) ∗ scr c main_arg2 (pagesV m c) ∗ unscopedSems0 c)) (Z := fun _ => iprop(emp))
    (hX := start_intro m ρ) (hin := phi_in m ρ) (hout := phi_out m ρ)
    (QY := QYc m) (hY := read_back m)
    (hQ := fun _ h hs => ⟨fun c => ⟨(h c).1, (h c).2.2.1⟩, sem_eq_zero hs fun c => (h c).2.2.2⟩)

/-- The result array at the end. -/
theorem final_out (c : Dev nD) (s : MemSt nD τ sig (Elt F)) (h : Fin1 m ρ s) : s.mem ((c : Thread nD τ).loc main_v1) = outV (As m) := by
  refine ((h c).1 3).trans ?_
  refine (dats m ρ 0 c).arrAt_eq_of_after_last 3 t0_7 (by decide +kernel) _ fun j => ?_
  blk_simp
  rfl

section Staged
variable (c : Dev nD)

/-- The window's only block begins at zero. -/
theorem at0 : ∀ d : Fin 4, win0_0.index t0_0 d = 0 := by decide +kernel
/-- The window's only block begins at zero. -/
theorem at1 : ∀ d : Fin 2, win0_1.index t0_0 d = 0 := by decide +kernel
/-- The window's only block begins at zero. -/
theorem at2 : ∀ d : Fin 1, win0_2.index t0_0 d = 0 := by decide +kernel
/-- One window's block is the whole array. -/
theorem stQ_eq : stQ m c = m ((c : Thread nD τ).loc main_arg0) := by
  funext j
  show m ((c : Thread nD τ).loc main_arg0) _ = m ((c : Thread nD τ).loc main_arg0) j
  blk_ext [] <;> simp only [at0, Nat.zero_mul, Nat.zero_add]
/-- The staged table is the argument. -/
theorem stB_eq : stB m c = m ((c : Thread nD τ).loc main_arg3) := by
  funext j
  show m ((c : Thread nD τ).loc main_arg3) _ = m ((c : Thread nD τ).loc main_arg3) j
  blk_ext [] <;> simp only [at1, Nat.zero_mul, Nat.zero_add]
/-- The staged lengths are the argument. -/
theorem stL_eq : stL m c = m ((c : Thread nD τ).loc main_arg4) := by
  funext j
  show m ((c : Thread nD τ).loc main_arg4) _ = m ((c : Thread nD τ).loc main_arg4) j
  blk_ext [] <;> simp only [at2, Nat.zero_mul, Nat.zero_add]
end Staged

/-- The arguments at the end. -/
theorem final_args (c : Dev nD) (s : MemSt nD τ sig (Elt F)) (h : Fin1 m ρ s) :
    s.mem ((c : Thread nD τ).loc main_arg0) = m ((c : Thread nD τ).loc main_arg0) ∧ s.mem ((c : Thread nD τ).loc main_arg1) = m ((c : Thread nD τ).loc main_arg1)
      ∧ s.mem ((c : Thread nD τ).loc main_arg2) = m ((c : Thread nD τ).loc main_arg2) ∧ s.mem ((c : Thread nD τ).loc main_arg3) = m ((c : Thread nD τ).loc main_arg3)
      ∧ s.mem ((c : Thread nD τ).loc main_arg4) = m ((c : Thread nD τ).loc main_arg4) :=
  ⟨((h c).1 0).trans ((dats m ρ 0 c).arrAt_in 0 rfl _), (h c).2.1, (h c).2.2, ((h c).1 1).trans ((dats m ρ 0 c).arrAt_in 1 rfl _),
    ((h c).1 2).trans ((dats m ρ 0 c).arrAt_in 2 rfl _)⟩

end Cert.Pa

end
-- ==== Proof.Pa.Frames.lean ====
/-
# Paged attention: the frame claims

The kernel's two readings (words and extended reals) by the one run, transported between the programs of the same text; the
reference by its run.
-/
module

public import proofs.«01_k».proof.Proof.Pa.Launch
public import proofs.«01_k».proof.Proof.Gen.Kernel
public import proofs.«01_k».proof.Proof.Gen.ReferenceIdeal
public import proofs.«01_k».proof.Proof.Gen.ReferenceIdeal.Run
public import proofs.«01_k».proof.Defs

@[expose] public section

noncomputable section

namespace Cert.Pa

open Idealize.ShloMosaic Idealize.ShloMosaic.TcCoe Idealize.SL.Sem

/-- The run's end: arguments kept, counters at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run (Cert.KernelIdeal.defs (F := F)) _ _).mono (fun _ h => ⟨fun c => final_args (F := F) m ρ c _ h.1, h.2⟩) (run_main (F := F) m ρ)

/-- The two readings of the kernel have one text: the same bodies at the words. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  obtain ⟨l, hl⟩ := l
  match l, hl with
  | 0, _ => rfl
  | n + 1, h => exact absurd h (Nat.not_lt.2 (Nat.le_add_left _ _))

/-- The two readings' definitions are one at the words. -/
theorem defs_eq : Cert.Kernel.defs (F := Bits) = Cert.KernelIdeal.defs (F := Bits) := by
  unfold Cert.Kernel.defs Cert.KernelIdeal.defs
  rw [bodies_eq]
  rfl

/-- The kernel at the word semantics keeps its arguments and ends with every counter at zero. -/
theorem frame_kernel : Cert.quiescent_Kernel := fun m ρ _ => by
  rw [defs_eq]
  exact frame_any (F := Bits) m ρ

/-- The same over the extended reals. -/
theorem frame_ideal : Cert.quiescent_KernelIdeal := fun m ρ _ =>
  frame_any (F := Ideal) m ρ

/-- The reference has no semaphore at all. -/
theorem no_sem (s : MemSt Cert.ReferenceIdeal.nD Cert.ReferenceIdeal.τ Cert.ReferenceIdeal.sig (Elt Ideal)) : s.sem = fun _ => 0 := by
  funext g
  rcases g with ⟨_, sm⟩
  rcases sm with ⟨⟨_, h⟩⟩ | ⟨⟨_, h⟩⟩
  · exact absurd h (Nat.not_lt_zero _)
  · exact absurd h (Nat.not_lt_zero _)

/-- The reference keeps its arguments. -/
theorem frame_reference : Cert.quiescent_ReferenceIdeal := fun m ρ _ =>
  (θ_run (Cert.ReferenceIdeal.defs (F := Ideal)) _ _).mono (fun _ h => ⟨fun c => (h c).2, no_sem _⟩) (Cert.ReferenceIdeal.Value.run (F := Ideal) m ρ)

end Cert.Pa

end
-- ==== Proof.Pa.ReadK.lean ====
/-
# Paged attention: one chunk's update, read at an index

Row `r` of the running state is head `r / 8` of sequence `r % 8`; column `k` of a flattened key is lane `k % 128` of head
`k / 128`; row `n` of a chunk is token `n % 16` of the chunk's page `n / 16`.
-/
module

public import proofs.«01_k».proof.Proof.Pa.Vals
public import Idealize.ShloMosaic.Lib.Pointwise

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The query, tiled eight times across. -/
theorem q_at (xq : Vec Ideal S8x1x8x128 .f32) (r : Fin 64) (k : Fin 1024) :
    k0_pay8 xq (ix2 r k) = xq (ix4 (⟨r.val % 8, by omega⟩ : Fin 8) (0 : Fin 1) (⟨r.val / 8, by omega⟩ : Fin 8) (⟨k.val % 128, by omega⟩ : Fin 128)) := by
  have hk := k.isLt
  pointwise [k0_pay8]
  split_ifs <;> (congr 2; apply Fin.ext; simp only []; omega)

/-- A chunk of the cache as a matrix: a row for each token. -/
theorem kf_at (x : Vec Ideal S64x16x8x128 .f32) (n k : Fin 1024) :
    k0_pay27 (ld1 x) (ix2 n k)
      = x (ix4 (⟨n.val / 16, by omega⟩ : Fin 64) (⟨n.val % 16, by omega⟩ : Fin 16) (⟨k.val / 128, by omega⟩ : Fin 8) (⟨k.val % 128, by omega⟩ : Fin 128)) := by
  pointwise [k0_pay27, ld1]

/-- The weights of a chunk, one row of them for each head. -/
theorem w_at (w : Vec Ideal S8x1024 .f32) (r : Fin 64) (n : Fin 1024) :
    k0_pay28 w (ix2 r n) = w (ix2 (⟨r.val % 8, by omega⟩ : Fin 8) n) := by
  pointwise [k0_pay28]

/-- The scores: where a page is used, the scaled product; elsewhere a large negative number. -/
theorem s_at (w : Vec Ideal S8x1024 .f32) (kf : FVec Ideal S1024x1024 .f32) (q : FVec Ideal S64x1024 .f32) (r : Fin 64) (n : Fin 1024) :
    k0_pay29 kf w q zeroS (ix2 r n)
      = if 0 < k0_pay28 w (ix2 r n) then (∑ x, q (ix2 r x) * kf (ix2 n x)) * Ideal.ofBits FTy.f32 0x3DB504F3#32
        else Ideal.ofBits FTy.f32 0xF149F2CA#32 := by
  pointwise [k0_pay29, zeroS]

/-- The new maximum. -/
theorem m_at (w : Vec Ideal S8x1024 .f32) (kf : FVec Ideal S1024x1024 .f32) (q : FVec Ideal S64x1024 .f32) (m : FVec Ideal S64x1 .f32) (r : Fin 64) :
    k0_pay30 kf w q zeroS m (ix2 r 0)
      = max (m (ix2 r 0)) (Finset.fold max (Ideal.ofBits FTy.f32 0xFF800000#32) (fun x => k0_pay29 kf w q zeroS (ix2 r x)) Finset.univ) := by
  pointwise [k0_pay30]

/-- The factor the old sums are scaled by. -/
theorem al_at (w : Vec Ideal S8x1024 .f32) (kf : FVec Ideal S1024x1024 .f32) (q : FVec Ideal S64x1024 .f32) (m m' : FVec Ideal S64x1 .f32) (r : Fin 64) :
    k0_pay31 kf w q zeroS m m' (ix2 r 0) = Ideal.exp (m' (ix2 r 0) - k0_pay30 kf w q zeroS m (ix2 r 0)) := by
  pointwise [k0_pay31]

/-- The weighted exponentials. -/
theorem p_at (w : Vec Ideal S8x1024 .f32) (kf : FVec Ideal S1024x1024 .f32) (q : FVec Ideal S64x1024 .f32) (m : FVec Ideal S64x1 .f32) (r : Fin 64) (n : Fin 1024) :
    k0_pay32 kf w q zeroS m (ix2 r n)
      = Ideal.exp (k0_pay29 kf w q zeroS (ix2 r n) - k0_pay30 kf w q zeroS m (ix2 r 0)) * k0_pay28 w (ix2 r n) := by
  pointwise [k0_pay32]

/-- The new denominator. -/
theorem l_at (al : FVec Ideal S64x1 .f32) (p : FVec Ideal S64x1024 .f32) (l : FVec Ideal S64x1 .f32) (r : Fin 64) :
    k0_pay1 al p l (ix2 r 0) = l (ix2 r 0) * al (ix2 r 0) + ∑ x, p (ix2 r x) := by
  pointwise [k0_pay1]

/-- The weighted exponentials against the values. -/
theorem pv_at (w : Vec Ideal S8x1024 .f32) (kf : FVec Ideal S1024x1024 .f32) (q : FVec Ideal S64x1024 .f32) (m : FVec Ideal S64x1 .f32)
    (x : Vec Ideal S64x16x8x128 .f32) (r : Fin 64) (k : Fin 1024) :
    k0_pay33 kf w q zeroS m (ld1 x) (ix2 r k)
      = ∑ n : Fin 1024, k0_pay32 kf w q zeroS m (ix2 r n)
          * x (ix4 (⟨n.val / 16, by omega⟩ : Fin 64) (⟨n.val % 16, by omega⟩ : Fin 16) (⟨k.val / 128, by omega⟩ : Fin 8) (⟨k.val % 128, by omega⟩ : Fin 128)) := by
  pointwise [k0_pay33, ld1]

/-- The new numerator: each row takes its own head's columns. -/
theorem a_at (al : FVec Ideal S64x1 .f32) (w : Vec Ideal S8x1024 .f32) (kf : FVec Ideal S1024x1024 .f32) (q : FVec Ideal S64x1024 .f32) (m : FVec Ideal S64x1 .f32)
    (x : Vec Ideal S1x64x16x8x128 .f32) (a : FVec Ideal S64x128 .f32) (r : Fin 64) (e : Fin 128) :
    k0_pay2 al (k0_pay33 kf w q zeroS m x) (k0_pay34 kf w q zeroS m x) (k0_pay35 kf w q zeroS m x) (k0_pay36 kf w q zeroS m x) (k0_pay37 kf w q zeroS m x)
      (k0_pay38 kf w q zeroS m x) (k0_pay39 kf w q zeroS m x) (k0_pay40 kf w q zeroS m x) a (ix2 r e)
      = a (ix2 r e) * al (ix2 r 0) + k0_pay33 kf w q zeroS m x (ix2 r (⟨r.val / 8 * 128 + e.val, by omega⟩ : Fin 1024)) := by
  have hr := r.isLt
  have he := e.isLt
  pointwise [k0_pay2, k0_pay34, k0_pay35, k0_pay36, k0_pay37, k0_pay38, k0_pay39, k0_pay40]
  congr 1
  split_ifs <;> (congr 2 <;> (apply Fin.ext; simp only []; omega))

/-- The combination of the devices' maxima, denominators and numerators. -/
theorem o_at (v180 : Vec Ideal S8x8x8x128 .f32) (v181 : Vec Ideal S8x8x2x8x1 .f32) (b h : Fin 8) (e : Fin 128) :
    k0_pay4 v180 v181 (ix4 b 0 h e)
      = Ideal.div
          (∑ x, v180 (ix4 x h b e) * Ideal.exp (v181 (ix5 x h (0 : Fin 2) b (0 : Fin 1))
            - Finset.fold max (Ideal.ofBits FTy.f32 0xFF800000#32) (fun x => v181 (ix5 x h (0 : Fin 2) b (0 : Fin 1))) Finset.univ))
          (∑ x, v181 (ix5 x h (1 : Fin 2) b (0 : Fin 1)) * Ideal.exp (v181 (ix5 x h (0 : Fin 2) b (0 : Fin 1))
            - Finset.fold max (Ideal.ofBits FTy.f32 0xFF800000#32) (fun x => v181 (ix5 x h (0 : Fin 2) b (0 : Fin 1))) Finset.univ)) := by
  pointwise [k0_pay4]

end Cert.Pa

end
-- ==== Proof.Pa.ReadW.lean ====
/-
# Paged attention: the query matrix and the page counts, read at an index
-/
module

public import proofs.«01_k».proof.Proof.Pa.ReadK
public import Idealize.ShloMosaic.Lib.Routing.Words
public import Idealize.ShloMosaic.Lib.WordCmp

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Floor division of a small natural number, as the kernel computes it on words. -/
theorem floor_word (n c : ℕ) (s : BitVec 32) (hn : n < 2 ^ 31) (h0 : 0 < c) (hc : c < 2 ^ 31) (hs : s = 1#32) :
    Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32))) s)
        (IntOp.cmpi CmpIPredicate.ne (IntOp.remsi ArithUnit.vector (BitVec.ofNat 32 n) (BitVec.ofNat 32 c)) 0#32))
      (IntOp.subi (IntOp.divsi ArithUnit.vector (BitVec.ofNat 32 n) (BitVec.ofNat 32 c)) 1#32)
      (IntOp.divsi ArithUnit.vector (BitVec.ofNat 32 n) (BitVec.ofNat 32 c)) = BitVec.ofNat 32 (n / c) := by
  subst hs
  rw [Routing.remsi_word _ hn h0 hc, Routing.divsi_word _ hn h0 hc,
    WordCmp.cmpi_sgt_ofNat (w := 32) (a := n) (b := 0) (by omega) (by norm_num), WordCmp.cmpi_slt_ofNat (w := 32) (a := n) (b := 0) (by omega) (by norm_num)]
  rcases Nat.eq_zero_or_pos n with rfl | hp
  · simp only [Nat.zero_mod, Nat.zero_div]
    decide
  · rw [decide_eq_true hp, decide_eq_false (show ¬ n < 0 by omega)]
    have : IntOp.cmpi CmpIPredicate.ne (IntOp.subi (BitVec.setWidth 32 (BitVec.ofBool true)) (BitVec.setWidth 32 (BitVec.ofBool false))) 1#32 = 0#1 := by decide
    rw [this]
    have h2 : ∀ x : BitVec 1, IntOp.andi 0#1 x = 0#1 := by decide
    rw [h2]
    rfl

/-- The query matrix: head `r / 8`'s query in that head's columns, zero elsewhere. -/
theorem qw_at (xq : Vec Ideal S8x1x8x128 .f32) (r : Fin 64) (k : Fin 1024) :
    qwV xq (ix2 r k)
      = if r.val / 8 = k.val / 128
        then xq (ix4 (⟨r.val % 8, by omega⟩ : Fin 8) (0 : Fin 1) (⟨r.val / 8, by omega⟩ : Fin 8) (⟨k.val % 128, by omega⟩ : Fin 128)) else 0 := by
  have hk := k.isLt
  have hr := r.isLt
  pointwise [qwV, k0_pay10, k0_pay9]
  rw [floor_word r.val 8 _ (by omega) (by norm_num) (by norm_num) (by decide), floor_word k.val 128 _ (by omega) (by norm_num) (by norm_num) (by decide),
    WordCmp.cmpi_eq_ofNat (w := 32) (by omega) (by omega), q_at]
  unfold Scalar.select
  by_cases h : r.val / 8 = k.val / 128
  · rw [if_pos h, decide_eq_true h]; rfl
  · rw [if_neg h, decide_eq_false h]; rfl

/-- The expansion of pages to tokens: token `n` belongs to page `n / 16`. -/
theorem pay22_at (p : Fin 512) (n : Fin 8192) :
    (k0_pay22 : FVec Ideal S512x8192 .bf16) (ix2 p n) = if n.val / 16 = p.val then 1 else 0 := by
  have hn := n.isLt
  have hp := p.isLt
  pointwise [k0_pay22]
  rw [floor_word n.val 16 _ (by omega) (by norm_num) (by norm_num) (by decide), WordCmp.cmpi_eq_ofNat (w := 32) (by omega) (by omega)]
  unfold Scalar.select
  by_cases h : n.val / 16 = p.val
  · rw [if_pos h, decide_eq_true h]; rfl
  · rw [if_neg h, decide_eq_false h]; rfl

/-- One entry of the counts is the count of its page. -/
theorem pay26_at (x : FVec Ideal S8x512 .f32) (b : Fin 8) (n : Fin 8192) :
    k0_pay26 x k0_pay22 (ix2 b n) = x (ix2 b (⟨n.val / 16, by omega⟩ : Fin 512)) := by
  have h : k0_pay26 x k0_pay22 (ix2 b n) = ∑ p : Fin 512, x (ix2 b p) * (k0_pay22 : FVec Ideal S512x8192 .bf16) (ix2 p n) := by
    pointwise [k0_pay26]
  rw [h, Finset.sum_eq_single (⟨n.val / 16, by omega⟩ : Fin 512)]
  · rw [pay22_at, if_pos rfl]; exact mul_one _
  · intro p _ hp
    rw [pay22_at, if_neg (fun e => hp (Fin.ext e.symm))]; exact mul_zero _
  · intro h; exact absurd (Finset.mem_univ _) h

/-- Length `k` of a device's lengths. -/
theorem len_at (xl : Vec Ideal S8 .i32) (k : Fin 8) : lenAt xl k = xl (ix1 k) := by
  unfold lenAt
  show xl _ = xl _
  congr 1
  funext a
  apply Fin.ext
  match a with
  | ⟨0, _⟩ => show k.val + 1 * 0 = k.val; omega

/-- The counts: how many of a sequence's used pages are page `p` of the device. -/
theorem cnt_at (d : Dev nD) (xb : Vec Ideal S8x512 .i32) (xl : Vec Ideal S8 .i32) (b : Fin 8) (n : Fin 8192) :
    wV d xb xl (ix2 b n)
      = ∑ x : Fin 512, Scalar.select
          (IntOp.andi (IntOp.cmpi CmpIPredicate.eq (xb (ix2 b x)) (IntOp.addi (base d) (BitVec.ofNat 32 (n.val / 16))))
            (IntOp.cmpi CmpIPredicate.slt (BitVec.ofNat 32 x.val) (lenAt xl b))) (1 : EReal) 0 := by
  unfold wV
  rw [pay26_at]
  fin_cases b <;>
  · pointwise [k0_pay21, k0_pay20, k0_pay19, k0_pay18, k0_pay17, k0_pay16, k0_pay15, k0_pay14, k0_pay13, k0_pay12, k0_pay11]

/-- A chunk's weights are its columns of the counts. -/
theorem wld_at (w : Vec Ideal S8x8192 .f32) (n : ℕ) (h : n < 8) (b : Fin 8) (x : Fin 1024) :
    wLd (pt n h) w (ix2 b x) = w (ix2 b (⟨1024 * n + x.val, by omega⟩ : Fin 8192)) := by
  show w _ = w _
  congr 1
  funext a
  apply Fin.ext
  match a with
  | ⟨0, _⟩ => show 0 + 1 * b.val = b.val; omega
  | ⟨1, _⟩ =>
    show k0_off8 (pt n h) 1 + 1 * x.val = 1024 * n + x.val
    have : k0_off8 (pt n h) 1 = 1024 * n := by
      have hh : ∀ k : Fin 8, k0_off8 (pt k.val k.isLt) 1 = 1024 * k.val := by decide +kernel
      exact hh ⟨n, h⟩
    omega

end Cert.Pa

end
-- ==== Proof.Pa.Soft.lean ====
/-
# Paged attention: weighted means by exponentials, in chunks

`mean p v` is `(∑ p i * v i) / ∑ p i`. The running maximum, denominator and numerator over chunks are, after any number of
chunks, sums of exponentials against one real shift; the shift cancels in a mean.
-/
module

public import Idealize.ShloMosaic.Lib.IdealHost
public import Mathlib.Data.EReal.Inv

@[expose] public section

noncomputable section

namespace Cert.Pa

open Idealize.ShloMosaic

/-- The three float constants of the kernel and the reference. -/
theorem ninf_eq : Ideal.ofBits .f32 0xFF800000#32 = ⊥ := by simp [Ideal.ofBits, Ideal.ieee]
/-- The kernel's mask is a real number. -/
theorem neg_real : ∃ x : ℝ, Ideal.ofBits .f32 0xF149F2CA#32 = (x : EReal) := by
  simp only [Ideal.ofBits, Ideal.ieee]
  exact ⟨_, rfl⟩
/-- The scale is a real number. -/
theorem scale_real : ∃ x : ℝ, Ideal.ofBits .f32 0x3DB504F3#32 = (x : EReal) := by
  simp only [Ideal.ofBits, Ideal.ieee]
  exact ⟨_, rfl⟩

variable {ι κ : Type}

/-- The largest of finitely many values none of which is `⊤` and one of which is not `⊥` is a real number. -/
theorem fold_max_real [Fintype ι] (f : ι → EReal) (ht : ∀ i, f i ≠ ⊤) (hb : ∃ i, f i ≠ ⊥) : ∃ r : ℝ, Finset.univ.fold max ⊥ f = (r : EReal) := by
  have h1 : Finset.univ.sup f ≠ ⊤ := by
    refine ne_of_lt ((Finset.sup_lt_iff (by simp)).2 fun i _ => lt_top_iff_ne_top.2 (ht i))
  have h2 : Finset.univ.sup f ≠ ⊥ := by
    obtain ⟨i, hi⟩ := hb
    intro h
    have := Finset.le_sup (f := f) (Finset.mem_univ i)
    rw [h] at this
    exact hi (le_bot_iff.1 this)
  exact ⟨_, (EReal.coe_toReal h1 h2).symm⟩

/-- A sum of real numbers, as extended reals. -/
theorem coe_sum (f : ι → ℝ) (s : Finset ι) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- A nonnegative real factor distributes over a sum of extended reals. -/
theorem coe_mul_sum (c : ℝ) (hc : 0 ≤ c) (f : ι → EReal) (s : Finset ι) : (c : EReal) * ∑ i ∈ s, f i = ∑ i ∈ s, (c : EReal) * f i := by
  classical
  induction s using Finset.induction with
  | empty => simp
  | insert a s ha ih =>
    rw [Finset.sum_insert ha, Finset.sum_insert ha, EReal.left_distrib_of_nonneg_of_ne_top (by exact_mod_cast hc) (EReal.coe_ne_top _), ih]

/-- Nonnegative real weights of one extended real add. -/
theorem coe_sum_mul (q : ι → ℝ) (hq : ∀ i, 0 ≤ q i) (v : EReal) (s : Finset ι) :
    ((∑ i ∈ s, q i : ℝ) : EReal) * v = ∑ i ∈ s, (q i : EReal) * v := by
  classical
  induction s using Finset.induction with
  | empty => simp
  | insert a s ha ih =>
    rw [Finset.sum_insert ha, Finset.sum_insert ha, EReal.coe_add,
      EReal.right_distrib_of_nonneg (by exact_mod_cast hq a) (by exact_mod_cast Finset.sum_nonneg fun i _ => hq i), ih]

/-- The mean of `v` by the weights `p`. -/
def mean [Fintype ι] (p : ι → ℝ) (v : ι → EReal) : EReal := Ideal.div (∑ i, (p i : EReal) * v i) ((∑ i, p i : ℝ) : EReal)

/-- A common positive factor of the weights cancels. -/
theorem mean_scale [Fintype ι] (c : ℝ) (hc : 0 < c) (p : ι → ℝ) (hp : 0 < ∑ i, p i) (v : ι → EReal) :
    mean (fun i => c * p i) v = mean p v := by
  unfold mean
  have h1 : ∑ i, ((c * p i : ℝ) : EReal) * v i = (c : EReal) * ∑ i, (p i : EReal) * v i := by
    rw [coe_mul_sum c hc.le]
    exact Finset.sum_congr rfl fun i _ => by rw [EReal.coe_mul, mul_assoc]
  rw [h1, ← Finset.mul_sum, Ideal.div_coe (mul_pos hc hp).ne', Ideal.div_coe hp.ne', mul_comm (c : EReal), mul_assoc, ← EReal.coe_mul]
  congr 2
  field_simp

/-- Dividing each weight by their sum first gives the same mean. -/
theorem mean_normal [Fintype ι] (p : ι → ℝ) (hp0 : ∀ i, 0 ≤ p i) (hp : 0 < ∑ i, p i) (v : ι → EReal) :
    ∑ i, v i * Ideal.div (p i : EReal) ((∑ i, p i : ℝ) : EReal) = mean p v := by
  unfold mean
  rw [Ideal.div_coe hp.ne', mul_comm, coe_mul_sum _ (by positivity)]
  exact Finset.sum_congr rfl fun i _ => by rw [Ideal.div_coe hp.ne', mul_comm (v i), mul_comm (p i : EReal), mul_assoc]

/-- One weighted exponential, whatever the score is where the weight is zero. -/
theorem term_eq (s : EReal) (S w M : ℝ) (hs : 0 < w → s = (S : EReal)) (hr : ∃ r : ℝ, s = (r : EReal)) (hw : 0 ≤ w) :
    Ideal.exp (s - (M : EReal)) * (w : EReal) = ((Real.exp (S - M) * w : ℝ) : EReal) := by
  rcases hw.eq_or_lt with h | h
  · obtain ⟨r, rfl⟩ := hr
    rw [← h]; simp
  · rw [hs h, ← EReal.coe_sub, Ideal.exp_coe, EReal.coe_mul]

/-- THE CHUNKS: after `n` of them, sums against one real shift. -/
theorem online [Fintype ι] [Nonempty ι] (N : ℕ) (m l a : ℕ → EReal) (s : ℕ → ι → EReal) (S w : ℕ → ι → ℝ) (V : ℕ → ι → EReal)
    (hw : ∀ k x, 0 ≤ w k x) (hs : ∀ k x, 0 < w k x → s k x = (S k x : EReal)) (hr : ∀ k x, ∃ r : ℝ, s k x = (r : EReal))
    (m0 : ∃ r : ℝ, m 0 = (r : EReal)) (l0 : l 0 = 0) (a0 : a 0 = 0)
    (hm : ∀ k < N, m (k + 1) = max (m k) (Finset.univ.fold max ⊥ (s k)))
    (hl : ∀ k < N, l (k + 1) = l k * Ideal.exp (m k - m (k + 1)) + ∑ x, Ideal.exp (s k x - m (k + 1)) * (w k x : EReal))
    (ha : ∀ k < N, a (k + 1) = a k * Ideal.exp (m k - m (k + 1)) + ∑ x, (Ideal.exp (s k x - m (k + 1)) * (w k x : EReal)) * V k x) :
    ∀ n ≤ N, ∃ M : ℝ, m n = (M : EReal) ∧ l n = ((∑ k ∈ Finset.range n, ∑ x, Real.exp (S k x - M) * w k x : ℝ) : EReal)
      ∧ a n = ∑ k ∈ Finset.range n, ∑ x, ((Real.exp (S k x - M) * w k x : ℝ) : EReal) * V k x := by
  intro n
  induction n with
  | zero =>
    intro _
    obtain ⟨r, h⟩ := m0
    exact ⟨r, h, by rw [l0]; simp, by rw [a0]; simp⟩
  | succ n ih =>
    intro hn
    obtain ⟨M, h1, h2, h3⟩ := ih (by omega)
    obtain ⟨R, hR⟩ := fold_max_real (s n) (fun i => by obtain ⟨r, h⟩ := hr n i; rw [h]; exact EReal.coe_ne_top _)
      ⟨Classical.arbitrary ι, by obtain ⟨r, h⟩ := hr n (Classical.arbitrary ι); rw [h]; exact EReal.coe_ne_bot _⟩
    have hM : m (n + 1) = ((max M R : ℝ) : EReal) := by rw [hm n hn, h1, hR]; exact (EReal.coe_strictMono.monotone.map_max).symm
    have hexp : Ideal.exp (m n - m (n + 1)) = ((Real.exp (M - max M R) : ℝ) : EReal) := by
      rw [hM, h1, ← EReal.coe_sub, Ideal.exp_coe]
    have hstep : ∀ k x, Real.exp (M - max M R) * (Real.exp (S k x - M) * w k x) = Real.exp (S k x - max M R) * w k x := by
      intro k x
      rw [← mul_assoc, ← Real.exp_add]
      congr 2
      ring
    have hterm : ∀ x, Ideal.exp (s n x - m (n + 1)) * (w n x : EReal) = ((Real.exp (S n x - max M R) * w n x : ℝ) : EReal) := by
      intro x; rw [hM]; exact term_eq _ _ _ _ (hs n x) (hr n x) (hw n x)
    refine ⟨max M R, hM, ?_, ?_⟩
    · rw [hl n hn, hexp, h2, ← EReal.coe_mul, Finset.sum_congr rfl fun x _ => hterm x, ← coe_sum, ← EReal.coe_add, Finset.sum_range_succ]
      congr 2
      rw [mul_comm, Finset.mul_sum]
      exact Finset.sum_congr rfl fun k _ => by rw [Finset.mul_sum]; exact Finset.sum_congr rfl fun x _ => hstep k x
    · rw [ha n hn, hexp, h3, Finset.sum_range_succ]
      congr 1
      · rw [mul_comm, coe_mul_sum _ (Real.exp_pos _).le]
        refine Finset.sum_congr rfl fun k _ => ?_
        rw [coe_mul_sum _ (Real.exp_pos _).le]
        refine Finset.sum_congr rfl fun x _ => ?_
        rw [← mul_assoc, ← EReal.coe_mul, hstep]
      · exact Finset.sum_congr rfl fun x _ => by rw [hterm x]

/-- THE DEVICES: combining what each of them ends with is one mean over all their tokens. -/
theorem combine {δ : Type} [Fintype δ] [Nonempty δ] [Fintype ι] (m l a : δ → EReal) (S w : δ → ι → ℝ) (V : δ → ι → EReal)
    (h : ∀ d, ∃ M : ℝ, m d = (M : EReal) ∧ l d = ((∑ x, Real.exp (S d x - M) * w d x : ℝ) : EReal)
      ∧ a d = ∑ x, ((Real.exp (S d x - M) * w d x : ℝ) : EReal) * V d x)
    (hp : 0 < ∑ p : δ × ι, Real.exp (S p.1 p.2) * w p.1 p.2) :
    Ideal.div (∑ d, a d * Ideal.exp (m d - Finset.univ.fold max ⊥ m)) (∑ d, l d * Ideal.exp (m d - Finset.univ.fold max ⊥ m))
      = mean (fun p : δ × ι => Real.exp (S p.1 p.2) * w p.1 p.2) (fun p => V p.1 p.2) := by
  choose M hm hl ha using h
  obtain ⟨R, hR⟩ := fold_max_real m (fun i => by rw [hm]; exact EReal.coe_ne_top _) ⟨Classical.arbitrary δ, by rw [hm]; exact EReal.coe_ne_bot _⟩
  have he : ∀ d, Ideal.exp (m d - Finset.univ.fold max ⊥ m) = ((Real.exp (M d - R) : ℝ) : EReal) := by
    intro d; rw [hR, hm, ← EReal.coe_sub, Ideal.exp_coe]
  have hc : ∀ d x, Real.exp (M d - R) * (Real.exp (S d x - M d) * w d x) = Real.exp (-R) * (Real.exp (S d x) * w d x) := by
    intro d x
    rw [← mul_assoc, ← mul_assoc, ← Real.exp_add, ← Real.exp_add]
    congr 2
    ring
  have hn : ∑ d, a d * Ideal.exp (m d - Finset.univ.fold max ⊥ m)
      = ∑ p : δ × ι, ((Real.exp (-R) * (Real.exp (S p.1 p.2) * w p.1 p.2) : ℝ) : EReal) * V p.1 p.2 := by
    rw [Fintype.sum_prod_type]
    refine Finset.sum_congr rfl fun d _ => ?_
    rw [he, ha, mul_comm, coe_mul_sum _ (Real.exp_pos _).le]
    refine Finset.sum_congr rfl fun x _ => ?_
    rw [← mul_assoc, ← EReal.coe_mul, hc]
  have hd : ∑ d, l d * Ideal.exp (m d - Finset.univ.fold max ⊥ m)
      = ((∑ p : δ × ι, Real.exp (-R) * (Real.exp (S p.1 p.2) * w p.1 p.2) : ℝ) : EReal) := by
    rw [Fintype.sum_prod_type, coe_sum]
    refine Finset.sum_congr rfl fun d _ => ?_
    rw [he, hl, mul_comm, ← EReal.coe_mul, Finset.mul_sum]
    exact congrArg _ (Finset.sum_congr rfl fun x _ => hc d x)
  rw [hn, hd]
  exact mean_scale _ (Real.exp_pos _) _ hp _

/-- Two means agree when their weighted sums do, for every choice of values. -/
theorem mean_congr [Fintype ι] [Fintype κ] (p : ι → ℝ) (q : κ → ℝ) (v : ι → EReal) (u : κ → EReal)
    (h1 : ∑ i, (p i : EReal) * v i = ∑ k, (q k : EReal) * u k) (h2 : ∑ i, p i = ∑ k, q k) : mean p v = mean q u := by
  unfold mean; rw [h1, h2]

/-- Counting pages: summing over the pages with how often each is used is summing over the uses. -/
theorem sum_uses {π τ : Type} [Fintype π] [DecidableEq π] [Fintype τ] [Fintype ι] (B : ι → π) (u : ι → ℝ) (hu : ∀ j, 0 ≤ u j)
    (e : π → τ → ℝ) (he : ∀ P t, 0 ≤ e P t) (V : π → τ → EReal) :
    ∑ P, ∑ t, ((e P t * ∑ j, (if B j = P then u j else 0) : ℝ) : EReal) * V P t = ∑ j, ∑ t, ((u j * e (B j) t : ℝ) : EReal) * V (B j) t := by
  have h1 : ∀ P t, ((e P t * ∑ j, (if B j = P then u j else 0) : ℝ) : EReal) * V P t
      = ∑ j, if B j = P then ((u j * e (B j) t : ℝ) : EReal) * V (B j) t else 0 := by
    intro P t
    rw [Finset.mul_sum, coe_sum_mul _ (fun j => mul_nonneg (he P t) (by split_ifs <;> [exact hu j; exact le_rfl]))]
    refine Finset.sum_congr rfl fun j _ => ?_
    split_ifs with h
    · subst h; rw [mul_comm (u j)]
    · rw [mul_zero, EReal.coe_zero, zero_mul]
  simp only [h1]
  rw [Finset.sum_comm, Finset.sum_congr rfl fun t _ => Finset.sum_comm, Finset.sum_comm]
  refine (Finset.sum_congr rfl fun j _ => ?_)
  refine (Finset.sum_congr rfl fun t _ => ?_)
  rw [Finset.sum_ite_eq Finset.univ (B j)]
  simp

end Cert.Pa

end
-- ==== Proof.Pa.ValD.lean ====
/-
# Paged attention: what one device ends with

For one row of the state (one head of one sequence), the device's running maximum, denominator and numerator after the
last chunk are sums over the device's 8192 tokens, against one real shift.
-/
module

public import proofs.«01_k».proof.Proof.Pa.ReadW
public import proofs.«01_k».proof.Proof.Pa.Soft

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The scaled product of a query and a key. -/
def score (q k : Fin 128 → EReal) : EReal := (∑ e, q e * k e) * Ideal.ofBits FTy.f32 0x3DB504F3#32

/-- A score of real numbers is real. -/
theorem score_real (q k : Fin 128 → EReal) (hq : ∀ e, ∃ r : ℝ, q e = (r : EReal)) (hk : ∀ e, ∃ r : ℝ, k e = (r : EReal)) :
    score q k = ((score q k).toReal : EReal) := by
  choose a ha using hq
  choose b hb using hk
  obtain ⟨c, hc⟩ := scale_real
  have : score q k = (((∑ e, a e * b e) * c : ℝ) : EReal) := by
    unfold score
    rw [hc, EReal.coe_mul, coe_sum]
    congr 1
    exact Finset.sum_congr rfl fun e _ => by rw [ha, hb, EReal.coe_mul]
  rw [this, EReal.toReal_coe]

/-- The sequence and the head of a row. -/
def seqOf (r : Fin 64) : Fin 8 := ⟨r.val % 8, by omega⟩
/-- The head of a row. -/
def headOf (r : Fin 64) : Fin 8 := ⟨r.val / 8, by omega⟩

/-- The scores of a chunk: a row of the query matrix against a token is that row's head's product. -/
theorem dot_at (xq : Vec Ideal S8x1x8x128 .f32) (k : Vec Ideal S64x16x8x128 .f32) (r : Fin 64) (x : Fin 1024) :
    (∑ y, qwV xq (ix2 r y) * k0_pay27 (ld1 k) (ix2 x y)) * Ideal.ofBits FTy.f32 0x3DB504F3#32
      = score (fun e => xq (ix4 (seqOf r) (0 : Fin 1) (headOf r) e))
          (fun e => k (ix4 (⟨x.val / 16, by omega⟩ : Fin 64) (⟨x.val % 16, by omega⟩ : Fin 16) (headOf r) e)) := by
  unfold score
  congr 1
  rw [Fin.sum_univ_tiles 8 128 (by norm_num), Finset.sum_eq_single (headOf r)]
  · refine Finset.sum_congr rfl fun e _ => ?_
    have he := e.isLt
    have h1 : ((headOf r).val * 128 + e.val) / 128 = (headOf r).val := by omega
    have h2 : ((headOf r).val * 128 + e.val) % 128 = e.val := by omega
    rw [qw_at, kf_at, if_pos (show r.val / 8 = _ from h1.symm)]
    simp only [h1, h2]
    rfl
  · intro h _ hh
    refine Finset.sum_eq_zero fun e _ => ?_
    have he := e.isLt
    rw [qw_at, if_neg, zero_mul]
    show ¬ r.val / 8 = (h.val * 128 + e.val) / 128
    intro e1
    exact hh (Fin.ext (show h.val = r.val / 8 by omega))
  · intro h; exact absurd (Finset.mem_univ _) h

/-- The score of a token of a chunk, and a large negative number for a token of an unused page. -/
def sE (w : Vec Ideal S8x1024 .f32) (xq : Vec Ideal S8x1x8x128 .f32) (k : Vec Ideal S64x16x8x128 .f32) (r : Fin 64) (x : Fin 1024) : EReal :=
  if 0 < w (ix2 (seqOf r) x) then
    score (fun e => xq (ix4 (seqOf r) (0 : Fin 1) (headOf r) e))
      (fun e => k (ix4 (⟨x.val / 16, by omega⟩ : Fin 64) (⟨x.val % 16, by omega⟩ : Fin 16) (headOf r) e))
  else Ideal.ofBits FTy.f32 0xF149F2CA#32

/-- A masked score of a chunk: the scaled product where the page counts, the mask where not. -/
theorem sE_at (w : Vec Ideal S8x1024 .f32) (xq : Vec Ideal S8x1x8x128 .f32) (k : Vec Ideal S64x16x8x128 .f32) (r : Fin 64) (x : Fin 1024) :
    k0_pay29 (k0_pay27 (ld1 k)) w (qwV xq) zeroS (ix2 r x) = sE w xq k r x := by
  rw [s_at, w_at, dot_at]
  rfl

/-- The new maximum is stored as it is computed. -/
theorem step_m_eq (w : Vec Ideal S8x1024 .f32) (xq : Vec Ideal S8x1x8x128 .f32) (k v : Vec Ideal S64x16x8x128 .f32) (s : St Ideal) :
    (step w (qwV xq) k v s).m = k0_pay30 (k0_pay27 (ld1 k)) w (qwV xq) zeroS s.m := by
  simp only [step]
  unfold k0_pay3
  exact shapeCast_id _ _

/-- What the running state starts from. -/
theorem pay5_at (r : Fin 64) : (k0_pay5 : FVec Ideal S64x1 .f32) (ix2 r 0) = Ideal.ofBits FTy.f32 0xF149F2CA#32 := by
  pointwise [k0_pay5]
/-- The denominators start at zero. -/
theorem pay6_at (r : Fin 64) : (k0_pay6 : FVec Ideal S64x1 .f32) (ix2 r 0) = 0 := by
  pointwise [k0_pay6]
/-- The numerators start at zero. -/
theorem pay7_at (r : Fin 64) (e : Fin 128) : (k0_pay7 : FVec Ideal S64x128 .f32) (ix2 r e) = 0 := by
  pointwise [k0_pay7]

/-- One chunk's update at a row: the maximum. -/
theorem step_m (w : Vec Ideal S8x1024 .f32) (xq : Vec Ideal S8x1x8x128 .f32) (k v : Vec Ideal S64x16x8x128 .f32) (s : St Ideal) (r : Fin 64) :
    (step w (qwV xq) k v s).m (ix2 r 0) = max (s.m (ix2 r 0)) (Finset.univ.fold max ⊥ (sE w xq k r)) := by
  rw [step_m_eq, m_at, ninf_eq]
  simp only [sE_at]

/-- One chunk's update at a row: the denominator. -/
theorem step_l (w : Vec Ideal S8x1024 .f32) (xq : Vec Ideal S8x1x8x128 .f32) (k v : Vec Ideal S64x16x8x128 .f32) (s : St Ideal) (r : Fin 64) :
    (step w (qwV xq) k v s).l (ix2 r 0)
      = s.l (ix2 r 0) * Ideal.exp (s.m (ix2 r 0) - (step w (qwV xq) k v s).m (ix2 r 0))
        + ∑ x, Ideal.exp (sE w xq k r x - (step w (qwV xq) k v s).m (ix2 r 0)) * w (ix2 (seqOf r) x) := by
  rw [step_m_eq]
  show k0_pay1 _ _ _ _ = _
  rw [l_at, al_at]
  congr 1
  refine Finset.sum_congr rfl fun x _ => ?_
  rw [p_at, sE_at, w_at]
  rfl

/-- One chunk's update at a row: the numerator. -/
theorem step_a (w : Vec Ideal S8x1024 .f32) (xq : Vec Ideal S8x1x8x128 .f32) (k v : Vec Ideal S64x16x8x128 .f32) (s : St Ideal) (r : Fin 64) (e : Fin 128) :
    (step w (qwV xq) k v s).a (ix2 r e)
      = s.a (ix2 r e) * Ideal.exp (s.m (ix2 r 0) - (step w (qwV xq) k v s).m (ix2 r 0))
        + ∑ x : Fin 1024, (Ideal.exp (sE w xq k r x - (step w (qwV xq) k v s).m (ix2 r 0)) * w (ix2 (seqOf r) x))
            * v (ix4 (⟨x.val / 16, by omega⟩ : Fin 64) (⟨x.val % 16, by omega⟩ : Fin 16) (headOf r) e) := by
  rw [step_m_eq]
  show k0_pay2 _ _ _ _ _ _ _ _ _ _ _ = _
  rw [a_at, al_at, pv_at]
  congr 1
  refine Finset.sum_congr rfl fun x _ => ?_
  rw [p_at, sE_at, w_at]
  have he := e.isLt
  have hr := r.isLt
  have h1 : (r.val / 8 * 128 + e.val) / 128 = r.val / 8 := by omega
  have h2 : (r.val / 8 * 128 + e.val) % 128 = e.val := by omega
  simp only [h1, h2]
  rfl

/-- Token `x` of chunk `k` among the device's tokens. -/
def tk (k : ℕ) (x : Fin 1024) : Fin 8192 := ⟨(1024 * k + x.val) % 8192, by omega⟩

/-- A token's key and value. -/
def keyT (A : Args Ideal) (n : Fin 8192) (h : Fin 8) (e : Fin 128) : EReal :=
  A.kc (n.val / 1024) (by omega) (ix4 (⟨n.val % 1024 / 16, by omega⟩ : Fin 64) (⟨n.val % 16, by omega⟩ : Fin 16) h e)
/-- A token's value. -/
def valT (A : Args Ideal) (n : Fin 8192) (h : Fin 8) (e : Fin 128) : EReal :=
  A.vc (n.val / 1024) (by omega) (ix4 (⟨n.val % 1024 / 16, by omega⟩ : Fin 64) (⟨n.val % 16, by omega⟩ : Fin 16) h e)

/-- A token's score. -/
def scoreT (A : Args Ideal) (r : Fin 64) (n : Fin 8192) : EReal :=
  score (fun e => A.xq (ix4 (seqOf r) (0 : Fin 1) (headOf r) e)) (fun e => keyT A n (headOf r) e)

/-- A chunk read at equal places. -/
theorem chunk_congr (c : ∀ b : ℕ, b < 8 → Vec Ideal S64x16x8x128 .f32) (k k' : ℕ) (hk : k < 8) (hk' : k' < 8) (h : k = k')
    (p p' : Fin 64) (t t' : Fin 16) (hp : p = p') (ht : t = t') (hd : Fin 8) (e : Fin 128) :
    c k hk (ix4 p t hd e) = c k' hk' (ix4 p' t' hd e) := by subst h hp ht; rfl

/-- A chunk's key is the device's key at the token's number. -/
theorem keyT_tk (A : Args Ideal) (k : ℕ) (hk : k < 8) (x : Fin 1024) (h : Fin 8) (e : Fin 128) :
    A.kc k hk (ix4 (⟨x.val / 16, by omega⟩ : Fin 64) (⟨x.val % 16, by omega⟩ : Fin 16) h e) = keyT A (tk k x) h e := by
  have hx := x.isLt
  refine chunk_congr A.kc _ _ _ _ ?_ _ _ _ _ (Fin.ext ?_) (Fin.ext ?_) _ _
  · show k = (1024 * k + x.val) % 8192 / 1024; omega
  · show x.val / 16 = (1024 * k + x.val) % 8192 % 1024 / 16; omega
  · show x.val % 16 = (1024 * k + x.val) % 8192 % 16; omega

/-- A chunk's value is the device's value at the token's number. -/
theorem valT_tk (A : Args Ideal) (k : ℕ) (hk : k < 8) (x : Fin 1024) (h : Fin 8) (e : Fin 128) :
    A.vc k hk (ix4 (⟨x.val / 16, by omega⟩ : Fin 64) (⟨x.val % 16, by omega⟩ : Fin 16) h e) = valT A (tk k x) h e := by
  have hx := x.isLt
  refine chunk_congr A.vc _ _ _ _ ?_ _ _ _ _ (Fin.ext ?_) (Fin.ext ?_) _ _
  · show k = (1024 * k + x.val) % 8192 / 1024; omega
  · show x.val / 16 = (1024 * k + x.val) % 8192 % 1024 / 16; omega
  · show x.val % 16 = (1024 * k + x.val) % 8192 % 16; omega

/-- Summing chunk by chunk is summing over the tokens. -/
theorem sum_tk {M : Type} [AddCommMonoid M] (f : Fin 8192 → M) : ∑ k ∈ Finset.range 8, ∑ x, f (tk k x) = ∑ n, f n := by
  rw [Fin.sum_univ_tiles 8 1024 (by norm_num), Finset.sum_range]
  refine Finset.sum_congr rfl fun k _ => Finset.sum_congr rfl fun x _ => congrArg f (Fin.ext ?_)
  show (1024 * k.val + x.val) % 8192 = k.val * 1024 + x.val
  omega

/-- The chunk's weights are the tokens' counts. -/
theorem wLd_tk (w : Vec Ideal S8x8192 .f32) (k : ℕ) (hk : k < 8) (b : Fin 8) (x : Fin 1024) :
    wLd (pt k hk) w (ix2 b x) = w (ix2 b (tk k x)) := by
  rw [wld_at]
  congr 2
  apply Fin.ext
  show 1024 * k + x.val = (1024 * k + x.val) % 8192
  omega

/-- ONE DEVICE: what it ends with, at a row and a lane. -/
theorem device (A : Args Ideal) (W : Fin 8192 → ℝ) (r : Fin 64) (e : Fin 128) (hW : ∀ n, wV A.d A.xb A.xl (ix2 (seqOf r) n) = (W n : EReal))
    (hW0 : ∀ n, 0 ≤ W n) (hq : ∀ e, ∃ x : ℝ, A.xq (ix4 (seqOf r) (0 : Fin 1) (headOf r) e) = (x : EReal))
    (hk : ∀ n e, ∃ x : ℝ, keyT A n (headOf r) e = (x : EReal)) :
    ∃ M : ℝ, (st A 8).m (ix2 r 0) = (M : EReal)
      ∧ (st A 8).l (ix2 r 0) = ((∑ n, Real.exp ((scoreT A r n).toReal - M) * W n : ℝ) : EReal)
      ∧ (st A 8).a (ix2 r e) = ∑ n, ((Real.exp ((scoreT A r n).toReal - M) * W n : ℝ) : EReal) * valT A n (headOf r) e := by
  have hsr : ∀ n, scoreT A r n = ((scoreT A r n).toReal : EReal) := fun n => score_real _ _ hq (hk n)
  obtain ⟨ng, hng⟩ := neg_real
  have key : ∀ k (hk : k < 8) x, sE (wLd (pt k hk) (wV A.d A.xb A.xl)) A.xq (A.kc k hk) r x
      = if 0 < W (tk k x) then scoreT A r (tk k x) else Ideal.ofBits FTy.f32 0xF149F2CA#32 := by
    intro k hk x
    unfold sE scoreT
    rw [wLd_tk, hW]
    simp only [keyT_tk, EReal.coe_pos]
  obtain ⟨M, h1, h2, h3⟩ := online (ι := Fin 1024) 8 (fun n => (st A n).m (ix2 r 0)) (fun n => (st A n).l (ix2 r 0)) (fun n => (st A n).a (ix2 r e))
    (fun k x => if 0 < W (tk k x) then scoreT A r (tk k x) else Ideal.ofBits FTy.f32 0xF149F2CA#32)
    (fun k x => (scoreT A r (tk k x)).toReal) (fun k x => W (tk k x)) (fun k x => valT A (tk k x) (headOf r) e)
    (fun k x => hW0 _) (fun k x h => by rw [if_pos h]; exact hsr _)
    (fun k x => by split_ifs <;> [exact ⟨_, hsr _⟩; exact ⟨_, hng⟩])
    ⟨ng, (pay5_at r).trans hng⟩
    (pay6_at r)
    (pay7_at r e)
    (fun k hk => by
      simp only [st_succ A k hk, step_m]
      congr 2
      funext x; exact key k hk x)
    (fun k hk => by
      simp only [st_succ A k hk]
      rw [step_l]
      congr 1
      exact Finset.sum_congr rfl fun x _ => by rw [key k hk x, wLd_tk, hW])
    (fun k hk => by
      simp only [st_succ A k hk]
      rw [step_a]
      congr 1
      exact Finset.sum_congr rfl fun x _ => by rw [key k hk x, wLd_tk, hW, valT_tk])
    8 le_rfl
  refine ⟨M, h1, ?_, ?_⟩
  · rw [← sum_tk]; exact h2
  · rw [← sum_tk (fun n => ((Real.exp ((scoreT A r n).toReal - M) * W n : ℝ) : EReal) * valT A n (headOf r) e)]; exact h3

end Cert.Pa

end
-- ==== Proof.Pa.ValO.lean ====
/-
# Paged attention: the result every device holds

`outV` at a sequence, a head and a lane is one mean over all the tokens of all the devices; how often a token counts is how
many of the sequence's used table entries name its page.
-/
module

public import proofs.«01_k».proof.Proof.Pa.ValD

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The row of a head and a sequence. -/
def rowOf (h b : Fin 8) : Fin 64 := ⟨h.val * 8 + b.val, by omega⟩
/-- The sequence of a row. -/
theorem seq_rowOf (h b : Fin 8) : seqOf (rowOf h b) = b := Fin.ext (show (h.val * 8 + b.val) % 8 = b.val by omega)
/-- The head of a row. -/
theorem head_rowOf (h b : Fin 8) : headOf (rowOf h b) = h := Fin.ext (show (h.val * 8 + b.val) / 8 = h.val by omega)

/-- The numerators laid out by head and sequence. -/
theorem pay23_at (x : Vec Ideal S64x128 .f32) (h b : Fin 8) (e : Fin 128) : k0_pay23 x (ix4 0 h b e) = x (ix2 (rowOf h b) e) := by
  pointwise [k0_pay23]
  rfl
/-- The maxima laid out by head and sequence. -/
theorem pay24_at (x : Vec Ideal S64x1 .f32) (h b : Fin 8) : k0_pay24 x (ix5 0 h 0 b 0) = x (ix2 (rowOf h b) 0) := by
  pointwise [k0_pay24]
  rfl
/-- The denominators laid out by head and sequence. -/
theorem pay25_at (x : Vec Ideal S64x1 .f32) (h b : Fin 8) : k0_pay25 x (ix5 0 h 0 b 0) = x (ix2 (rowOf h b) 0) := by
  pointwise [k0_pay25]
  rfl

/-- The gathered tables at an index. -/
theorem ga_at (As : Dev nD → Args Ideal) (d h b : Fin 8) (e : Fin 128) :
    gaV As (ix4 d h b e) = (st (As d) 8).a (ix2 (rowOf h b) e) := by
  show k0_pay23 (F := Ideal) (st (As d) 8).a (ValueIdx.ix4 (0 : Fin 1) h b e) = _
  rw [← ix4_eq_valueIdx, pay23_at]
/-- The gathered maxima at an index. -/
theorem gm0_at (As : Dev nD → Args Ideal) (d h b : Fin 8) :
    gmV As (ix5 d h (0 : Fin 2) b (0 : Fin 1)) = (st (As d) 8).m (ix2 (rowOf h b) 0) := by
  show k0_pay24 (F := Ideal) (st (As d) 8).m (ValueIdx.ix5 (0 : Fin 1) h (0 : Fin 1) b (0 : Fin 1)) = _
  rw [← ix5_eq_valueIdx, pay24_at]
/-- The gathered denominators at an index. -/
theorem gm1_at (As : Dev nD → Args Ideal) (d h b : Fin 8) :
    gmV As (ix5 d h (1 : Fin 2) b (0 : Fin 1)) = (st (As d) 8).l (ix2 (rowOf h b) 0) := by
  show k0_pay25 (F := Ideal) (st (As d) 8).l (ValueIdx.ix5 (0 : Fin 1) h (0 : Fin 1) b (0 : Fin 1)) = _
  rw [← ix5_eq_valueIdx, pay25_at]

/-- THE RESULT AS A MEAN over the devices' tokens. -/
theorem out_mean (As : Dev nD → Args Ideal) (W : Fin 8 → Fin 8192 → ℝ) (b h : Fin 8) (e : Fin 128)
    (hW : ∀ d n, wV (As d).d (As d).xb (As d).xl (ix2 b n) = (W d n : EReal)) (hW0 : ∀ d n, 0 ≤ W d n)
    (hq : ∀ d e, ∃ x : ℝ, (As d).xq (ix4 b (0 : Fin 1) h e) = (x : EReal)) (hk : ∀ d n e, ∃ x : ℝ, keyT (As d) n h e = (x : EReal))
    (hp : 0 < ∑ p : Fin 8 × Fin 8192, Real.exp (scoreT (As p.1) (rowOf h b) p.2).toReal * W p.1 p.2) :
    outV As (ix4 b 0 h e)
      = mean (fun p : Fin 8 × Fin 8192 => Real.exp (scoreT (As p.1) (rowOf h b) p.2).toReal * W p.1 p.2) (fun p => valT (As p.1) p.2 h e) := by
  unfold outV
  rw [o_at, ninf_eq]
  simp only [ga_at, gm0_at, gm1_at]
  refine combine (δ := Fin 8) (ι := Fin 8192) (fun d => (st (As d) 8).m (ix2 (rowOf h b) 0)) (fun d => (st (As d) 8).l (ix2 (rowOf h b) 0))
    (fun d => (st (As d) 8).a (ix2 (rowOf h b) e)) (fun d n => (scoreT (As d) (rowOf h b) n).toReal) W (fun d n => valT (As d) n h e) (fun d => ?_) hp
  have := device (As d) (W d) (rowOf h b) e (by rw [seq_rowOf]; exact hW d) (hW0 d) (by rw [seq_rowOf, head_rowOf]; exact hq d)
    (by rw [head_rowOf]; exact hk d)
  rwa [head_rowOf] at this

/-- A word as a signed number. -/
abbrev toI (x : BitVec 32) : ℤ := x.toInt

/-- The page a table entry names. -/
def pageOf (xb : Vec Ideal S8x512 .i32) (b : Fin 8) (j : Fin 512) : Fin 4096 :=
  ⟨min (toI (xb (ix2 b j))).toNat 4095, by omega⟩

/-- One for a table entry that the length counts, zero for another. -/
def used (xl : Vec Ideal S8 .i32) (b : Fin 8) (j : Fin 512) : ℝ := if (j.val : ℤ) < toI (xl (ix1 b)) then 1 else 0

/-- The use of a table entry is never negative. -/
theorem used_nonneg (xl : Vec Ideal S8 .i32) (b : Fin 8) (j : Fin 512) : 0 ≤ used xl b j := by
  unfold used; split_ifs <;> norm_num

/-- Page `p` of device `d`. -/
def page (d : Fin 8) (p : ℕ) (hp : p < 512) : Fin 4096 := ⟨512 * d.val + p, by omega⟩

/-- The device's first page, as a word. -/
theorem base_eq (d : Dev nD) : base d = BitVec.ofNat 32 (512 * d.val) := by revert d; decide +kernel

/-- A word in range names one page. -/
theorem word_page (z : ℤ) (N : ℕ) (h0 : 0 ≤ z) (h1 : z < 4096) (hN : N < 4096) : z = (N : ℤ) ↔ min z.toNat 4095 = N := by omega

/-- How often a token counts: the used entries that name its page. -/
theorem count_at (d : Dev nD) (xb : Vec Ideal S8x512 .i32) (xl : Vec Ideal S8 .i32) (b : Fin 8) (n : Fin 8192)
    (hb : ∀ j : Fin 512, (j.val : ℤ) < toI (xl (ix1 b))
      → 0 ≤ toI (xb (ix2 b j)) ∧ toI (xb (ix2 b j)) < 4096) :
    wV d xb xl (ix2 b n)
      = ((∑ j, (if pageOf xb b j = page d (n.val / 16) (by omega) then used xl b j else 0) : ℝ) : EReal) := by
  rw [cnt_at, coe_sum, base_eq, len_at]
  refine Finset.sum_congr rfl fun j _ => ?_
  have hd : d.val < 8 := d.isLt
  have hn := n.isLt
  have hj := j.isLt
  have hadd : IntOp.addi (BitVec.ofNat 32 (512 * d.val)) (BitVec.ofNat 32 (n.val / 16)) = BitVec.ofNat 32 (512 * d.val + n.val / 16) := by
    show _ + _ = _
    rw [BitVec.ofNat_add]
  have hslt : IntOp.cmpi CmpIPredicate.slt (BitVec.ofNat 32 j.val) (xl (ix1 b))
      = BitVec.ofBool (decide ((j.val : ℤ) < toI (xl (ix1 b)))) := by
    rw [WordCmp.cmpi_slt_eq, WordCmp.toInt_ofNat_of_lt (by omega)]
  rw [hadd, hslt, WordCmp.cmpi_eq_eq]
  unfold used
  by_cases hu : (j.val : ℤ) < toI (xl (ix1 b))
  · obtain ⟨h0, h1⟩ := hb j hu
    have hiff : (xb (ix2 b j) = BitVec.ofNat 32 (512 * d.val + n.val / 16)) ↔ pageOf xb b j = page d (n.val / 16) (by omega) := by
      unfold pageOf page
      rw [Fin.mk.injEq, ← BitVec.toInt_inj, WordCmp.toInt_ofNat_of_lt (by omega)]
      exact word_page _ _ h0 h1 (by omega)
    rw [decide_eq_true hu, if_pos hu]
    by_cases he : xb (ix2 b j) = BitVec.ofNat 32 (512 * d.val + n.val / 16)
    · rw [decide_eq_true he, if_pos (hiff.1 he)]; rfl
    · rw [decide_eq_false he, if_neg (fun h => he (hiff.2 h))]; rfl
  · rw [decide_eq_false hu, if_neg hu]
    have h2 : ∀ x : BitVec 1, IntOp.andi x (BitVec.ofBool false) = 0#1 := by decide
    rw [h2]
    simp [Scalar.select]

end Cert.Pa

end
-- ==== Proof.Pa.Join.lean ====
/-
# Paged attention: one mean, summed two ways

The devices sum over all their tokens, each counted as often as the sequence's table names its page; the reference sums over the
table's entries and their tokens. Both are the mean of the named pages' tokens, weighted by the exponentials of the scores.
-/
module

public import proofs.«01_k».proof.Proof.Pa.ValO

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Pages
variable {α : Type} [AddCommMonoid α]

/-- The tokens of all devices are the tokens of all pages. -/
theorem sum_pages (g : Fin 4096 → Fin 16 → α) :
    ∑ p : Fin 8 × Fin 8192, g (page p.1 (p.2.val / 16) (by omega)) ⟨p.2.val % 16, by omega⟩ = ∑ P, ∑ t, g P t := by
  rw [Fintype.sum_prod_type, Fin.sum_univ_tiles (N := 4096) 8 512 (by norm_num)]
  refine Finset.sum_congr rfl fun d _ => ?_
  rw [Fin.sum_univ_tiles (N := 8192) 512 16 (by norm_num)]
  refine Finset.sum_congr rfl fun p _ => Finset.sum_congr rfl fun t _ => ?_
  have ht := t.isLt
  congr 1
  · exact Fin.ext (show 512 * d.val + (p.val * 16 + t.val) / 16 = d.val * 512 + p.val by omega)
  · exact Fin.ext (show (p.val * 16 + t.val) % 16 = t.val by omega)

/-- The places of the table's tokens are its entries and their tokens. -/
theorem sum_places (g : Fin 512 → Fin 16 → α) :
    ∑ x : Fin 8192, g ⟨x.val / 16, by omega⟩ ⟨x.val % 16, by omega⟩ = ∑ p : Fin 512 × Fin 16, g p.1 p.2 := by
  rw [Fintype.sum_prod_type, Fin.sum_univ_tiles (N := 8192) 512 16 (by norm_num)]
  refine Finset.sum_congr rfl fun p _ => Finset.sum_congr rfl fun t _ => ?_
  have ht := t.isLt
  congr 1
  · exact Fin.ext (show (p.val * 16 + t.val) / 16 = p.val by omega)
  · exact Fin.ext (show (p.val * 16 + t.val) % 16 = t.val by omega)
end Pages

section Join
variable (S : Fin 4096 → Fin 16 → ℝ) (V : Fin 4096 → Fin 16 → EReal) (B : Fin 512 → Fin 4096) (u : Fin 512 → ℝ) (hu : ∀ j, 0 ≤ u j)

/-- The mean both programs compute. -/
def target : EReal := mean (fun p : Fin 512 × Fin 16 => u p.1 * Real.exp (S (B p.1) p.2)) (fun p => V (B p.1) p.2)

include hu

/-- Numerators: over the pages, and over the uses. -/
theorem uses_num : ∑ p : Fin 8 × Fin 8192, ((Real.exp (S (page p.1 (p.2.val / 16) (by omega)) ⟨p.2.val % 16, by omega⟩)
        * ∑ j, (if B j = page p.1 (p.2.val / 16) (by omega) then u j else 0) : ℝ) : EReal) * V (page p.1 (p.2.val / 16) (by omega)) ⟨p.2.val % 16, by omega⟩
      = ∑ p : Fin 512 × Fin 16, ((u p.1 * Real.exp (S (B p.1) p.2) : ℝ) : EReal) * V (B p.1) p.2 := by
  rw [Fintype.sum_prod_type (f := fun p : Fin 512 × Fin 16 => ((u p.1 * Real.exp (S (B p.1) p.2) : ℝ) : EReal) * V (B p.1) p.2),
    ← sum_uses B u hu (fun P t => Real.exp (S P t)) (fun P t => (Real.exp_pos _).le) V]
  exact sum_pages (fun P t => ((Real.exp (S P t) * ∑ j, (if B j = P then u j else 0) : ℝ) : EReal) * V P t)

/-- Denominators the same. -/
theorem uses_den : ∑ p : Fin 8 × Fin 8192, Real.exp (S (page p.1 (p.2.val / 16) (by omega)) ⟨p.2.val % 16, by omega⟩)
        * ∑ j, (if B j = page p.1 (p.2.val / 16) (by omega) then u j else 0)
      = ∑ p : Fin 512 × Fin 16, u p.1 * Real.exp (S (B p.1) p.2) := by
  have h := uses_num S (fun _ _ => 1) B u hu
  simp only [mul_one, ← coe_sum] at h
  exact EReal.coe_injective h

/-- The devices' mean is the target. -/
theorem uses_mean : mean (fun p : Fin 8 × Fin 8192 => Real.exp (S (page p.1 (p.2.val / 16) (by omega)) ⟨p.2.val % 16, by omega⟩)
        * ∑ j, (if B j = page p.1 (p.2.val / 16) (by omega) then u j else 0))
        (fun p => V (page p.1 (p.2.val / 16) (by omega)) ⟨p.2.val % 16, by omega⟩)
      = target S V B u :=
  mean_congr _ _ _ _ (uses_num S V B u hu) (uses_den S B u hu)

/-- Some entry is used, so the weights have a positive sum. -/
theorem uses_pos (j : Fin 512) (hj : 0 < u j) : 0 < ∑ p : Fin 512 × Fin 16, u p.1 * Real.exp (S (B p.1) p.2) :=
  Finset.sum_pos' (fun p _ => mul_nonneg (hu p.1) (Real.exp_pos _).le) ⟨(j, 0), Finset.mem_univ _, mul_pos hj (Real.exp_pos _)⟩

/-- The reference's mean is the target: the shift cancels, and a masked place weighs nothing. -/
theorem masked_mean (s : Fin 8192 → EReal) (g : Fin 8192 → Fin 4096)
    (hs : ∀ x : Fin 8192, u ⟨x.val / 16, by omega⟩ = 1 ∧ s x = ((S (B ⟨x.val / 16, by omega⟩) ⟨x.val % 16, by omega⟩ : ℝ) : EReal) ∧ g x = B ⟨x.val / 16, by omega⟩
      ∨ u ⟨x.val / 16, by omega⟩ = 0 ∧ s x = ⊥)
    (j : Fin 512) (hj : 0 < u j) :
    ∑ x : Fin 8192, V (g x) ⟨x.val % 16, by omega⟩ * Ideal.div (Ideal.exp (s x - Finset.univ.fold max ⊥ s)) (∑ y, Ideal.exp (s y - Finset.univ.fold max ⊥ s))
      = target S V B u := by
  have hj2 := j.isLt
  obtain ⟨M, hM⟩ := fold_max_real s
    (fun x => by
      rcases hs x with ⟨_, h, _⟩ | ⟨_, h⟩
      · rw [h]; exact EReal.coe_ne_top _
      · rw [h]; exact bot_ne_top)
    ⟨⟨j.val * 16, by omega⟩, by
      rcases hs ⟨j.val * 16, by omega⟩ with ⟨_, h, _⟩ | ⟨h, _⟩
      · rw [h]; exact EReal.coe_ne_bot _
      · have e : (⟨j.val * 16 / 16, by omega⟩ : Fin 512) = j := Fin.ext (by simp)
        rw [e] at h
        exact absurd h hj.ne'⟩
  rw [hM]
  have hw : ∀ x : Fin 8192, Ideal.exp (s x - (M : EReal))
      = ((Real.exp (-M) * (u ⟨x.val / 16, by omega⟩ * Real.exp (S (B ⟨x.val / 16, by omega⟩) ⟨x.val % 16, by omega⟩)) : ℝ) : EReal) := by
    intro x
    rcases hs x with ⟨h1, h, _⟩ | ⟨h1, h⟩
    · rw [h, h1, ← EReal.coe_sub, Ideal.exp_coe, one_mul, ← Real.exp_add, add_comm, sub_eq_add_neg]
    · rw [h, h1, EReal.bot_sub, Ideal.exp_bot]; simp
  simp only [hw, ← coe_sum]
  have hsum : ∑ x : Fin 8192, u ⟨x.val / 16, by omega⟩ * Real.exp (S (B ⟨x.val / 16, by omega⟩) ⟨x.val % 16, by omega⟩)
      = ∑ p : Fin 512 × Fin 16, u p.1 * Real.exp (S (B p.1) p.2) := sum_places (fun j t => u j * Real.exp (S (B j) t))
  have hpos := uses_pos S B u hu j hj
  rw [mean_normal (fun x : Fin 8192 => Real.exp (-M) * (u ⟨x.val / 16, by omega⟩ * Real.exp (S (B ⟨x.val / 16, by omega⟩) ⟨x.val % 16, by omega⟩)))
      (fun x => mul_nonneg (Real.exp_pos _).le (mul_nonneg (hu _) (Real.exp_pos _).le))
      (by rw [← Finset.mul_sum, hsum]; exact mul_pos (Real.exp_pos _) hpos),
    mean_scale (Real.exp (-M)) (Real.exp_pos _) _ (by rw [hsum]; exact hpos)]
  refine mean_congr _ _ _ _ ?_ hsum
  rw [← sum_places (fun j t => ((u j * Real.exp (S (B j) t) : ℝ) : EReal) * V (B j) t)]
  refine Finset.sum_congr rfl fun x _ => ?_
  rcases hs x with ⟨_, _, h⟩ | ⟨h, _⟩
  · rw [h]
  · rw [h]; simp

end Join

end Cert.Pa

end
-- ==== Proof.Pa.Place.lean ====
/-
# Paged attention: where a device's tokens lie in the whole arrays
-/
module

public import proofs.«01_k».proof.Proof.Pa.ValO
public import proofs.«01_k».proof.Proof.Pa.Run
public import Idealize.ShloMosaic.Lib.Layout

@[expose] public section

noncomputable section

namespace Cert.Pa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A chunk of the keys: 64 pages of the device's array. -/
theorem chunkK_at (c : Dev nD) (hf : Buf (Elt Ideal) (kH.view.loc (c : Thread nD τ))) (k : ℕ) (hk : k < 8) (p : Fin 64) (t : Fin 16) (h : Fin 8) (e : Fin 128) :
    chunk kH c hf k hk (ix4 p t h e) = hf (ix4 (⟨64 * k + p.val, by omega⟩ : Fin 512) t h e) := by
  show hf _ = hf _
  congr 1
  funext a
  apply Fin.ext
  match a with
  | ⟨0, _⟩ => show _ + 1 * p.val = 64 * k + p.val; simp
  | ⟨1, _⟩ => show 0 + 1 * t.val = t.val; simp
  | ⟨2, _⟩ => show 0 + 1 * h.val = h.val; simp
  | ⟨3, _⟩ => show 0 + 1 * e.val = e.val; simp

/-- A chunk of the values: 64 pages of the device's array. -/
theorem chunkV_at (c : Dev nD) (hf : Buf (Elt Ideal) (vH.view.loc (c : Thread nD τ))) (k : ℕ) (hk : k < 8) (p : Fin 64) (t : Fin 16) (h : Fin 8) (e : Fin 128) :
    chunk vH c hf k hk (ix4 p t h e) = hf (ix4 (⟨64 * k + p.val, by omega⟩ : Fin 512) t h e) := by
  show hf _ = hf _
  congr 1
  funext a
  apply Fin.ext
  match a with
  | ⟨0, _⟩ => show _ + 1 * p.val = 64 * k + p.val; simp
  | ⟨1, _⟩ => show 0 + 1 * t.val = t.val; simp
  | ⟨2, _⟩ => show 0 + 1 * h.val = h.val; simp
  | ⟨3, _⟩ => show 0 + 1 * e.val = e.val; simp

/-- A block of pages of the whole array. -/
theorem block_at {α : Type} (x : (⟨4, ![4096, 16, 8, 128]⟩ : Shape).Idx → α) (c : Fin 8) (p : Fin 512) (t : Fin 16) (h : Fin 8) (e : Fin 128) :
    Layout.block ⟨4, ![512, 16, 8, 128]⟩ ⟨4, ![4096, 16, 8, 128]⟩ 0 8 c x (by decide) (ix4 p t h e) = x (ix4 (page c p.val p.isLt) t h e) := by
  rw [Layout.block_apply]
  congr 1
  funext a
  apply Fin.ext
  rw [Layout.Tiles.idx_val]
  match a with
  | ⟨0, _⟩ => show c.val * 512 + p.val = 512 * c.val + p.val; omega
  | ⟨1, _⟩ => rfl
  | ⟨2, _⟩ => rfl
  | ⟨3, _⟩ => rfl

variable (m : (ℓ : Loc nD τ sig) → Buf (Elt Ideal) ℓ)

/-- A token's key, in the whole array. -/
theorem key_at (K : (⟨4, ![4096, 16, 8, 128]⟩ : Shape).Idx → EReal) (c : Dev nD)
    (hK : m ((c : Thread nD τ).loc main_arg1) = Layout.block ⟨4, ![512, 16, 8, 128]⟩ ⟨4, ![4096, 16, 8, 128]⟩ 0 8 c K)
    (n : Fin 8192) (h : Fin 8) (e : Fin 128) :
    keyT (As m c) n h e = K (ix4 (page c (n.val / 16) (by omega)) (⟨n.val % 16, by omega⟩ : Fin 16) h e) := by
  unfold keyT As argsOf
  dsimp only
  rw [chunkK_at]
  unfold pagesK
  rw [hK, block_at]
  congr 2
  exact Fin.ext (show 512 * c.val + (64 * (n.val / 1024) + n.val % 1024 / 16) = 512 * c.val + n.val / 16 by omega)

/-- A token's value. -/
theorem val_at (V : (⟨4, ![4096, 16, 8, 128]⟩ : Shape).Idx → EReal) (c : Dev nD)
    (hV : m ((c : Thread nD τ).loc main_arg2) = Layout.block ⟨4, ![512, 16, 8, 128]⟩ ⟨4, ![4096, 16, 8, 128]⟩ 0 8 c V)
    (n : Fin 8192) (h : Fin 8) (e : Fin 128) :
    valT (As m c) n h e = V (ix4 (page c (n.val / 16) (by omega)) (⟨n.val % 16, by omega⟩ : Fin 16) h e) := by
  unfold valT As argsOf
  dsimp only
  rw [chunkV_at]
  unfold pagesV
  rw [hV, block_at]
  congr 2
  exact Fin.ext (show 512 * c.val + (64 * (n.val / 1024) + n.val % 1024 / 16) = 512 * c.val + n.val / 16 by omega)

end Cert.Pa

end
-- ==== Proof.Pa.Pre.lean ====
/-
# Paged attention: what the precondition says
-/
module

public import proofs.«01_k».proof.Proof.Pa.ValO
public import proofs.«01_k».proof.Proof.Gen.Pre_proper_KernelIdeal
public import proofs.«01_k».proof.Defs

@[expose] public section

noncomputable section

namespace Cert.Pa

open Cert.Pre_proper_KernelIdeal Cert.Pre_proper_KernelIdeal.Facts Idealize.ShloMosaic Idealize.ShloMosaic.TcCoe

/-- The word of infinity is the greatest extended real. -/
theorem inf_eq : Ideal.ofBits FTy.f32 0x7F800000#32 = (⊤ : EReal) := by
  simp [Ideal.ofBits, Ideal.ieee]

/-- A number whose magnitude is below infinity is real. -/
theorem real_of_lt (x : EReal) (h : max x (-x) < ⊤) : ∃ r : ℝ, x = (r : EReal) := by
  induction x using EReal.rec with
  | bot => simp at h
  | coe r => exact ⟨r, rfl⟩
  | top => simp at h

/-- A proposition whose bit is one holds. -/
theorem of_ofBool {p : Prop} [Decidable p] (h : BitVec.ofBool (decide p) = 1#1) : p := by
  by_contra hp
  rw [decide_eq_false hp] at h
  exact absurd h (by decide)

variable (q : FVec Ideal S8x1x8x128 .f32) (k v : FVec Ideal S512x16x8x128 .f32) (xb : IVec S8x512 32) (xl : IVec S8 32)

/-- The queries are real. -/
theorem pre_q (h : (fn (F := Ideal) q k v xb xl).1 = fun _ => 1#1) (b : Fin 8) (hh : Fin 8) (e : Fin 128) :
    ∃ r : ℝ, q (ix4 b (0 : Fin 1) hh e) = (r : EReal) := by
  have h1 : (fn (F := Ideal) q k v xb xl).1 (ix4 b (0 : Fin 1) hh e) = 1#1 := congrFun h (ix4 b (0 : Fin 1) hh e)
  have h2 : (fn (F := Ideal) q k v xb xl).1 (ix4 b (0 : Fin 1) hh e)
      = BitVec.ofBool (decide (FloatOps.absf (F := Ideal) (φ := .f32) (q (ix4 b (0 : Fin 1) hh e)) < Ideal.ofBits FTy.f32 0x7F800000#32)) := by
    pointwise [fn, fn_part1]
  have h3 : max (q (ix4 b (0 : Fin 1) hh e) : EReal) (-(q (ix4 b (0 : Fin 1) hh e) : EReal)) < Ideal.ofBits FTy.f32 0x7F800000#32 := of_ofBool (h2.symm.trans h1)
  rw [inf_eq] at h3
  exact real_of_lt _ h3

/-- The keys are real. -/
theorem pre_k (h : (fn (F := Ideal) q k v xb xl).2.1 = fun _ => 1#1) (p : Fin 512) (t : Fin 16) (hh : Fin 8) (e : Fin 128) :
    ∃ r : ℝ, k (ix4 p t hh e) = (r : EReal) := by
  have h1 : (fn (F := Ideal) q k v xb xl).2.1 (ix4 p t hh e) = 1#1 := congrFun h (ix4 p t hh e)
  have h2 : (fn (F := Ideal) q k v xb xl).2.1 (ix4 p t hh e)
      = BitVec.ofBool (decide (FloatOps.absf (F := Ideal) (φ := .f32) (k (ix4 p t hh e)) < Ideal.ofBits FTy.f32 0x7F800000#32)) := by
    pointwise [fn, fn_part1]
  have h3 : max (k (ix4 p t hh e) : EReal) (-(k (ix4 p t hh e) : EReal)) < Ideal.ofBits FTy.f32 0x7F800000#32 := of_ofBool (h2.symm.trans h1)
  rw [inf_eq] at h3
  exact real_of_lt _ h3

/-- Every sequence has a page. -/
theorem pre_l (h : (fn (F := Ideal) q k v xb xl).2.2.1 = fun _ => 1#1) (b : Fin 8) : 1 ≤ toI (xl (ix1 b)) := by
  have h1 : (fn (F := Ideal) q k v xb xl).2.2.1 (ix1 b) = 1#1 := congrFun h (ix1 b)
  have h2 : (fn (F := Ideal) q k v xb xl).2.2.1 (ix1 b) = IntOp.cmpi .sge (xl (ix1 b)) 1#32 := by
    pointwise [fn, fn_part1]
  rw [h2, WordCmp.cmpi_sge_eq] at h1
  exact of_ofBool h1

/-- Of a bit or the negation of one, the former is one when the latter's bit is. -/
theorem bit_or (x y : BitVec 1) (h : IntOp.ori x (~~~y) = 1#1) (hy : y = 1#1) : x = 1#1 := by
  revert h hy; revert x y; decide
/-- Both bits of a conjunction are one. -/
theorem bit_and (x y : BitVec 1) (h : IntOp.andi x y = 1#1) : x = 1#1 ∧ y = 1#1 := by
  revert h; revert x y; decide

/-- A used table entry names a page. -/
theorem pre_b (h : (fn (F := Ideal) q k v xb xl).2.2.2 = fun _ => 1#1) (b : Fin 8) (j : Fin 512) (hj : (j.val : ℤ) < toI (xl (ix1 b))) :
    0 ≤ toI (xb (ix2 b j)) ∧ toI (xb (ix2 b j)) < 4096 := by
  have hl := j.isLt
  have h1 : (fn (F := Ideal) q k v xb xl).2.2.2 (ix2 b j) = 1#1 := congrFun h (ix2 b j)
  have h2 : (fn (F := Ideal) q k v xb xl).2.2.2 (ix2 b j)
      = IntOp.ori (IntOp.andi (IntOp.cmpi .sge (xb (ix2 b j)) 0#32) (IntOp.cmpi .slt (xb (ix2 b j)) 4096#32))
          (~~~ IntOp.cmpi .slt (BitVec.ofNat 32 j.val) (xl (ix1 b))) := by
    pointwise [fn, fn_part1]
  have h3 : IntOp.cmpi CmpIPredicate.slt (BitVec.ofNat 32 j.val) (xl (ix1 b)) = 1#1 := by
    rw [WordCmp.cmpi_slt_eq, WordCmp.toInt_ofNat_of_lt (by omega), decide_eq_true hj]; rfl
  obtain ⟨h4, h5⟩ := bit_and _ _ (bit_or _ _ (h2.symm.trans h1) h3)
  rw [WordCmp.cmpi_sge_eq] at h4
  rw [WordCmp.cmpi_slt_eq] at h5
  exact ⟨of_ofBool h4, of_ofBool h5⟩

end Cert.Pa

end
-- ==== Proof.Pa.ValR.lean ====
/-
# Paged attention: the reference, read at an index
-/
module

public import proofs.«01_k».proof.Proof.Gen.ReferenceIdeal.Run
public import proofs.«01_k».proof.Proof.Pa.Soft
public import Idealize.ShloMosaic.Lib.Pointwise

@[expose] public section

noncomputable section

namespace Cert.Pa.Ref

open Cert.ReferenceIdeal Cert.ReferenceIdeal.Gen Idealize.ShloMosaic Idealize.ShloMosaic.TcCoe Idealize.SL.Sem

/-- The gathers of the pages. -/
abbrev G : GatherDims S4096x16x8x128 S8x512x1 S8x512x16x8x128 := gather_S4096x16x8x128_S8x512x1_S8x512x16x8x128_234_0_n_n_0_2_1168128

/-- The gather starts at the page its table entry names. -/
theorem start_zero (idx : IVec S8x512x1 32) (b : Fin 8) (j : Fin 512) (t : Fin 16) (h : Fin 8) (e : Fin 128) :
    GatherDims.start G (ix5 b j t h e) idx 0 = min (BitVec.toInt (idx (ix3 b j (0 : Fin 1)))).toNat 4095 := by
  unfold GatherDims.start
  rw [dif_pos (show (0 : Fin 4) ∈ GatherDims.startIndexMap G from List.mem_singleton.mpr rfl)]
  have hsi : GatherDims.siIdx G (ix5 b j t h e) ⟨List.idxOf (0 : Fin 4) (GatherDims.startIndexMap G),
      List.idxOf_lt_length_iff.2 (List.mem_singleton.mpr rfl)⟩ = ix3 b j (0 : Fin 1) := by
    funext c
    apply Fin.ext
    match c with
    | ⟨0, _⟩ => rfl
    | ⟨1, _⟩ => rfl
    | ⟨2, _⟩ => rfl
  rw [hsi]
  rfl

/-- Elsewhere the gather starts at zero. -/
theorem start_ne (idx : IVec S8x512x1 32) (y : S8x512x16x8x128.Idx) (a : Fin 4) (ha : a ≠ 0) : GatherDims.start G y idx a = 0 :=
  dif_neg (show ¬ a ∈ ([0] : List (Fin 4)) from fun h => ha (List.mem_singleton.1 h))

/-- The gather at an index: the page its table entry names, read signed and clamped. -/
theorem gather_at (x : FVec Ideal S4096x16x8x128 .f32) (idx : IVec S8x512x1 32) (b : Fin 8) (j : Fin 512) (t : Fin 16) (h : Fin 8) (e : Fin 128) :
    Host.gather gather_S4096x16x8x128_S8x512x1_S8x512x16x8x128_234_0_n_n_0_2_1168128 x idx (ix5 b j t h e)
      = x (ix4 (⟨min (BitVec.toInt (idx (ix3 b j (0 : Fin 1)))).toNat 4095, by omega⟩ : Fin 4096) t h e) := by
  unfold Host.gather
  congr 1
  funext a
  apply Fin.ext
  show GatherDims.start G (ix5 b j t h e) idx a + GatherDims.batchCoord G (ix5 b j t h e) a + GatherDims.offCoord G (ix5 b j t h e) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    exact start_zero idx b j t h e
  | ⟨1, _⟩ => exact (congrArg (· + _) (start_ne idx (ix5 b j t h e) 1 (by decide))).trans ((Nat.zero_add _).trans rfl)
  | ⟨2, _⟩ => exact (congrArg (· + _) (start_ne idx (ix5 b j t h e) 2 (by decide))).trans ((Nat.zero_add _).trans rfl)
  | ⟨3, _⟩ => exact (congrArg (· + _) (start_ne idx (ix5 b j t h e) 3 (by decide))).trans ((Nat.zero_add _).trans rfl)

/-- The table as the gathers read it: a negative entry counts from the end. -/
def idxV (xb : Vec Ideal S8x512 .i32) : IVec S8x512x1 32 :=
  broadcastInDim S8x512x1 ![0, 1] bcast_S8x512_S8x512x1_0_1
    (select
      (cmpi CmpIPredicate.slt xb (broadcastInDim S8x512 ![] bcast_S_S8x512 (constantI S_ 32 0#32)))
      (addi xb (broadcastInDim S8x512 ![] bcast_S_S8x512 (constantI S_ 32 4096#32)))
      xb)

/-- A table entry as the gathers read it. -/
theorem idx_at (xb : Vec Ideal S8x512 .i32) (b : Fin 8) (j : Fin 512) :
    idxV xb (ix3 b j (0 : Fin 1))
      = Scalar.select (IntOp.cmpi CmpIPredicate.slt (xb (ix2 b j)) 0#32) (IntOp.addi (xb (ix2 b j)) 4096#32) (xb (ix2 b j)) := by
  pointwise [idxV]

/-- The page of a table entry, as the gathers read it. -/
def pg (xb : Vec Ideal S8x512 .i32) (b : Fin 8) (j : Fin 512) : Fin 4096 :=
  ⟨min (BitVec.toInt (idxV xb (ix3 b j (0 : Fin 1)))).toNat 4095, by omega⟩

/-- A token's masked score. -/
def sc (q : Vec Ideal S8x1x8x128 .f32) (k : Vec Ideal S4096x16x8x128 .f32) (xb : Vec Ideal S8x512 .i32) (xl : Vec Ideal S8 .i32)
    (b h : Fin 8) (x : Fin 8192) : EReal :=
  Scalar.select (IntOp.cmpi CmpIPredicate.slt (BitVec.ofNat 32 (x.val / 16)) (xl (ix1 b)))
    ((∑ e : Fin 128, q (ix4 b (0 : Fin 1) h e) * k (ix4 (pg xb b ⟨x.val / 16, by omega⟩) ⟨x.val % 16, by omega⟩ h e))
      * Ideal.ofBits FTy.f32 0x3DB504F3#32)
    (Ideal.ofBits FTy.f32 0xFF800000#32)

/-- The values weighted by the normal weights of their masked scores. -/
def refOf (q : Vec Ideal S8x1x8x128 .f32) (k v : Vec Ideal S4096x16x8x128 .f32) (xb : Vec Ideal S8x512 .i32) (xl : Vec Ideal S8 .i32)
    (b h : Fin 8) (e : Fin 128) : EReal :=
  ∑ x : Fin 8192, v (ix4 (pg xb b ⟨x.val / 16, by omega⟩) (⟨x.val % 16, by omega⟩ : Fin 16) h e)
    * Ideal.div (Ideal.exp (sc q k xb xl b h x - Finset.univ.fold max (Ideal.ofBits FTy.f32 0xFF800000#32) (fun z => sc q k xb xl b h z)))
        (∑ y : Fin 8192, Ideal.exp (sc q k xb xl b h y - Finset.univ.fold max (Ideal.ofBits FTy.f32 0xFF800000#32) (fun z => sc q k xb xl b h z)))

/-- The reference's mask. -/
theorem mask_at : id (constant (F := Ideal) S_ FTy.f32 0xFF800000#32) ix0 = Ideal.ofBits FTy.f32 0xFF800000#32 := rfl

/-- THE REFERENCE AT AN INDEX. -/
theorem res_at (m : (ℓ : Loc nD τ sig) → Buf (Elt Ideal) ℓ) (c : Dev nD) (b h : Fin 8) (e : Fin 128) :
    Value.res_main_v39 m c (ix4 b (0 : Fin 1) h e)
      = refOf (m (c.tc.loc main_arg0)) (m (c.tc.loc main_arg1)) (m (c.tc.loc main_arg2)) (m (c.tc.loc main_arg3)) (m (c.tc.loc main_arg4)) b h e := by
  pointwise [Value.res_main_v39]
  simp only [gather_at, mask_at]
  unfold refOf sc pg idxV
  rfl

end Cert.Pa.Ref

end
-- ==== Proof.Pa.Alg.lean ====
/-
# Paged attention: the kernel's result is the reference's

At every index both programs hold the mean of the values of the pages that the sequence's table names, weighted by the
exponentials of the scores.
-/
module

public import proofs.«01_k».proof.Proof.Pa.Join
public import proofs.«01_k».proof.Proof.Pa.Place
public import proofs.«01_k».proof.Proof.Pa.Pre
public import proofs.«01_k».proof.Proof.Pa.ValR
public import proofs.«01_k».proof.Proof.Pa.Frames

@[expose] public section

noncomputable section

namespace Cert.Pa

open Idealize.ShloMosaic Idealize.ShloMosaic.TcCoe Idealize.SL.Sem

section Math
variable (q : Vec Ideal Cert.ReferenceIdeal.S8x1x8x128 .f32) (k v : Vec Ideal Cert.ReferenceIdeal.S4096x16x8x128 .f32)
  (xb : Vec Ideal Cert.ReferenceIdeal.S8x512 .i32) (xl : Vec Ideal Cert.ReferenceIdeal.S8 .i32) (b h : Fin 8) (e : Fin 128)

/-- The real score of a page's token. -/
def scoreR (P : Fin 4096) (t : Fin 16) : ℝ :=
  (score (fun e => q (ix4 b (0 : Fin 1) h e)) (fun e => k (ix4 P t h e))).toReal

/-- What both programs hold at an index. -/
def answer : EReal := target (scoreR q k b h) (fun P t => v (ix4 P t h e)) (pageOf xb b) (used xl b)

variable (hq : ∀ e, ∃ x : ℝ, q (ix4 b (0 : Fin 1) h e) = (x : EReal)) (hk : ∀ P t e, ∃ x : ℝ, k (ix4 P t h e) = (x : EReal))
  (hl : 1 ≤ toI (xl (ix1 b)))
  (hb : ∀ j : Fin 512, (j.val : ℤ) < toI (xl (ix1 b)) → 0 ≤ toI (xb (ix2 b j)) ∧ toI (xb (ix2 b j)) < 4096)

include hl in
/-- With a length of at least one, the first table entry is used. -/
theorem used_first : 0 < used xl b (0 : Fin 512) := by
  unfold used
  rw [if_pos (by show ((0 : ℕ) : ℤ) < toI (xl (ix1 b)); omega)]
  norm_num

include hb in
/-- A used entry is read as it is. -/
theorem page_used (j : Fin 512) (hj : (j.val : ℤ) < toI (xl (ix1 b))) : Ref.pg xb b j = pageOf xb b j := by
  obtain ⟨h0, h1⟩ := hb j hj
  unfold Ref.pg pageOf
  apply Fin.ext
  show min (BitVec.toInt (Ref.idxV xb (ix3 b j (0 : Fin 1)))).toNat 4095 = min (toI (xb (ix2 b j))).toNat 4095
  rw [Ref.idx_at, WordCmp.cmpi_slt_eq, decide_eq_false (show ¬ BitVec.toInt (xb (ix2 b j)) < BitVec.toInt 0#32 from not_lt.2 h0)]
  rfl

include hq hk hl hb in
/-- The reference's side. -/
theorem ref_answer : Ref.refOf q k v xb xl b h e = answer q k v xb xl b h e := by
  unfold Ref.refOf answer
  simp only [ninf_eq]
  refine masked_mean (scoreR q k b h) (fun P t => v (ix4 P t h e)) (pageOf xb b) (used xl b) (used_nonneg xl b)
    (fun x => Ref.sc q k xb xl b h x) (fun x => Ref.pg xb b ⟨x.val / 16, by omega⟩) (fun x => ?_) 0 (used_first xl b hl)
  have hx := x.isLt
  have hc : IntOp.cmpi CmpIPredicate.slt (BitVec.ofNat 32 (x.val / 16)) (xl (ix1 b))
      = BitVec.ofBool (decide (((x.val / 16 : ℕ) : ℤ) < toI (xl (ix1 b)))) := by
    rw [WordCmp.cmpi_slt_eq, WordCmp.toInt_ofNat_of_lt (by omega)]
  by_cases hu : ((x.val / 16 : ℕ) : ℤ) < toI (xl (ix1 b))
  · left
    have hp := page_used xb xl b hb ⟨x.val / 16, by omega⟩ hu
    refine ⟨if_pos hu, ?_, hp⟩
    show Ref.sc q k xb xl b h x = _
    unfold Ref.sc
    rw [hc, decide_eq_true hu, hp]
    show score (fun e => q (ix4 b (0 : Fin 1) h e)) (fun e => k (ix4 (pageOf xb b ⟨x.val / 16, by omega⟩) (⟨x.val % 16, by omega⟩ : Fin 16) h e)) = _
    exact score_real _ _ hq (fun e => hk _ _ e)
  · right
    refine ⟨if_neg hu, ?_⟩
    show Ref.sc q k xb xl b h x = _
    unfold Ref.sc
    rw [hc, decide_eq_false hu, ninf_eq]
    rfl
end Math

section Kernel
open Cert.KernelIdeal
variable (m : (ℓ : Loc nD τ sig) → Buf (Elt Ideal) ℓ)
  (q : Vec Ideal Cert.ReferenceIdeal.S8x1x8x128 .f32) (k v : Vec Ideal Cert.ReferenceIdeal.S4096x16x8x128 .f32)
  (xb : Vec Ideal Cert.ReferenceIdeal.S8x512 .i32) (xl : Vec Ideal Cert.ReferenceIdeal.S8 .i32) (b h : Fin 8) (e : Fin 128)

/-- The kernel's side. -/
theorem out_answer
    (hm : ∀ c : Dev nD, m ((c : Thread nD τ).loc main_arg0) = q
      ∧ m ((c : Thread nD τ).loc main_arg1) = Layout.block ⟨4, ![512, 16, 8, 128]⟩ ⟨4, ![4096, 16, 8, 128]⟩ 0 8 c k
      ∧ m ((c : Thread nD τ).loc main_arg2) = Layout.block ⟨4, ![512, 16, 8, 128]⟩ ⟨4, ![4096, 16, 8, 128]⟩ 0 8 c v
      ∧ m ((c : Thread nD τ).loc main_arg3) = xb
      ∧ m ((c : Thread nD τ).loc main_arg4) = xl)
    (hq : ∀ e, ∃ x : ℝ, q (ix4 b (0 : Fin 1) h e) = (x : EReal)) (hk : ∀ P t e, ∃ x : ℝ, k (ix4 P t h e) = (x : EReal))
    (hl : 1 ≤ toI (xl (ix1 b)))
    (hb : ∀ j : Fin 512, (j.val : ℤ) < toI (xl (ix1 b)) → 0 ≤ toI (xb (ix2 b j)) ∧ toI (xb (ix2 b j)) < 4096) :
    outV (As m) (ix4 b 0 h e) = answer q k v xb xl b h e := by
  have hxq : ∀ c : Dev nD, (As m c).xq = q := fun c => (stQ_eq m c).trans (hm c).1
  have hxb : ∀ c : Dev nD, (As m c).xb = xb := fun c => (stB_eq m c).trans (hm c).2.2.2.1
  have hxl : ∀ c : Dev nD, (As m c).xl = xl := fun c => (stL_eq m c).trans (hm c).2.2.2.2
  have hd : ∀ c : Dev nD, (As m c).d = c := fun c => rfl
  have hS : ∀ (c : Dev nD) (n : Fin 8192), (scoreT (As m c) (rowOf h b) n).toReal
      = scoreR q k b h (page c (n.val / 16) (by omega)) ⟨n.val % 16, by omega⟩ := by
    intro c n
    unfold scoreT scoreR
    rw [seq_rowOf, head_rowOf, hxq]
    simp only [key_at m k c (hm c).2.1]
  have hden := uses_den (scoreR q k b h) (pageOf xb b) (used xl b) (used_nonneg xl b)
  have hpos := uses_pos (scoreR q k b h) (pageOf xb b) (used xl b) (used_nonneg xl b) 0 (used_first xl b hl)
  rw [out_mean (As m) (fun d n => ∑ j, if pageOf xb b j = page d (n.val / 16) (by omega) then used xl b j else 0) b h e
    (fun d n => by rw [hxb, hxl, hd]; exact count_at d xb xl b n hb)
    (fun d n => Finset.sum_nonneg fun j _ => by split_ifs <;> [exact used_nonneg xl b j; exact le_rfl])
    (fun d e => by rw [hxq]; exact hq e)
    (fun d n e => by rw [key_at m k d (hm d).2.1]; exact hk _ _ e)
    (by simp only [hS]; rw [hden]; exact hpos)]
  simp only [hS, fun (c : Dev nD) => val_at m v c (hm c).2.2.1]
  exact uses_mean (scoreR q k b h) (fun P t => v (ix4 P t h e)) (pageOf xb b) (used xl b) (used_nonneg xl b)

end Kernel

/-- A place in the result. -/
theorem place_eq (i : Cert.KernelIdeal.S8x1x8x128.Idx) : ∃ (b h : Fin 8) (e : Fin 128), i = ix4 b (0 : Fin 1) h e :=
  ⟨i 0, i 2, i 3, (eq_ix4 (n0 := 8) (n1 := 1) (n2 := 8) (n3 := 128) i).trans
    (congrArg (fun z : Fin 1 => ix4 (i 0 : Fin 8) z (i 2 : Fin 8) (i 3 : Fin 128)) (Subsingleton.elim (α := Fin 1) _ _))⟩

/-- A key of the whole array is a key of one device's. -/
theorem key_of (k : (⟨4, ![4096, 16, 8, 128]⟩ : Shape).Idx → EReal)
    (h : ∀ (c : Fin 8) (p : Fin 512) (t : Fin 16) (hh : Fin 8) (e : Fin 128),
      ∃ r : ℝ, Layout.block ⟨4, ![512, 16, 8, 128]⟩ ⟨4, ![4096, 16, 8, 128]⟩ 0 8 c k (by decide) (ix4 p t hh e) = (r : EReal))
    (P : Fin 4096) (t : Fin 16) (hh : Fin 8) (e : Fin 128) : ∃ r : ℝ, k (ix4 P t hh e) = (r : EReal) := by
  obtain ⟨r, hr⟩ := h ⟨P.val / 512, by omega⟩ ⟨P.val % 512, by omega⟩ t hh e
  rw [block_at, show page ⟨P.val / 512, by omega⟩ (P.val % 512) (by omega) = P from Fin.ext (show 512 * (P.val / 512) + P.val % 512 = P.val by omega)] at hr
  exact ⟨r, hr⟩

/-- THE VALUE CLAIM: every device of the kernel ends with the reference's result. -/
theorem value : Cert.algebraic_KernelIdeal_ReferenceIdeal_pre_proper_KernelIdeal := by
  intro m g m' g' hpre hm
  refine ⟨Cert.ReferenceIdeal.Value.res_main_v39 m' 0, ?_, ?_⟩
  · refine (θ_run (Cert.KernelIdeal.defs (F := Ideal)) _ _).mono (fun r hr c => ⟨?_, final_args (F := Ideal) m g c _ hr.1⟩) (run_main (F := Ideal) m g)
    refine (final_out (F := Ideal) m g c _ hr.1).trans ?_
    obtain ⟨p1, p2, p3, p4⟩ := hpre 0
    obtain ⟨e0, e1, e2, e3, e4⟩ := hm 0
    rw [e0] at p1
    rw [e4] at p3
    rw [e3, e4] at p4
    funext i
    obtain ⟨b, h, e, rfl⟩ := place_eq i
    have hq : ∀ e, ∃ x : ℝ, m' (((0 : Dev Cert.ReferenceIdeal.nD).tc : Thread Cert.ReferenceIdeal.nD Cert.ReferenceIdeal.τ).loc Cert.ReferenceIdeal.main_arg0) (ix4 b (0 : Fin 1) h e) = (x : EReal) :=
      fun e => pre_q _ _ _ _ _ p1 b h e
    have hl := pre_l _ _ _ _ _ p3 b
    have hb := fun j hj => pre_b _ _ _ _ _ p4 b j hj
    have hk := fun P t e => key_of (m' (((0 : Dev Cert.ReferenceIdeal.nD).tc : Thread Cert.ReferenceIdeal.nD Cert.ReferenceIdeal.τ).loc Cert.ReferenceIdeal.main_arg1))
      (fun c p t hh e => by
        have := pre_k _ _ _ _ _ (hpre c).2.1 p t hh e
        rwa [(hm c).2.1] at this) P t h e
    exact (out_answer m _ _ _ _ _ b h e hm hq hk hl hb).trans
      ((ref_answer _ _ _ _ _ b h e hq hk hl hb).symm.trans (Ref.res_at m' 0 b h e).symm)
  · exact (θ_run (Cert.ReferenceIdeal.defs (F := Ideal)) _ _).mono (fun _ h => h 0) (Cert.ReferenceIdeal.Value.run (F := Ideal) m' g')

end Cert.Pa

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_proper_KernelIdeal
public import proofs.«01_k».proof.Proof.Gen.Pre_proper_ReferenceIdeal
public import proofs.«01_k».proof.Proof.Pa.Frames
public import proofs.«01_k».proof.Proof.Pa.Alg

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Pre_proper_KernelIdeal.Gen.facts, Cert.Pre_proper_ReferenceIdeal.Gen.facts,
  Cert.Pa.frame_kernel, Cert.Pa.frame_ideal, fun m g _ => Cert.Pa.frame_ideal m g trivial, Cert.Pa.frame_reference,
  fun m g _ => Cert.Pa.frame_reference m g trivial, trivial, Cert.Pa.value⟩

end Cert.Proof

end
